-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_routed [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_routed [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_routed m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_routed [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_routed m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v270) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v11_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_routed (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_routed (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
-- ==== Pre_finite.lean ====
abbrev S66x1024x512 : Shape := ⟨3, ![66, 1024, 512]⟩
abbrev S66x512x1024 : Shape := ⟨3, ![66, 512, 1024]⟩
abbrev S66x512x512 : Shape := ⟨3, ![66, 512, 512]⟩
abbrev S_ : Shape := ⟨0, ![]⟩

class Facts : Prop where
  bcast_S_S66x1024x512 : S_.BroadcastsInDim S66x1024x512 (![] : Fin 0 → Fin S66x1024x512.rank)
  bcast_S_S66x512x1024 : S_.BroadcastsInDim S66x512x1024 (![] : Fin 0 → Fin S66x512x1024.rank)
  transposes_S66x512x1024_S66x1024x512_0_2_1 : S66x512x1024.Transposes [0, 2, 1] S66x1024x512

variable [Facts]

def fn {F : FTy → Type} [FloatOps F] (main_arg0 : FVec F S66x1024x512 .bf16) (main_arg1 : FVec F S66x512x1024 .bf16) (main_arg2 : FVec F S66x512x512 .bf16) : IVec S66x1024x512 1 :=
  let main_v0 : FVec F S66x1024x512 .bf16 := Host.absf main_arg0
  let main_cst : FVec F S_ .bf16 := constant S_ .bf16 0x7F80#16
  let main_v1 : FVec F S66x1024x512 .bf16 := broadcastInDim S66x1024x512 ![] bcast_S_S66x1024x512 main_cst
  let main_v2 : IVec S66x1024x512 1 := cmpf .olt main_v0 main_v1
  let main_v3 : FVec F S66x512x1024 .bf16 := Host.absf main_arg1
  let main_cst_0 : FVec F S_ .bf16 := constant S_ .bf16 0x7F80#16
  let main_v4 : FVec F S66x512x1024 .bf16 := broadcastInDim S66x512x1024 ![] bcast_S_S66x512x1024 main_cst_0
  let main_v5 : IVec S66x512x1024 1 := cmpf .olt main_v3 main_v4
  let main_v6 : IVec S66x1024x512 1 := (transpose S66x1024x512 [0, 2, 1] · transposes_S66x512x1024_S66x1024x512_0_2_1) main_v5
  let main_v7 : IVec S66x1024x512 1 := andi main_v2 main_v6
  main_v7
-- ==== Pre_routed.lean ====
abbrev S33792x1024 : Shape := ⟨2, ![33792, 1024]⟩
abbrev S16x33792 : Shape := ⟨2, ![16, 33792]⟩
abbrev S1x33792 : Shape := ⟨2, ![1, 33792]⟩
abbrev S16x1024x256 : Shape := ⟨3, ![16, 1024, 256]⟩
abbrev S16x256x1024 : Shape := ⟨3, ![16, 256, 1024]⟩
abbrev S1024 : Shape := ⟨1, ![1024]⟩
abbrev S_ : Shape := ⟨0, ![]⟩

class Facts : Prop where
  bcast_S_S16x33792 : S_.BroadcastsInDim S16x33792 (![] : Fin 0 → Fin S16x33792.rank)
  bcast_S_S1x33792 : S_.BroadcastsInDim S1x33792 (![] : Fin 0 → Fin S1x33792.rank)
  bcast_S1x33792_S16x33792_0_1 : S1x33792.BroadcastsInDim S16x33792 (![0, 1] : Fin 2 → Fin S16x33792.rank)

variable [Facts]

def fn_where {F : FTy → Type} [FloatOps F] (arg0 : IVec S16x33792 1) (arg1 : IVec S16x33792 32) (arg2 : IVec S16x33792 32) : IVec S16x33792 32 :=
  let v0 : IVec S16x33792 32 := select arg0 arg1 arg2
  v0

def fn_floor_divide {F : FTy → Type} [FloatOps F] (arg0 : IVec S16x33792 32) (arg1 : IVec S_ 32) : IVec S16x33792 32 :=
  let v0 : IVec S_ 32 := id arg1
  let v1 : IVec S16x33792 32 := broadcastInDim S16x33792 ![] bcast_S_S16x33792 v0
  let v2 : IVec S16x33792 32 := Host.divsi arg0 v1
  let v3 : IVec S16x33792 32 := signi arg0
  let v4 : IVec S_ 32 := signi v0
  let v5 : IVec S16x33792 32 := broadcastInDim S16x33792 ![] bcast_S_S16x33792 v4
  let v6 : IVec S16x33792 1 := cmpi .ne v3 v5
  let v7 : IVec S16x33792 32 := broadcastInDim S16x33792 ![] bcast_S_S16x33792 v0
  let v8 : IVec S16x33792 32 := Host.remsi arg0 v7
  let c : IVec S_ 32 := constantI S_ 32 0#32
  let v9 : IVec S16x33792 32 := broadcastInDim S16x33792 ![] bcast_S_S16x33792 c
  let v10 : IVec S16x33792 1 := cmpi .ne v8 v9
  let v11 : IVec S16x33792 1 := andi v6 v10
  let c_0 : IVec S_ 32 := constantI S_ 32 1#32
  let v12 : IVec S16x33792 32 := broadcastInDim S16x33792 ![] bcast_S_S16x33792 c_0
  let v13 : IVec S16x33792 32 := subi v2 v12
  let v14 : IVec S16x33792 32 := fn_where (F := F) v11 v13 v2
  v14

def fn_part1 {F : FTy → Type} [FloatOps F] (main_v13 : IVec S16x33792 1) (main_v15 : IVec S16x33792 1) (main_v17 : IVec S16x33792 1) : IVec S16x33792 1 :=
  let main_v18 : IVec S16x33792 1 := ori main_v15 main_v17
  let main_v19 : IVec S16x33792 1 := andi main_v13 main_v18
  main_v19

def fn {F : FTy → Type} [FloatOps F] (main_arg0 : FVec F S33792x1024 .f32) (main_arg1 : FVec F S16x33792 .f32) (main_arg2 : IVec S1x33792 32) (main_arg3 : FVec F S16x1024x256 .f32) (main_arg4 : FVec F S16x1024x256 .f32) (main_arg5 : FVec F S16x256x1024 .f32) (main_arg6 : FVec F S1024 .f32) (main_arg7 : FVec F S1024 .f32) : IVec S16x33792 1 :=
  let main_v0 : IVec S16x33792 32 := iotaInDim S16x33792 32 0
  let main_c : IVec S_ 32 := constantI S_ 32 4#32
  let main_v1 : IVec S16x33792 32 := fn_floor_divide (F := F) main_v0 main_c
  let main_c_0 : IVec S_ 32 := constantI S_ 32 0#32
  let main_v2 : IVec S1x33792 32 := broadcastInDim S1x33792 ![] bcast_S_S1x33792 main_c_0
  let main_v3 : IVec S1x33792 1 := cmpi .sge main_arg2 main_v2
  let main_c_1 : IVec S_ 32 := constantI S_ 32 4#32
  let main_v4 : IVec S1x33792 32 := broadcastInDim S1x33792 ![] bcast_S_S1x33792 main_c_1
  let main_v5 : IVec S1x33792 1 := cmpi .slt main_arg2 main_v4
  let main_v6 : IVec S1x33792 1 := andi main_v3 main_v5
  let main_cst : FVec F S_ .f32 := constant S_ .f32 0x00000000#32
  let main_v7 : FVec F S16x33792 .f32 := broadcastInDim S16x33792 ![] bcast_S_S16x33792 main_cst
  let main_v8 : IVec S16x33792 1 := cmpf .oge main_arg1 main_v7
  let main_v9 : IVec S16x33792 1 := broadcastInDim S16x33792 ![0, 1] bcast_S1x33792_S16x33792_0_1 main_v6
  let main_v10 : IVec S16x33792 1 := andi main_v9 main_v8
  let main_cst_2 : FVec F S_ .f32 := constant S_ .f32 0x7F800000#32
  let main_v11 : FVec F S16x33792 .f32 := broadcastInDim S16x33792 ![] bcast_S_S16x33792 main_cst_2
  let main_v12 : IVec S16x33792 1 := cmpf .olt main_arg1 main_v11
  let main_v13 : IVec S16x33792 1 := andi main_v10 main_v12
  let main_v14 : IVec S16x33792 32 := broadcastInDim S16x33792 ![0, 1] bcast_S1x33792_S16x33792_0_1 main_arg2
  let main_v15 : IVec S16x33792 1 := cmpi .eq main_v1 main_v14
  let main_cst_3 : FVec F S_ .f32 := constant S_ .f32 0x00000000#32
  let main_v16 : FVec F S16x33792 .f32 := broadcastInDim S16x33792 ![] bcast_S_S16x33792 main_cst_3
  let main_v17 : IVec S16x33792 1 := cmpf .oeq main_arg1 main_v16
  fn_part1 (F := F) main_v13 main_v15 main_v17
-- ==== Kernel.lean ====
abbrev S66x1024x512 : Shape := ⟨3, ![66, 1024, 512]⟩
abbrev S66x512x1024 : Shape := ⟨3, ![66, 512, 1024]⟩
abbrev S66x512x512 : Shape := ⟨3, ![66, 512, 512]⟩
abbrev S32768x512 : Shape := ⟨2, ![32768, 512]⟩
abbrev S1024x512 : Shape := ⟨2, ![1024, 512]⟩
abbrev S8x512x512 : Shape := ⟨3, ![8, 512, 512]⟩
abbrev S8x256x512 : Shape := ⟨3, ![8, 256, 512]⟩
abbrev S1x512x128 : Shape := ⟨3, ![1, 512, 128]⟩
abbrev S1x128x512 : Shape := ⟨3, ![1, 128, 512]⟩
abbrev S1x256x128 : Shape := ⟨3, ![1, 256, 128]⟩
abbrev S4096x256 : Shape := ⟨2, ![4096, 256]⟩
abbrev S128x256 : Shape := ⟨2, ![128, 256]⟩
abbrev S2x4x512x512 : Shape := ⟨4, ![2, 4, 512, 512]⟩
abbrev S4x128x512 : Shape := ⟨3, ![4, 128, 512]⟩
abbrev S128x512 : Shape := ⟨2, ![128, 512]⟩
abbrev S256x128 : Shape := ⟨2, ![256, 128]⟩
abbrev S512x128 : Shape := ⟨2, ![512, 128]⟩
abbrev S128x128 : Shape := ⟨2, ![128, 128]⟩
abbrev S128 : Shape := ⟨1, ![128]⟩
abbrev S1x128 : Shape := ⟨2, ![1, 128]⟩
abbrev S64x128 : Shape := ⟨2, ![64, 128]⟩
abbrev S1x512x512 : Shape := ⟨3, ![1, 512, 512]⟩
abbrev S512x512 : Shape := ⟨2, ![512, 512]⟩
abbrev S1x512 : Shape := ⟨2, ![1, 512]⟩
abbrev S64x512 : Shape := ⟨2, ![64, 512]⟩
abbrev S1x1x512x512 : Shape := ⟨4, ![1, 1, 512, 512]⟩
abbrev S1x256x512 : Shape := ⟨3, ![1, 256, 512]⟩
abbrev S256x512 : Shape := ⟨2, ![256, 512]⟩
abbrev S512 : Shape := ⟨1, ![512]⟩
abbrev S512x256 : Shape := ⟨2, ![512, 256]⟩

abbrev nBuf : Space → Nat
  | .hbm => 5
  | .vmem => 18
  | .smem => 0
  | _ => 0

abbrev bufTy : (tb : Table) → Fin (tcTables nBuf tb) → BufTy
  | .hbm, ⟨0, _⟩ => ⟨S66x1024x512, .bf16⟩
  | .hbm, ⟨1, _⟩ => ⟨S66x512x1024, .bf16⟩
  | .hbm, ⟨2, _⟩ => ⟨S66x512x512, .bf16⟩
  | .hbm, ⟨3, _⟩ => ⟨S32768x512, .bf16⟩
  | .hbm, ⟨4, _⟩ => ⟨S1024x512, .bf16⟩
  | .local _ .vmem, ⟨0, _⟩ => ⟨S8x512x512, .bf16⟩
  | .local _ .vmem, ⟨1, _⟩ => ⟨S8x512x512, .bf16⟩
  | .local _ .vmem, ⟨2, _⟩ => ⟨S8x512x512, .bf16⟩
  | .local _ .vmem, ⟨3, _⟩ => ⟨S8x512x512, .bf16⟩
  | .local _ .vmem, ⟨4, _⟩ => ⟨S8x256x512, .bf16⟩
  | .local _ .vmem, ⟨5, _⟩ => ⟨S8x256x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x128x512, .bf16⟩
  | .local _ .vmem, ⟨9, _⟩ => ⟨S1x128x512, .bf16⟩
  | .local _ .vmem, ⟨10, _⟩ => ⟨S1x256x128, .bf16⟩
  | .local _ .vmem, ⟨11, _⟩ => ⟨S1x256x128, .bf16⟩
  | .local _ .vmem, ⟨12, _⟩ => ⟨S4096x256, .bf16⟩
  | .local _ .vmem, ⟨13, _⟩ => ⟨S4096x256, .bf16⟩
  | .local _ .vmem, ⟨14, _⟩ => ⟨S128x256, .bf16⟩
  | .local _ .vmem, ⟨15, _⟩ => ⟨S128x256, .bf16⟩
  | .local _ .vmem, ⟨16, _⟩ => ⟨S2x4x512x512, .f32⟩
  | .local _ .vmem, ⟨17, _⟩ => ⟨S4x128x512, .f32⟩
  | _, _ => ⟨S66x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c8_i32 : BitVec 32 := 8#32
  let v90 : BitVec 32 := Scalar.addi c0_i32 c8_i32
  let c1_i32 : BitVec 32 := 1#32
  ⟨c0_i32, v90, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v91 : Index := Scalar.indexCast arg12
  let c0_30 : Index := 0#32
  let c0_31 : Index := 0#32
  ![v91.toNat, 0, 0]
@[reducible] def k0_t2_loop (k0_t1 : Fin k0_t1_loop.trips) : Scf.Loop 32 :=
  let c0_i32_77 : BitVec 32 := 0#32
  let c0_i32 : BitVec 32 := 0#32
  let c1_i32 : BitVec 32 := 1#32
  let arg12 : BitVec 32 := Scf.iv c0_i32 c1_i32 k0_t1
  let c0_i32_71 : BitVec 32 := 0#32
  let v148 : BitVec 1 := Scalar.cmpi .sgt arg12 c0_i32_71
  let v149 : BitVec 32 := Scalar.extui v148
  let c0_i32_72 : BitVec 32 := 0#32
  let v150 : BitVec 1 := Scalar.cmpi .slt arg12 c0_i32_72
  let v151 : BitVec 32 := Scalar.extui v150
  let v152 : BitVec 32 := Scalar.subi v149 v151
  let c2_i32 : BitVec 32 := 2#32
  let c0_i32_73 : BitVec 32 := 0#32
  let v153 : BitVec 1 := Scalar.cmpi .sgt c2_i32 c0_i32_73
  let v154 : BitVec 32 := Scalar.extui v153
  let c0_i32_74 : BitVec 32 := 0#32
  let v155 : BitVec 1 := Scalar.cmpi .slt c2_i32 c0_i32_74
  let v156 : BitVec 32 := Scalar.extui v155
  let v157 : BitVec 32 := Scalar.subi v154 v156
  let v158 : BitVec 1 := Scalar.cmpi .ne v152 v157
  let v159 : BitVec 32 := Scalar.remsi arg12 c2_i32
  let c0_i32_75 : BitVec 32 := 0#32
  let v160 : BitVec 1 := Scalar.cmpi .ne v159 c0_i32_75
  let v161 : BitVec 1 := Scalar.andi v158 v160
  let v147 : BitVec 32 := Scalar.divsi arg12 c2_i32
  let c1_i32_76 : BitVec 32 := 1#32
  let v162 : BitVec 32 := Scalar.subi v147 c1_i32_76
  let v163 : BitVec 32 := Scalar.select v161 v162 v147
  let v164 : BitVec 32 := Scalar.subi v163 c0_i32_77
  let c1_i32_78 : BitVec 32 := 1#32
  let v166 : BitVec 32 := Scalar.divsi v164 c1_i32_78
  let v167 : BitVec 32 := Scalar.muli v166 c1_i32_78
  let v168 : BitVec 32 := Scalar.addi c0_i32_77 v167
  let c1_i32_79 : BitVec 32 := 1#32
  ⟨c0_i32_77, v168, c1_i32_79⟩
def k0_off2 (k0_t1 : Fin k0_t1_loop.trips) (k0_t2 : Fin (k0_t2_loop k0_t1).trips) (c1_i32_91 : BitVec 32) : Fin 3 → Nat :=
  let c2_i32_90 : BitVec 32 := 2#32
  let c0_i32_77 : BitVec 32 := 0#32
  let c1_i32_79 : BitVec 32 := 1#32
  let arg13 : BitVec 32 := Scf.iv c0_i32_77 c1_i32_79 k0_t2
  let v200 : BitVec 32 := Scalar.muli c2_i32_90 arg13
  let v201 : BitVec 32 := Scalar.addi v200 c1_i32_91
  let v202 : Index := Scalar.indexCast v201
  let c0_92 : Index := 0#32
  let c0_93 : Index := 0#32
  ![v202.toNat, 0, 0]
def k0_off3 (k0_t1 : Fin k0_t1_loop.trips) (k0_t2 : Fin (k0_t2_loop k0_t1).trips) : Fin 3 → Nat :=
  let c2_i32_90 : BitVec 32 := 2#32
  let c0_i32_77 : BitVec 32 := 0#32
  let c1_i32_79 : BitVec 32 := 1#32
  let arg13 : BitVec 32 := Scf.iv c0_i32_77 c1_i32_79 k0_t2
  let v200 : BitVec 32 := Scalar.muli c2_i32_90 arg13
  let v229 : Index := Scalar.indexCast v200
  let c0_114 : Index := 0#32
  let c0_115 : Index := 0#32
  ![v229.toNat, 0, 0]
def k0_off4 (k0_t1 : Fin k0_t1_loop.trips) (k0_t2 : Fin (k0_t2_loop k0_t1).trips) : Fin 3 → Nat :=
  let c2_i32_90 : BitVec 32 := 2#32
  let c0_i32_77 : BitVec 32 := 0#32
  let c1_i32_79 : BitVec 32 := 1#32
  let arg13 : BitVec 32 := Scf.iv c0_i32_77 c1_i32_79 k0_t2
  let v200 : BitVec 32 := Scalar.muli c2_i32_90 arg13
  let c1_i32_167 : BitVec 32 := 1#32
  let v340 : BitVec 32 := Scalar.addi v200 c1_i32_167
  let v341 : Index := Scalar.indexCast v340
  let c0_168 : Index := 0#32
  let c0_169 : Index := 0#32
  ![v341.toNat, 0, 0]
@[reducible] def k0_t3_loop (k0_t1 : Fin k0_t1_loop.trips) : Scf.Loop 32 :=
  let c0_i32_77 : BitVec 32 := 0#32
  let c0_i32 : BitVec 32 := 0#32
  let c1_i32 : BitVec 32 := 1#32
  let arg12 : BitVec 32 := Scf.iv c0_i32 c1_i32 k0_t1
  let c0_i32_71 : BitVec 32 := 0#32
  let v148 : BitVec 1 := Scalar.cmpi .sgt arg12 c0_i32_71
  let v149 : BitVec 32 := Scalar.extui v148
  let c0_i32_72 : BitVec 32 := 0#32
  let v150 : BitVec 1 := Scalar.cmpi .slt arg12 c0_i32_72
  let v151 : BitVec 32 := Scalar.extui v150
  let v152 : BitVec 32 := Scalar.subi v149 v151
  let c2_i32 : BitVec 32 := 2#32
  let c0_i32_73 : BitVec 32 := 0#32
  let v153 : BitVec 1 := Scalar.cmpi .sgt c2_i32 c0_i32_73
  let v154 : BitVec 32 := Scalar.extui v153
  let c0_i32_74 : BitVec 32 := 0#32
  let v155 : BitVec 1 := Scalar.cmpi .slt c2_i32 c0_i32_74
  let v156 : BitVec 32 := Scalar.extui v155
  let v157 : BitVec 32 := Scalar.subi v154 v156
  let v158 : BitVec 1 := Scalar.cmpi .ne v152 v157
  let v159 : BitVec 32 := Scalar.remsi arg12 c2_i32
  let c0_i32_75 : BitVec 32 := 0#32
  let v160 : BitVec 1 := Scalar.cmpi .ne v159 c0_i32_75
  let v161 : BitVec 1 := Scalar.andi v158 v160
  let v147 : BitVec 32 := Scalar.divsi arg12 c2_i32
  let c1_i32_76 : BitVec 32 := 1#32
  let v162 : BitVec 32 := Scalar.subi v147 c1_i32_76
  let v163 : BitVec 32 := Scalar.select v161 v162 v147
  let v164 : BitVec 32 := Scalar.subi v163 c0_i32_77
  let c1_i32_78 : BitVec 32 := 1#32
  let v166 : BitVec 32 := Scalar.divsi v164 c1_i32_78
  let v167 : BitVec 32 := Scalar.muli v166 c1_i32_78
  let v168 : BitVec 32 := Scalar.addi c0_i32_77 v167
  let v165 : BitVec 32 := Scalar.addi c0_i32_77 v164
  let c1_i32_80 : BitVec 32 := 1#32
  ⟨v168, v165, c1_i32_80⟩
def k0_off5 (k0_t1 : Fin k0_t1_loop.trips) (k0_t3 : Fin (k0_t3_loop k0_t1).trips) (c1_i32_91 : BitVec 32) : Fin 3 → Nat :=
  let c2_i32_90 : BitVec 32 := 2#32
  let c0_i32_77 : BitVec 32 := 0#32
  let c0_i32 : BitVec 32 := 0#32
  let c1_i32 : BitVec 32 := 1#32
  let arg12 : BitVec 32 := Scf.iv c0_i32 c1_i32 k0_t1
  let c0_i32_71 : BitVec 32 := 0#32
  let v148 : BitVec 1 := Scalar.cmpi .sgt arg12 c0_i32_71
  let v149 : BitVec 32 := Scalar.extui v148
  let c0_i32_72 : BitVec 32 := 0#32
  let v150 : BitVec 1 := Scalar.cmpi .slt arg12 c0_i32_72
  let v151 : BitVec 32 := Scalar.extui v150
  let v152 : BitVec 32 := Scalar.subi v149 v151
  let c2_i32 : BitVec 32 := 2#32
  let c0_i32_73 : BitVec 32 := 0#32
  let v153 : BitVec 1 := Scalar.cmpi .sgt c2_i32 c0_i32_73
  let v154 : BitVec 32 := Scalar.extui v153
  let c0_i32_74 : BitVec 32 := 0#32
  let v155 : BitVec 1 := Scalar.cmpi .slt c2_i32 c0_i32_74
  let v156 : BitVec 32 := Scalar.extui v155
  let v157 : BitVec 32 := Scalar.subi v154 v156
  let v158 : BitVec 1 := Scalar.cmpi .ne v152 v157
  let v159 : BitVec 32 := Scalar.remsi arg12 c2_i32
  let c0_i32_75 : BitVec 32 := 0#32
  let v160 : BitVec 1 := Scalar.cmpi .ne v159 c0_i32_75
  let v161 : BitVec 1 := Scalar.andi v158 v160
  let v147 : BitVec 32 := Scalar.divsi arg12 c2_i32
  let c1_i32_76 : BitVec 32 := 1#32
  let v162 : BitVec 32 := Scalar.subi v147 c1_i32_76
  let v163 : BitVec 32 := Scalar.select v161 v162 v147
  let v164 : BitVec 32 := Scalar.subi v163 c0_i32_77
  let c1_i32_78 : BitVec 32 := 1#32
  let v166 : BitVec 32 := Scalar.divsi v164 c1_i32_78
  let v167 : BitVec 32 := Scalar.muli v166 c1_i32_78
  let v168 : BitVec 32 := Scalar.addi c0_i32_77 v167
  let c1_i32_80 : BitVec 32 := 1#32
  let arg13 : BitVec 32 := Scf.iv v168 c1_i32_80 k0_t3
  let v200 : BitVec 32 := Scalar.muli c2_i32_90 arg13
  let v201 : BitVec 32 := Scalar.addi v200 c1_i32_91
  let v202 : Index := Scalar.indexCast v201
  let c0_92 : Index := 0#32
  let c0_93 : Index := 0#32
  ![v202.toNat, 0, 0]
def k0_off6 (k0_t1 : Fin k0_t1_loop.trips) (k0_t3 : Fin (k0_t3_loop k0_t1).trips) : Fin 3 → Nat :=
  let c2_i32_90 : BitVec 32 := 2#32
  let c0_i32_77 : BitVec 32 := 0#32
  let c0_i32 : BitVec 32 := 0#32
  let c1_i32 : BitVec 32 := 1#32
  let arg12 : BitVec 32 := Scf.iv c0_i32 c1_i32 k0_t1
  let c0_i32_71 : BitVec 32 := 0#32
  let v148 : BitVec 1 := Scalar.cmpi .sgt arg12 c0_i32_71
  let v149 : BitVec 32 := Scalar.extui v148
  let c0_i32_72 : BitVec 32 := 0#32
  let v150 : BitVec 1 := Scalar.cmpi .slt arg12 c0_i32_72
  let v151 : BitVec 32 := Scalar.extui v150
  let v152 : BitVec 32 := Scalar.subi v149 v151
  let c2_i32 : BitVec 32 := 2#32
  let c0_i32_73 : BitVec 32 := 0#32
  let v153 : BitVec 1 := Scalar.cmpi .sgt c2_i32 c0_i32_73
  let v154 : BitVec 32 := Scalar.extui v153
  let c0_i32_74 : BitVec 32 := 0#32
  let v155 : BitVec 1 := Scalar.cmpi .slt c2_i32 c0_i32_74
  let v156 : BitVec 32 := Scalar.extui v155
  let v157 : BitVec 32 := Scalar.subi v154 v156
  let v158 : BitVec 1 := Scalar.cmpi .ne v152 v157
  let v159 : BitVec 32 := Scalar.remsi arg12 c2_i32
  let c0_i32_75 : BitVec 32 := 0#32
  let v160 : BitVec 1 := Scalar.cmpi .ne v159 c0_i32_75
  let v161 : BitVec 1 := Scalar.andi v158 v160
  let v147 : BitVec 32 := Scalar.divsi arg12 c2_i32
  let c1_i32_76 : BitVec 32 := 1#32
  let v162 : BitVec 32 := Scalar.subi v147 c1_i32_76
  let v163 : BitVec 32 := Scalar.select v161 v162 v147
  let v164 : BitVec 32 := Scalar.subi v163 c0_i32_77
  let c1_i32_78 : BitVec 32 := 1#32
  let v166 : BitVec 32 := Scalar.divsi v164 c1_i32_78
  let v167 : BitVec 32 := Scalar.muli v166 c1_i32_78
  let v168 : BitVec 32 := Scalar.addi c0_i32_77 v167
  let c1_i32_80 : BitVec 32 := 1#32
  let arg13 : BitVec 32 := Scf.iv v168 c1_i32_80 k0_t3
  let v200 : BitVec 32 := Scalar.muli c2_i32_90 arg13
  let v229 : Index := Scalar.indexCast v200
  let c0_114 : Index := 0#32
  let c0_115 : Index := 0#32
  ![v229.toNat, 0, 0]
def k0_off7 (k0_t1 : Fin k0_t1_loop.trips) (k0_t3 : Fin (k0_t3_loop k0_t1).trips) : Fin 3 → Nat :=
  let c2_i32_90 : BitVec 32 := 2#32
  let c0_i32_77 : BitVec 32 := 0#32
  let c0_i32 : BitVec 32 := 0#32
  let c1_i32 : BitVec 32 := 1#32
  let arg12 : BitVec 32 := Scf.iv c0_i32 c1_i32 k0_t1
  let c0_i32_71 : BitVec 32 := 0#32
  let v148 : BitVec 1 := Scalar.cmpi .sgt arg12 c0_i32_71
  let v149 : BitVec 32 := Scalar.extui v148
  let c0_i32_72 : BitVec 32 := 0#32
  let v150 : BitVec 1 := Scalar.cmpi .slt arg12 c0_i32_72
  let v151 : BitVec 32 := Scalar.extui v150
  let v152 : BitVec 32 := Scalar.subi v149 v151
  let c2_i32 : BitVec 32 := 2#32
  let c0_i32_73 : BitVec 32 := 0#32
  let v153 : BitVec 1 := Scalar.cmpi .sgt c2_i32 c0_i32_73
  let v154 : BitVec 32 := Scalar.extui v153
  let c0_i32_74 : BitVec 32 := 0#32
  let v155 : BitVec 1 := Scalar.cmpi .slt c2_i32 c0_i32_74
  let v156 : BitVec 32 := Scalar.extui v155
  let v157 : BitVec 32 := Scalar.subi v154 v156
  let v158 : BitVec 1 := Scalar.cmpi .ne v152 v157
  let v159 : BitVec 32 := Scalar.remsi arg12 c2_i32
  let c0_i32_75 : BitVec 32 := 0#32
  let v160 : BitVec 1 := Scalar.cmpi .ne v159 c0_i32_75
  let v161 : BitVec 1 := Scalar.andi v158 v160
  let v147 : BitVec 32 := Scalar.divsi arg12 c2_i32
  let c1_i32_76 : BitVec 32 := 1#32
  let v162 : BitVec 32 := Scalar.subi v147 c1_i32_76
  let v163 : BitVec 32 := Scalar.select v161 v162 v147
  let v164 : BitVec 32 := Scalar.subi v163 c0_i32_77
  let c1_i32_78 : BitVec 32 := 1#32
  let v166 : BitVec 32 := Scalar.divsi v164 c1_i32_78
  let v167 : BitVec 32 := Scalar.muli v166 c1_i32_78
  let v168 : BitVec 32 := Scalar.addi c0_i32_77 v167
  let c1_i32_80 : BitVec 32 := 1#32
  let arg13 : BitVec 32 := Scf.iv v168 c1_i32_80 k0_t3
  let v200 : BitVec 32 := Scalar.muli c2_i32_90 arg13
  let c1_i32_167 : BitVec 32 := 1#32
  let v340 : BitVec 32 := Scalar.addi v200 c1_i32_167
  let v341 : Index := Scalar.indexCast v340
  let c0_168 : Index := 0#32
  let c0_169 : Index := 0#32
  ![v341.toNat, 0, 0]
def k0_cond1 (k0_t1 : Fin k0_t1_loop.trips) : BitVec 1 :=
  let c0_i32 : BitVec 32 := 0#32
  let c1_i32 : BitVec 32 := 1#32
  let arg12 : BitVec 32 := Scf.iv c0_i32 c1_i32 k0_t1
  let c2_i32_81 : BitVec 32 := 2#32
  let c0_i32_82 : BitVec 32 := 0#32
  let v171 : BitVec 1 := Scalar.cmpi .eq c2_i32_81 c0_i32_82
  let c1_i32_83 : BitVec 32 := 1#32
  let v172 : BitVec 32 := Scalar.select v171 c1_i32_83 c2_i32_81
  let v173 : BitVec 32 := Scalar.remsi arg12 v172
  let c0_i32_85 : BitVec 32 := 0#32
  let v175 : BitVec 1 := Scalar.cmpi .slt v173 c0_i32_85
  let c0_i32_86 : BitVec 32 := 0#32
  let v176 : BitVec 1 := Scalar.cmpi .slt v172 c0_i32_86
  let v177 : BitVec 1 := Scalar.xori v175 v176
  let c0_i32_84 : BitVec 32 := 0#32
  let v174 : BitVec 1 := Scalar.cmpi .ne v173 c0_i32_84
  let v178 : BitVec 1 := Scalar.andi v177 v174
  let v179 : BitVec 32 := Scalar.addi v173 v172
  let v180 : BitVec 32 := Scalar.select v178 v179 v173
  let c1_i32_87 : BitVec 32 := 1#32
  let v181 : BitVec 1 := Scalar.cmpi .eq v180 c1_i32_87
  let v182 : BitVec 32 := Scalar.extui v181
  let c0_i32_88 : BitVec 32 := 0#32
  let v183 : BitVec 1 := Scalar.cmpi .ne v182 c0_i32_88
  v183

def k0_off8 (k0_t1 : Fin k0_t1_loop.trips) : Fin 3 → Nat :=
  let c0_i32 : BitVec 32 := 0#32
  let c1_i32 : BitVec 32 := 1#32
  let arg12 : BitVec 32 := Scf.iv c0_i32 c1_i32 k0_t1
  let v200 : Index := Scalar.indexCast arg12
  let c0_90 : Index := 0#32
  let c0_91 : Index := 0#32
  ![v200.toNat, 0, 0]
def k0_off9 (k0_t1 : Fin k0_t1_loop.trips) : Fin 3 → Nat :=
  let c0_i32 : BitVec 32 := 0#32
  let c1_i32 : BitVec 32 := 1#32
  let arg12 : BitVec 32 := Scf.iv c0_i32 c1_i32 k0_t1
  let c1_i32_112 : BitVec 32 := 1#32
  let v227 : BitVec 32 := Scalar.subi arg12 c1_i32_112
  let v228 : Index := Scalar.indexCast v227
  let c0_113 : Index := 0#32
  let c0_114 : Index := 0#32
  ![v228.toNat, 0, 0]
def k0_off10 (k0_t1 : Fin k0_t1_loop.trips) : Fin 3 → Nat :=
  let c0_i32 : BitVec 32 := 0#32
  let c1_i32 : BitVec 32 := 1#32
  let arg12 : BitVec 32 := Scf.iv c0_i32 c1_i32 k0_t1
  let v311 : Index := Scalar.indexCast arg12
  let c0_143 : Index := 0#32
  let c0_144 : Index := 0#32
  ![v311.toNat, 0, 0]
def k0_off11 (k0_t1 : Fin k0_t1_loop.trips) : Fin 3 → Nat :=
  let c0_i32 : BitVec 32 := 0#32
  let c1_i32 : BitVec 32 := 1#32
  let arg12 : BitVec 32 := Scf.iv c0_i32 c1_i32 k0_t1
  let v200 : Index := Scalar.indexCast arg12
  let c0_90 : Index := 0#32
  let c0_91 : Index := 0#32
  ![v200.toNat, 0, 0]
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v196 : BitVec 32 := Scalar.muli arg12 c512_i32
  v196
def k0_off12 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v196 : BitVec 32 := Scalar.muli arg12 c512_i32
  let v197 : BitVec 32 := v196
  let v198 : Index := Scalar.indexCast v197
  let c0_89 : Index := 0#32
  ![v198.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.addi c64_i32 v16
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.addi c64_i32 v16
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, v27.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.addi c64_i32 v16
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S66x1024x512 : Shape := ⟨3, ![66, 1024, 512]⟩
abbrev S66x512x1024 : Shape := ⟨3, ![66, 512, 1024]⟩
abbrev S66x512x512 : Shape := ⟨3, ![66, 512, 512]⟩
abbrev S64x1024x512 : Shape := ⟨3, ![64, 1024, 512]⟩
abbrev S8x8x8x128x512 : Shape := ⟨5, ![8, 8, 8, 128, 512]⟩
abbrev S8x8x8x512x128 : Shape := ⟨5, ![8, 8, 8, 512, 128]⟩
abbrev S8x8x4096x128 : Shape := ⟨4, ![8, 8, 4096, 128]⟩
abbrev S2x1024x512 : Shape := ⟨3, ![2, 1024, 512]⟩
abbrev S2x8x128x4x128 : Shape := ⟨5, ![2, 8, 128, 4, 128]⟩
abbrev S2x4x8x128x128 : Shape := ⟨5, ![2, 4, 8, 128, 128]⟩
abbrev S8x8x128x128 : Shape := ⟨4, ![8, 8, 128, 128]⟩
abbrev S64x512x1024 : Shape := ⟨3, ![64, 512, 1024]⟩
abbrev S8x8x512x8x128 : Shape := ⟨5, ![8, 8, 512, 8, 128]⟩
abbrev S2x512x1024 : Shape := ⟨3, ![2, 512, 1024]⟩
abbrev S8x128x8x128 : Shape := ⟨4, ![8, 128, 8, 128]⟩
abbrev S64x512x512 : Shape := ⟨3, ![64, 512, 512]⟩
abbrev S8x8x8x64x512 : Shape := ⟨5, ![8, 8, 8, 64, 512]⟩
abbrev S8x8x8x512x64 : Shape := ⟨5, ![8, 8, 8, 512, 64]⟩
abbrev S8x8x4096x64 : Shape := ⟨4, ![8, 8, 4096, 64]⟩
abbrev S2x512x512 : Shape := ⟨3, ![2, 512, 512]⟩
abbrev S2x8x64x4x128 : Shape := ⟨5, ![2, 8, 64, 4, 128]⟩
abbrev S2x4x8x128x64 : Shape := ⟨5, ![2, 4, 8, 128, 64]⟩
abbrev S8x8x128x64 : Shape := ⟨4, ![8, 8, 128, 64]⟩
abbrev S8x8x4224x128 : Shape := ⟨4, ![8, 8, 4224, 128]⟩
abbrev S8x8x4224x64 : Shape := ⟨4, ![8, 8, 4224, 64]⟩
abbrev S8x8x4224x4224 : Shape := ⟨4, ![8, 8, 4224, 4224]⟩
abbrev S4224x4224 : Shape := ⟨2, ![4224, 4224]⟩
abbrev S_ : Shape := ⟨0, ![]⟩
abbrev S8x8x4224 : Shape := ⟨3, ![8, 8, 4224]⟩
abbrev S8x8x4224x1 : Shape := ⟨4, ![8, 8, 4224, 1]⟩
abbrev S8x4224x8x64 : Shape := ⟨4, ![8, 4224, 8, 64]⟩
abbrev S8x4224x512 : Shape := ⟨3, ![8, 4224, 512]⟩
abbrev S8x4096x512 : Shape := ⟨3, ![8, 4096, 512]⟩
abbrev S32768x512 : Shape := ⟨2, ![32768, 512]⟩
abbrev S8x128x512 : Shape := ⟨3, ![8, 128, 512]⟩
abbrev S1024x512 : Shape := ⟨2, ![1024, 512]⟩

abbrev nBuf : Space → Nat
  | .hbm => 60
  | .vmem => 0
  | .smem => 0
  | _ => 0

abbrev bufTy : (tb : Table) → Fin (tcTables nBuf tb) → BufTy
  | .hbm, ⟨0, _⟩ => ⟨S66x1024x512, .bf16⟩
  | .hbm, ⟨1, _⟩ => ⟨S66x512x1024, .bf16⟩
  | .hbm, ⟨2, _⟩ => ⟨S66x512x512, .bf16⟩
  | .hbm, ⟨3, _⟩ => ⟨S64x1024x512, .bf16⟩
  | .hbm, ⟨4, _⟩ => ⟨S8x8x8x128x512, .bf16⟩
  | .hbm, ⟨5, _⟩ => ⟨S8x8x8x512x128, .bf16⟩
  | .hbm, ⟨6, _⟩ => ⟨S8x8x4096x128, .bf16⟩
  | .hbm, ⟨7, _⟩ => ⟨S2x1024x512, .bf16⟩
  | .hbm, ⟨8, _⟩ => ⟨S2x8x128x4x128, .bf16⟩
  | .hbm, ⟨9, _⟩ => ⟨S2x4x8x128x128, .bf16⟩
  | .hbm, ⟨10, _⟩ => ⟨S8x8x128x128, .bf16⟩
  | .hbm, ⟨11, _⟩ => ⟨S64x512x1024, .bf16⟩
  | .hbm, ⟨12, _⟩ => ⟨S8x8x512x8x128, .bf16⟩
  | .hbm, ⟨13, _⟩ => ⟨S8x8x8x512x128, .bf16⟩
  | .hbm, ⟨14, _⟩ => ⟨S8x8x4096x128, .bf16⟩
  | .hbm, ⟨15, _⟩ => ⟨S2x512x1024, .bf16⟩
  | .hbm, ⟨16, _⟩ => ⟨S8x128x8x128, .bf16⟩
  | .hbm, ⟨17, _⟩ => ⟨S8x8x128x128, .bf16⟩
  | .hbm, ⟨18, _⟩ => ⟨S64x512x512, .bf16⟩
  | .hbm, ⟨19, _⟩ => ⟨S8x8x8x64x512, .bf16⟩
  | .hbm, ⟨20, _⟩ => ⟨S8x8x8x512x64, .bf16⟩
  | .hbm, ⟨21, _⟩ => ⟨S8x8x4096x64, .bf16⟩
  | .hbm, ⟨22, _⟩ => ⟨S2x512x512, .bf16⟩
  | .hbm, ⟨23, _⟩ => ⟨S2x8x64x4x128, .bf16⟩
  | .hbm, ⟨24, _⟩ => ⟨S2x4x8x128x64, .bf16⟩
  | .hbm, ⟨25, _⟩ => ⟨S8x8x128x64, .bf16⟩
  | .hbm, ⟨26, _⟩ => ⟨S8x8x4224x128, .bf16⟩
  | .hbm, ⟨27, _⟩ => ⟨S8x8x4224x128, .bf16⟩
  | .hbm, ⟨28, _⟩ => ⟨S8x8x4224x64, .bf16⟩
  | .hbm, ⟨29, _⟩ => ⟨S8x8x4224x4224, .f32⟩
  | .hbm, ⟨30, _⟩ => ⟨S4224x4224, .i32⟩
  | .hbm, ⟨31, _⟩ => ⟨S4224x4224, .i32⟩
  | .hbm, ⟨32, _⟩ => ⟨S4224x4224, .i1⟩
  | .hbm, ⟨33, _⟩ => ⟨S_, .f32⟩
  | .hbm, ⟨34, _⟩ => ⟨S_, .f32⟩
  | .hbm, ⟨35, _⟩ => ⟨S8x8x4224x4224, .i1⟩
  | .hbm, ⟨36, _⟩ => ⟨S8x8x4224x4224, .f32⟩
  | .hbm, ⟨37, _⟩ => ⟨S8x8x4224x4224, .f32⟩
  | .hbm, ⟨38, _⟩ => ⟨S_, .f32⟩
  | .hbm, ⟨39, _⟩ => ⟨S8x8x4224, .f32⟩
  | .hbm, ⟨40, _⟩ => ⟨S8x8x4224x1, .f32⟩
  | .hbm, ⟨41, _⟩ => ⟨S8x8x4224x4224, .f32⟩
  | .hbm, ⟨42, _⟩ => ⟨S8x8x4224x4224, .f32⟩
  | .hbm, ⟨43, _⟩ => ⟨S_, .f32⟩
  | .hbm, ⟨44, _⟩ => ⟨S8x8x4224x4224, .f32⟩
  | .hbm, ⟨45, _⟩ => ⟨S8x8x4224x4224, .f32⟩
  | .hbm, ⟨46, _⟩ => ⟨S_, .f32⟩
  | .hbm, ⟨47, _⟩ => ⟨S8x8x4224, .f32⟩
  | .hbm, ⟨48, _⟩ => ⟨S8x8x4224x1, .f32⟩
  | .hbm, ⟨49, _⟩ => ⟨S8x8x4224x4224, .f32⟩
  | .hbm, ⟨50, _⟩ => ⟨S8x8x4224x4224, .f32⟩
  | .hbm, ⟨51, _⟩ => ⟨S8x8x4224x4224, .bf16⟩
  | .hbm, ⟨52, _⟩ => ⟨S8x8x4224x64, .f32⟩
  | .hbm, ⟨53, _⟩ => ⟨S8x4224x8x64, .f32⟩
  | .hbm, ⟨54, _⟩ => ⟨S8x4224x512, .f32⟩
  | .hbm, ⟨55, _⟩ => ⟨S8x4224x512, .bf16⟩
  | .hbm, ⟨56, _⟩ => ⟨S8x4096x512, .bf16⟩
  | .hbm, ⟨57, _⟩ => ⟨S32768x512, .bf16⟩
  | .hbm, ⟨58, _⟩ => ⟨S8x128x512, .bf16⟩
  | .hbm, ⟨59, _⟩ => ⟨S1024x512, .bf16⟩
  | _, _ => ⟨S66x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Kernel2.lean ====
abbrev S33792x1024 : Shape := ⟨2, ![33792, 1024]⟩
abbrev S16x33792 : Shape := ⟨2, ![16, 33792]⟩
abbrev S1x33792 : Shape := ⟨2, ![1, 33792]⟩
abbrev S16x1024x256 : Shape := ⟨3, ![16, 1024, 256]⟩
abbrev S16x256x1024 : Shape := ⟨3, ![16, 256, 1024]⟩
abbrev S1024 : Shape := ⟨1, ![1024]⟩
abbrev S1x1024 : Shape := ⟨2, ![1, 1024]⟩
abbrev S1x32768 : Shape := ⟨2, ![1, 32768]⟩
abbrev S32768 : Shape := ⟨1, ![32768]⟩
abbrev S32x1024 : Shape := ⟨2, ![32, 1024]⟩
abbrev S32x1024x1 : Shape := ⟨3, ![32, 1024, 1]⟩
abbrev S4 : Shape := ⟨1, ![4]⟩
abbrev S1x1x4 : Shape := ⟨3, ![1, 1, 4]⟩
abbrev S32x1024x4 : Shape := ⟨3, ![32, 1024, 4]⟩
abbrev S_ : Shape := ⟨0, ![]⟩
abbrev S32x4 : Shape := ⟨2, ![32, 4]⟩
abbrev S128 : Shape := ⟨1, ![128]⟩
abbrev S32768x1024 : Shape := ⟨2, ![32768, 1024]⟩
abbrev S1024x1024 : Shape := ⟨2, ![1024, 1024]⟩
abbrev S16x1024 : Shape := ⟨2, ![16, 1024]⟩
abbrev S4x1024x256 : Shape := ⟨3, ![4, 1024, 256]⟩
abbrev S4x256x1024 : Shape := ⟨3, ![4, 256, 1024]⟩
abbrev S1536x1024 : Shape := ⟨2, ![1536, 1024]⟩
abbrev S1536x128 : Shape := ⟨2, ![1536, 128]⟩
abbrev S8x1024 : Shape := ⟨2, ![8, 1024]⟩
abbrev S1 : Shape := ⟨1, ![1]⟩
abbrev S112x1024 : Shape := ⟨2, ![112, 1024]⟩
abbrev S128x1024 : Shape := ⟨2, ![128, 1024]⟩
abbrev S1024x128 : Shape := ⟨2, ![1024, 128]⟩
abbrev S1024x256 : Shape := ⟨2, ![1024, 256]⟩
abbrev S1536x256 : Shape := ⟨2, ![1536, 256]⟩
abbrev S128x128 : Shape := ⟨2, ![128, 128]⟩
abbrev S1x1024x256 : Shape := ⟨3, ![1, 1024, 256]⟩
abbrev S128x256 : Shape := ⟨2, ![128, 256]⟩
abbrev S128x1 : Shape := ⟨2, ![128, 1]⟩
abbrev S1024x1 : Shape := ⟨2, ![1024, 1]⟩

abbrev nBuf : Space → Nat
  | .hbm => 26
  | .vmem => 20
  | .smem => 1
  | _ => 0

abbrev bufTy : (tb : Table) → Fin (tcTables nBuf tb) → BufTy
  | .hbm, ⟨0, _⟩ => ⟨S33792x1024, .f32⟩
  | .hbm, ⟨1, _⟩ => ⟨S16x33792, .f32⟩
  | .hbm, ⟨2, _⟩ => ⟨S1x33792, .i32⟩
  | .hbm, ⟨3, _⟩ => ⟨S16x1024x256, .f32⟩
  | .hbm, ⟨4, _⟩ => ⟨S16x1024x256, .f32⟩
  | .hbm, ⟨5, _⟩ => ⟨S16x256x1024, .f32⟩
  | .hbm, ⟨6, _⟩ => ⟨S1024, .f32⟩
  | .hbm, ⟨7, _⟩ => ⟨S1024, .f32⟩
  | .hbm, ⟨8, _⟩ => ⟨S16x1024x256, .bf16⟩
  | .hbm, ⟨9, _⟩ => ⟨S16x1024x256, .bf16⟩
  | .hbm, ⟨10, _⟩ => ⟨S16x256x1024, .bf16⟩
  | .hbm, ⟨11, _⟩ => ⟨S1x1024, .f32⟩
  | .hbm, ⟨12, _⟩ => ⟨S1x1024, .f32⟩
  | .hbm, ⟨13, _⟩ => ⟨S1x32768, .i32⟩
  | .hbm, ⟨14, _⟩ => ⟨S32768, .i32⟩
  | .hbm, ⟨15, _⟩ => ⟨S32x1024, .i32⟩
  | .hbm, ⟨16, _⟩ => ⟨S32x1024x1, .i32⟩
  | .hbm, ⟨17, _⟩ => ⟨S4, .i32⟩
  | .hbm, ⟨18, _⟩ => ⟨S1x1x4, .i32⟩
  | .hbm, ⟨19, _⟩ => ⟨S32x1024x4, .i32⟩
  | .hbm, ⟨20, _⟩ => ⟨S32x1024x4, .i32⟩
  | .hbm, ⟨21, _⟩ => ⟨S32x1024x4, .i1⟩
  | .hbm, ⟨22, _⟩ => ⟨S32x1024x4, .i32⟩
  | .hbm, ⟨23, _⟩ => ⟨S_, .i32⟩
  | .hbm, ⟨24, _⟩ => ⟨S32x4, .i32⟩
  | .hbm, ⟨25, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .i32⟩
  | .local _ .vmem, ⟨5, _⟩ => ⟨S1x1024, .i32⟩
  | .local _ .vmem, ⟨6, _⟩ => ⟨S4x1024x256, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x1024x256, .bf16⟩
  | .local _ .vmem, ⟨10, _⟩ => ⟨S4x256x1024, .bf16⟩
  | .local _ .vmem, ⟨11, _⟩ => ⟨S4x256x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1536x1024, .bf16⟩
  | .local _ .vmem, ⟨17, _⟩ => ⟨S1536x1024, .bf16⟩
  | .local _ .vmem, ⟨18, _⟩ => ⟨S1536x128, .f32⟩
  | .local _ .vmem, ⟨19, _⟩ => ⟨S1536x1024, .bf16⟩
  | .local _ .smem, ⟨0, _⟩ => ⟨S128, .i32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v17 : Ref sig .tc := ⟨.hbm, 25, rfl⟩
abbrev main_v16 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_v16.idx], fun | 0 => main_v16.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_57 : BitVec 32) : Fin 1 → Nat :=
  let arg0 : BitVec 32 := BitVec.ofNat 32 (i 0).val
  let c4_i32_56 : BitVec 32 := 4#32
  let v125 : BitVec 32 := Scalar.muli arg0 c4_i32_56
  let v126 : BitVec 32 := Scalar.addi v125 c0_i32_57
  let v127 : Index := Scalar.indexCast v126
  ![v127.toNat]
def k0_off2 (i : grid0.Coords) (c0_i32_2 : BitVec 32) : Fin 1 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_2
  let v6 : Index := Scalar.indexCast v5
  ![v6.toNat]
def k0_off3 (i : grid0.Coords) : Fin 1 → Nat :=
  let arg0 : BitVec 32 := BitVec.ofNat 32 (i 0).val
  let c4_i32_17 : BitVec 32 := 4#32
  let v34 : BitVec 32 := Scalar.muli arg0 c4_i32_17
  let arg1 : BitVec 32 := BitVec.ofNat 32 (i 1).val
  let v35 : BitVec 32 := Scalar.addi v34 arg1
  let v36 : Index := Scalar.indexCast v35
  ![v36.toNat]
@[reducible] def k0_t1_loop (v37 : BitVec 32) : Scf.Loop 32 :=
  let c0_i32_21 : BitVec 32 := 0#32
  let c127_i32_18 : BitVec 32 := 127#32
  let v38 : BitVec 32 := Scalar.addi v37 c127_i32_18
  let c7_i32_19 : BitVec 32 := 7#32
  let v39 : BitVec 32 := Scalar.shrui v38 c7_i32_19
  let v40 : BitVec 32 := Scalar.subi v39 c0_i32_21
  let c1_i32_22 : BitVec 32 := 1#32
  let v42 : BitVec 32 := Scalar.divsi v40 c1_i32_22
  let v43 : BitVec 32 := Scalar.muli v42 c1_i32_22
  let v44 : BitVec 32 := Scalar.addi c0_i32_21 v43
  let c1_i32_23 : BitVec 32 := 1#32
  ⟨c0_i32_21, v44, c1_i32_23⟩

def k0_mult1 (i : grid0.Coords) (v7 : BitVec 32) (v17 : BitVec 32) (v27 : BitVec 32) (v37 : BitVec 32) (k0_t1 : Fin (k0_t1_loop v37).trips) : BitVec 32 :=
  let c0_i32_4 : BitVec 32 := 0#32
  let arg1 : BitVec 32 := BitVec.ofNat 32 (i 1).val
  let c0_i32_1 : BitVec 32 := 0#32
  let v3 : BitVec 1 := Scalar.cmpi .sgt arg1 c0_i32_1
  let c127_i32 : BitVec 32 := 127#32
  let v8 : BitVec 32 := Scalar.addi v7 c127_i32
  let c7_i32 : BitVec 32 := 7#32
  let v9 : BitVec 32 := Scalar.shrui v8 c7_i32
  let c0_i32_3 : BitVec 32 := 0#32
  let v10 : BitVec 32 := Scalar.select v3 v9 c0_i32_3
  let c128_i32 : BitVec 32 := 128#32
  let v11 : BitVec 32 := Scalar.muli v10 c128_i32
  let v12 : BitVec 32 := Scalar.addi c0_i32_4 v11
  let c1_i32 : BitVec 32 := 1#32
  let v13 : BitVec 1 := Scalar.cmpi .sgt arg1 c1_i32
  let c127_i32_7 : BitVec 32 := 127#32
  let v18 : BitVec 32 := Scalar.addi v17 c127_i32_7
  let c7_i32_8 : BitVec 32 := 7#32
  let v19 : BitVec 32 := Scalar.shrui v18 c7_i32_8
  let c0_i32_9 : BitVec 32 := 0#32
  let v20 : BitVec 32 := Scalar.select v13 v19 c0_i32_9
  let c128_i32_10 : BitVec 32 := 128#32
  let v21 : BitVec 32 := Scalar.muli v20 c128_i32_10
  let v22 : BitVec 32 := Scalar.addi v12 v21
  let c2_i32 : BitVec 32 := 2#32
  let v23 : BitVec 1 := Scalar.cmpi .sgt arg1 c2_i32
  let c127_i32_13 : BitVec 32 := 127#32
  let v28 : BitVec 32 := Scalar.addi v27 c127_i32_13
  let c7_i32_14 : BitVec 32 := 7#32
  let v29 : BitVec 32 := Scalar.shrui v28 c7_i32_14
  let c0_i32_15 : BitVec 32 := 0#32
  let v30 : BitVec 32 := Scalar.select v23 v29 c0_i32_15
  let c128_i32_16 : BitVec 32 := 128#32
  let v31 : BitVec 32 := Scalar.muli v30 c128_i32_16
  let v32 : BitVec 32 := Scalar.addi v22 v31
  let c0_i32_21 : BitVec 32 := 0#32
  let c1_i32_23 : BitVec 32 := 1#32
  let arg16 : BitVec 32 := Scf.iv c0_i32_21 c1_i32_23 k0_t1
  let c128_i32_26 : BitVec 32 := 128#32
  let v48 : BitVec 32 := Scalar.muli arg16 c128_i32_26
  let v49 : BitVec 32 := Scalar.addi v32 v48
  v49
def k0_off4 (i : grid0.Coords) (v7 : BitVec 32) (v17 : BitVec 32) (v27 : BitVec 32) (v37 : BitVec 32) (k0_t1 : Fin (k0_t1_loop v37).trips) : Fin 2 → Nat :=
  let c0_i32_4 : BitVec 32 := 0#32
  let arg1 : BitVec 32 := BitVec.ofNat 32 (i 1).val
  let c0_i32_1 : BitVec 32 := 0#32
  let v3 : BitVec 1 := Scalar.cmpi .sgt arg1 c0_i32_1
  let c127_i32 : BitVec 32 := 127#32
  let v8 : BitVec 32 := Scalar.addi v7 c127_i32
  let c7_i32 : BitVec 32 := 7#32
  let v9 : BitVec 32 := Scalar.shrui v8 c7_i32
  let c0_i32_3 : BitVec 32 := 0#32
  let v10 : BitVec 32 := Scalar.select v3 v9 c0_i32_3
  let c128_i32 : BitVec 32 := 128#32
  let v11 : BitVec 32 := Scalar.muli v10 c128_i32
  let v12 : BitVec 32 := Scalar.addi c0_i32_4 v11
  let c1_i32 : BitVec 32 := 1#32
  let v13 : BitVec 1 := Scalar.cmpi .sgt arg1 c1_i32
  let c127_i32_7 : BitVec 32 := 127#32
  let v18 : BitVec 32 := Scalar.addi v17 c127_i32_7
  let c7_i32_8 : BitVec 32 := 7#32
  let v19 : BitVec 32 := Scalar.shrui v18 c7_i32_8
  let c0_i32_9 : BitVec 32 := 0#32
  let v20 : BitVec 32 := Scalar.select v13 v19 c0_i32_9
  let c128_i32_10 : BitVec 32 := 128#32
  let v21 : BitVec 32 := Scalar.muli v20 c128_i32_10
  let v22 : BitVec 32 := Scalar.addi v12 v21
  let c2_i32 : BitVec 32 := 2#32
  let v23 : BitVec 1 := Scalar.cmpi .sgt arg1 c2_i32
  let c127_i32_13 : BitVec 32 := 127#32
  let v28 : BitVec 32 := Scalar.addi v27 c127_i32_13
  let c7_i32_14 : BitVec 32 := 7#32
  let v29 : BitVec 32 := Scalar.shrui v28 c7_i32_14
  let c0_i32_15 : BitVec 32 := 0#32
  let v30 : BitVec 32 := Scalar.select v23 v29 c0_i32_15
  let c128_i32_16 : BitVec 32 := 128#32
  let v31 : BitVec 32 := Scalar.muli v30 c128_i32_16
  let v32 : BitVec 32 := Scalar.addi v22 v31
  let c0_i32_21 : BitVec 32 := 0#32
  let c1_i32_23 : BitVec 32 := 1#32
  let arg16 : BitVec 32 := Scf.iv c0_i32_21 c1_i32_23 k0_t1
  let c128_i32_26 : BitVec 32 := 128#32
  let v48 : BitVec 32 := Scalar.muli arg16 c128_i32_26
  let v49 : BitVec 32 := Scalar.addi v32 v48
  let v50 : BitVec 32 := v49
  let v51 : Index := Scalar.indexCast v50
  let c0 : Index := 0#32
  ![v51.toNat, 0]
def k0_off5 (i : grid0.Coords) (v7 : BitVec 32) (v17 : BitVec 32) (v27 : BitVec 32) (v37 : BitVec 32) (k0_t1 : Fin (k0_t1_loop v37).trips) : Fin 2 → Nat :=
  let c0_i32_4 : BitVec 32 := 0#32
  let arg1 : BitVec 32 := BitVec.ofNat 32 (i 1).val
  let c0_i32_1 : BitVec 32 := 0#32
  let v3 : BitVec 1 := Scalar.cmpi .sgt arg1 c0_i32_1
  let c127_i32 : BitVec 32 := 127#32
  let v8 : BitVec 32 := Scalar.addi v7 c127_i32
  let c7_i32 : BitVec 32 := 7#32
  let v9 : BitVec 32 := Scalar.shrui v8 c7_i32
  let c0_i32_3 : BitVec 32 := 0#32
  let v10 : BitVec 32 := Scalar.select v3 v9 c0_i32_3
  let c128_i32 : BitVec 32 := 128#32
  let v11 : BitVec 32 := Scalar.muli v10 c128_i32
  let v12 : BitVec 32 := Scalar.addi c0_i32_4 v11
  let c1_i32 : BitVec 32 := 1#32
  let v13 : BitVec 1 := Scalar.cmpi .sgt arg1 c1_i32
  let c127_i32_7 : BitVec 32 := 127#32
  let v18 : BitVec 32 := Scalar.addi v17 c127_i32_7
  let c7_i32_8 : BitVec 32 := 7#32
  let v19 : BitVec 32 := Scalar.shrui v18 c7_i32_8
  let c0_i32_9 : BitVec 32 := 0#32
  let v20 : BitVec 32 := Scalar.select v13 v19 c0_i32_9
  let c128_i32_10 : BitVec 32 := 128#32
  let v21 : BitVec 32 := Scalar.muli v20 c128_i32_10
  let v22 : BitVec 32 := Scalar.addi v12 v21
  let c2_i32 : BitVec 32 := 2#32
  let v23 : BitVec 1 := Scalar.cmpi .sgt arg1 c2_i32
  let c127_i32_13 : BitVec 32 := 127#32
  let v28 : BitVec 32 := Scalar.addi v27 c127_i32_13
  let c7_i32_14 : BitVec 32 := 7#32
  let v29 : BitVec 32 := Scalar.shrui v28 c7_i32_14
  let c0_i32_15 : BitVec 32 := 0#32
  let v30 : BitVec 32 := Scalar.select v23 v29 c0_i32_15
  let c128_i32_16 : BitVec 32 := 128#32
  let v31 : BitVec 32 := Scalar.muli v30 c128_i32_16
  let v32 : BitVec 32 := Scalar.addi v22 v31
  let c0_i32_21 : BitVec 32 := 0#32
  let c1_i32_23 : BitVec 32 := 1#32
  let arg16 : BitVec 32 := Scf.iv c0_i32_21 c1_i32_23 k0_t1
  let c128_i32_26 : BitVec 32 := 128#32
  let v48 : BitVec 32 := Scalar.muli arg16 c128_i32_26
  let v49 : BitVec 32 := Scalar.addi v32 v48
  let v50 : BitVec 32 := v49
  let v53 : Index := Scalar.indexCast v50
  let c0_27 : Index := 0#32
  ![v53.toNat, 0]
@[reducible] def k0_t2_loop (v37 : BitVec 32) : Scf.Loop 32 :=
  let c0_i32_21 : BitVec 32 := 0#32
  let c127_i32_18 : BitVec 32 := 127#32
  let v38 : BitVec 32 := Scalar.addi v37 c127_i32_18
  let c7_i32_19 : BitVec 32 := 7#32
  let v39 : BitVec 32 := Scalar.shrui v38 c7_i32_19
  let v40 : BitVec 32 := Scalar.subi v39 c0_i32_21
  let c1_i32_22 : BitVec 32 := 1#32
  let v42 : BitVec 32 := Scalar.divsi v40 c1_i32_22
  let v43 : BitVec 32 := Scalar.muli v42 c1_i32_22
  let v44 : BitVec 32 := Scalar.addi c0_i32_21 v43
  let v41 : BitVec 32 := Scalar.addi c0_i32_21 v40
  let c1_i32_24 : BitVec 32 := 1#32
  ⟨v44, v41, c1_i32_24⟩
def k0_mult2 (i : grid0.Coords) (v7 : BitVec 32) (v17 : BitVec 32) (v27 : BitVec 32) (v37 : BitVec 32) (k0_t2 : Fin (k0_t2_loop v37).trips) : BitVec 32 :=
  let c0_i32_4 : BitVec 32 := 0#32
  let arg1 : BitVec 32 := BitVec.ofNat 32 (i 1).val
  let c0_i32_1 : BitVec 32 := 0#32
  let v3 : BitVec 1 := Scalar.cmpi .sgt arg1 c0_i32_1
  let c127_i32 : BitVec 32 := 127#32
  let v8 : BitVec 32 := Scalar.addi v7 c127_i32
  let c7_i32 : BitVec 32 := 7#32
  let v9 : BitVec 32 := Scalar.shrui v8 c7_i32
  let c0_i32_3 : BitVec 32 := 0#32
  let v10 : BitVec 32 := Scalar.select v3 v9 c0_i32_3
  let c128_i32 : BitVec 32 := 128#32
  let v11 : BitVec 32 := Scalar.muli v10 c128_i32
  let v12 : BitVec 32 := Scalar.addi c0_i32_4 v11
  let c1_i32 : BitVec 32 := 1#32
  let v13 : BitVec 1 := Scalar.cmpi .sgt arg1 c1_i32
  let c127_i32_7 : BitVec 32 := 127#32
  let v18 : BitVec 32 := Scalar.addi v17 c127_i32_7
  let c7_i32_8 : BitVec 32 := 7#32
  let v19 : BitVec 32 := Scalar.shrui v18 c7_i32_8
  let c0_i32_9 : BitVec 32 := 0#32
  let v20 : BitVec 32 := Scalar.select v13 v19 c0_i32_9
  let c128_i32_10 : BitVec 32 := 128#32
  let v21 : BitVec 32 := Scalar.muli v20 c128_i32_10
  let v22 : BitVec 32 := Scalar.addi v12 v21
  let c2_i32 : BitVec 32 := 2#32
  let v23 : BitVec 1 := Scalar.cmpi .sgt arg1 c2_i32
  let c127_i32_13 : BitVec 32 := 127#32
  let v28 : BitVec 32 := Scalar.addi v27 c127_i32_13
  let c7_i32_14 : BitVec 32 := 7#32
  let v29 : BitVec 32 := Scalar.shrui v28 c7_i32_14
  let c0_i32_15 : BitVec 32 := 0#32
  let v30 : BitVec 32 := Scalar.select v23 v29 c0_i32_15
  let c128_i32_16 : BitVec 32 := 128#32
  let v31 : BitVec 32 := Scalar.muli v30 c128_i32_16
  let v32 : BitVec 32 := Scalar.addi v22 v31
  let c0_i32_21 : BitVec 32 := 0#32
  let c127_i32_18 : BitVec 32 := 127#32
  let v38 : BitVec 32 := Scalar.addi v37 c127_i32_18
  let c7_i32_19 : BitVec 32 := 7#32
  let v39 : BitVec 32 := Scalar.shrui v38 c7_i32_19
  let v40 : BitVec 32 := Scalar.subi v39 c0_i32_21
  let c1_i32_22 : BitVec 32 := 1#32
  let v42 : BitVec 32 := Scalar.divsi v40 c1_i32_22
  let v43 : BitVec 32 := Scalar.muli v42 c1_i32_22
  let v44 : BitVec 32 := Scalar.addi c0_i32_21 v43
  let c1_i32_24 : BitVec 32 := 1#32
  let arg16 : BitVec 32 := Scf.iv v44 c1_i32_24 k0_t2
  let c128_i32_26 : BitVec 32 := 128#32
  let v48 : BitVec 32 := Scalar.muli arg16 c128_i32_26
  let v49 : BitVec 32 := Scalar.addi v32 v48
  v49
def k0_off6 (i : grid0.Coords) (v7 : BitVec 32) (v17 : BitVec 32) (v27 : BitVec 32) (v37 : BitVec 32) (k0_t2 : Fin (k0_t2_loop v37).trips) : Fin 2 → Nat :=
  let c0_i32_4 : BitVec 32 := 0#32
  let arg1 : BitVec 32 := BitVec.ofNat 32 (i 1).val
  let c0_i32_1 : BitVec 32 := 0#32
  let v3 : BitVec 1 := Scalar.cmpi .sgt arg1 c0_i32_1
  let c127_i32 : BitVec 32 := 127#32
  let v8 : BitVec 32 := Scalar.addi v7 c127_i32
  let c7_i32 : BitVec 32 := 7#32
  let v9 : BitVec 32 := Scalar.shrui v8 c7_i32
  let c0_i32_3 : BitVec 32 := 0#32
  let v10 : BitVec 32 := Scalar.select v3 v9 c0_i32_3
  let c128_i32 : BitVec 32 := 128#32
  let v11 : BitVec 32 := Scalar.muli v10 c128_i32
  let v12 : BitVec 32 := Scalar.addi c0_i32_4 v11
  let c1_i32 : BitVec 32 := 1#32
  let v13 : BitVec 1 := Scalar.cmpi .sgt arg1 c1_i32
  let c127_i32_7 : BitVec 32 := 127#32
  let v18 : BitVec 32 := Scalar.addi v17 c127_i32_7
  let c7_i32_8 : BitVec 32 := 7#32
  let v19 : BitVec 32 := Scalar.shrui v18 c7_i32_8
  let c0_i32_9 : BitVec 32 := 0#32
  let v20 : BitVec 32 := Scalar.select v13 v19 c0_i32_9
  let c128_i32_10 : BitVec 32 := 128#32
  let v21 : BitVec 32 := Scalar.muli v20 c128_i32_10
  let v22 : BitVec 32 := Scalar.addi v12 v21
  let c2_i32 : BitVec 32 := 2#32
  let v23 : BitVec 1 := Scalar.cmpi .sgt arg1 c2_i32
  let c127_i32_13 : BitVec 32 := 127#32
  let v28 : BitVec 32 := Scalar.addi v27 c127_i32_13
  let c7_i32_14 : BitVec 32 := 7#32
  let v29 : BitVec 32 := Scalar.shrui v28 c7_i32_14
  let c0_i32_15 : BitVec 32 := 0#32
  let v30 : BitVec 32 := Scalar.select v23 v29 c0_i32_15
  let c128_i32_16 : BitVec 32 := 128#32
  let v31 : BitVec 32 := Scalar.muli v30 c128_i32_16
  let v32 : BitVec 32 := Scalar.addi v22 v31
  let c0_i32_21 : BitVec 32 := 0#32
  let c127_i32_18 : BitVec 32 := 127#32
  let v38 : BitVec 32 := Scalar.addi v37 c127_i32_18
  let c7_i32_19 : BitVec 32 := 7#32
  let v39 : BitVec 32 := Scalar.shrui v38 c7_i32_19
  let v40 : BitVec 32 := Scalar.subi v39 c0_i32_21
  let c1_i32_22 : BitVec 32 := 1#32
  let v42 : BitVec 32 := Scalar.divsi v40 c1_i32_22
  let v43 : BitVec 32 := Scalar.muli v42 c1_i32_22
  let v44 : BitVec 32 := Scalar.addi c0_i32_21 v43
  let c1_i32_24 : BitVec 32 := 1#32
  let arg16 : BitVec 32 := Scf.iv v44 c1_i32_24 k0_t2
  let c128_i32_26 : BitVec 32 := 128#32
  let v48 : BitVec 32 := Scalar.muli arg16 c128_i32_26
  let v49 : BitVec 32 := Scalar.addi v32 v48
  let v50 : BitVec 32 := v49
  let v51 : Index := Scalar.indexCast v50
  let c0 : Index := 0#32
  ![v51.toNat, 0]
def k0_off7 (i : grid0.Coords) (v7 : BitVec 32) (v17 : BitVec 32) (v27 : BitVec 32) (v37 : BitVec 32) (k0_t2 : Fin (k0_t2_loop v37).trips) : Fin 2 → Nat :=
  let c0_i32_4 : BitVec 32 := 0#32
  let arg1 : BitVec 32 := BitVec.ofNat 32 (i 1).val
  let c0_i32_1 : BitVec 32 := 0#32
  let v3 : BitVec 1 := Scalar.cmpi .sgt arg1 c0_i32_1
  let c127_i32 : BitVec 32 := 127#32
  let v8 : BitVec 32 := Scalar.addi v7 c127_i32
  let c7_i32 : BitVec 32 := 7#32
  let v9 : BitVec 32 := Scalar.shrui v8 c7_i32
  let c0_i32_3 : BitVec 32 := 0#32
  let v10 : BitVec 32 := Scalar.select v3 v9 c0_i32_3
  let c128_i32 : BitVec 32 := 128#32
  let v11 : BitVec 32 := Scalar.muli v10 c128_i32
  let v12 : BitVec 32 := Scalar.addi c0_i32_4 v11
  let c1_i32 : BitVec 32 := 1#32
  let v13 : BitVec 1 := Scalar.cmpi .sgt arg1 c1_i32
  let c127_i32_7 : BitVec 32 := 127#32
  let v18 : BitVec 32 := Scalar.addi v17 c127_i32_7
  let c7_i32_8 : BitVec 32 := 7#32
  let v19 : BitVec 32 := Scalar.shrui v18 c7_i32_8
  let c0_i32_9 : BitVec 32 := 0#32
  let v20 : BitVec 32 := Scalar.select v13 v19 c0_i32_9
  let c128_i32_10 : BitVec 32 := 128#32
  let v21 : BitVec 32 := Scalar.muli v20 c128_i32_10
  let v22 : BitVec 32 := Scalar.addi v12 v21
  let c2_i32 : BitVec 32 := 2#32
  let v23 : BitVec 1 := Scalar.cmpi .sgt arg1 c2_i32
  let c127_i32_13 : BitVec 32 := 127#32
  let v28 : BitVec 32 := Scalar.addi v27 c127_i32_13
  let c7_i32_14 : BitVec 32 := 7#32
  let v29 : BitVec 32 := Scalar.shrui v28 c7_i32_14
  let c0_i32_15 : BitVec 32 := 0#32
  let v30 : BitVec 32 := Scalar.select v23 v29 c0_i32_15
  let c128_i32_16 : BitVec 32 := 128#32
  let v31 : BitVec 32 := Scalar.muli v30 c128_i32_16
  let v32 : BitVec 32 := Scalar.addi v22 v31
  let c0_i32_21 : BitVec 32 := 0#32
  let c127_i32_18 : BitVec 32 := 127#32
  let v38 : BitVec 32 := Scalar.addi v37 c127_i32_18
  let c7_i32_19 : BitVec 32 := 7#32
  let v39 : BitVec 32 := Scalar.shrui v38 c7_i32_19
  let v40 : BitVec 32 := Scalar.subi v39 c0_i32_21
  let c1_i32_22 : BitVec 32 := 1#32
  let v42 : BitVec 32 := Scalar.divsi v40 c1_i32_22
  let v43 : BitVec 32 := Scalar.muli v42 c1_i32_22
  let v44 : BitVec 32 := Scalar.addi c0_i32_21 v43
  let c1_i32_24 : BitVec 32 := 1#32
  let arg16 : BitVec 32 := Scf.iv v44 c1_i32_24 k0_t2
  let c128_i32_26 : BitVec 32 := 128#32
  let v48 : BitVec 32 := Scalar.muli arg16 c128_i32_26
  let v49 : BitVec 32 := Scalar.addi v32 v48
  let v50 : BitVec 32 := v49
  let v53 : Index := Scalar.indexCast v50
  let c0_27 : Index := 0#32
  ![v53.toNat, 0]

def k0_chk1 (i : grid0.Coords) (v7 : BitVec 32) (v17 : BitVec 32) (v27 : BitVec 32) (v37 : BitVec 32) : Prop :=
  ((k0_t1_loop v37).OK) ∧
  (∀ k0_t1 : Fin (k0_t1_loop v37).trips, 128 ∣ (k0_mult1 i v7 v17 v27 v37 k0_t1).toNat) ∧
  (∀ k0_t1 : Fin (k0_t1_loop v37).trips, ∀ a, (k0_off4 i v7 v17 v27 v37 k0_t1) a + S128x1024.size a ≤ S1536x1024.size a) ∧
  (∀ k0_t1 : Fin (k0_t1_loop v37).trips, ∀ a, (k0_off5 i v7 v17 v27 v37 k0_t1) a + S128x128.size a ≤ S1536x128.size a) ∧
  (∀ k0_t1 : Fin (k0_t1_loop v37).trips, ∀ (hinb : ∀ a, (k0_off4 i v7 v17 v27 v37 k0_t1) a + S128x1024.size a ≤ S1536x1024.size a), (Rect.unit (s := S1536x1024) (k0_off4 i v7 v17 v27 v37 k0_t1) S128x1024.size hinb).PackedRows (EltTy.packing .bf16)) ∧
  ((k0_t2_loop v37).OK) ∧
  (∀ k0_t2 : Fin (k0_t2_loop v37).trips, 128 ∣ (k0_mult2 i v7 v17 v27 v37 k0_t2).toNat) ∧
  (∀ k0_t2 : Fin (k0_t2_loop v37).trips, ∀ a, (k0_off6 i v7 v17 v27 v37 k0_t2) a + S128x1024.size a ≤ S1536x1024.size a) ∧
  (∀ k0_t2 : Fin (k0_t2_loop v37).trips, ∀ a, (k0_off7 i v7 v17 v27 v37 k0_t2) a + S128x128.size a ≤ S1536x128.size a) ∧
  (∀ k0_t2 : Fin (k0_t2_loop v37).trips, ∀ (hinb : ∀ a, (k0_off6 i v7 v17 v27 v37 k0_t2) a + S128x1024.size a ≤ S1536x1024.size a), (Rect.unit (s := S1536x1024) (k0_off6 i v7 v17 v27 v37 k0_t2) S128x1024.size hinb).PackedRows (EltTy.packing .bf16))
theorem k0_t1_ok : ∀ (i : grid0.Coords) (v7 : BitVec 32) (v17 : BitVec 32) (v27 : BitVec 32) (v37 : BitVec 32) (k0_hw1 : k0_chk1 i v7 v17 v27 v37), (k0_t1_loop v37).OK := fun i v7 v17 v27 v37 k0_hw1 => k0_hw1.1
theorem k0_mult1_dvd : ∀ (i : grid0.Coords) (v7 : BitVec 32) (v17 : BitVec 32) (v27 : BitVec 32) (v37 : BitVec 32) (k0_hw1 : k0_chk1 i v7 v17 v27 v37) (k0_t1 : Fin (k0_t1_loop v37).trips), 128 ∣ (k0_mult1 i v7 v17 v27 v37 k0_t1).toNat := fun i v7 v17 v27 v37 k0_hw1 k0_t1 => k0_hw1.2.1 k0_t1
theorem k0_off4_inb : ∀ (i : grid0.Coords) (v7 : BitVec 32) (v17 : BitVec 32) (v27 : BitVec 32) (v37 : BitVec 32) (k0_hw1 : k0_chk1 i v7 v17 v27 v37) (k0_t1 : Fin (k0_t1_loop v37).trips), ∀ a, (k0_off4 i v7 v17 v27 v37 k0_t1) a + S128x1024.size a ≤ S1536x1024.size a := fun i v7 v17 v27 v37 k0_hw1 k0_t1 => k0_hw1.2.2.1 k0_t1
theorem k0_off5_inb : ∀ (i : grid0.Coords) (v7 : BitVec 32) (v17 : BitVec 32) (v27 : BitVec 32) (v37 : BitVec 32) (k0_hw1 : k0_chk1 i v7 v17 v27 v37) (k0_t1 : Fin (k0_t1_loop v37).trips), ∀ a, (k0_off5 i v7 v17 v27 v37 k0_t1) a + S128x128.size a ≤ S1536x128.size a := fun i v7 v17 v27 v37 k0_hw1 k0_t1 => k0_hw1.2.2.2.1 k0_t1
theorem k0_off4_packedbf16 : ∀ (i : grid0.Coords) (v7 : BitVec 32) (v17 : BitVec 32) (v27 : BitVec 32) (v37 : BitVec 32) (k0_hw1 : k0_chk1 i v7 v17 v27 v37) (k0_t1 : Fin (k0_t1_loop v37).trips), (Rect.unit (s := S1536x1024) (k0_off4 i v7 v17 v27 v37 k0_t1) S128x1024.size (k0_off4_inb i v7 v17 v27 v37 k0_hw1 k0_t1)).PackedRows (EltTy.packing .bf16) := fun i v7 v17 v27 v37 k0_hw1 k0_t1 => k0_hw1.2.2.2.2.1 k0_t1 (k0_off4_inb i v7 v17 v27 v37 k0_hw1 k0_t1)
theorem k0_t2_ok : ∀ (i : grid0.Coords) (v7 : BitVec 32) (v17 : BitVec 32) (v27 : BitVec 32) (v37 : BitVec 32) (k0_hw1 : k0_chk1 i v7 v17 v27 v37), (k0_t2_loop v37).OK := fun i v7 v17 v27 v37 k0_hw1 => k0_hw1.2.2.2.2.2.1
theorem k0_mult2_dvd : ∀ (i : grid0.Coords) (v7 : BitVec 32) (v17 : BitVec 32) (v27 : BitVec 32) (v37 : BitVec 32) (k0_hw1 : k0_chk1 i v7 v17 v27 v37) (k0_t2 : Fin (k0_t2_loop v37).trips), 128 ∣ (k0_mult2 i v7 v17 v27 v37 k0_t2).toNat := fun i v7 v17 v27 v37 k0_hw1 k0_t2 => k0_hw1.2.2.2.2.2.2.1 k0_t2
theorem k0_off6_inb : ∀ (i : grid0.Coords) (v7 : BitVec 32) (v17 : BitVec 32) (v27 : BitVec 32) (v37 : BitVec 32) (k0_hw1 : k0_chk1 i v7 v17 v27 v37) (k0_t2 : Fin (k0_t2_loop v37).trips), ∀ a, (k0_off6 i v7 v17 v27 v37 k0_t2) a + S128x1024.size a ≤ S1536x1024.size a := fun i v7 v17 v27 v37 k0_hw1 k0_t2 => k0_hw1.2.2.2.2.2.2.2.1 k0_t2
theorem k0_off7_inb : ∀ (i : grid0.Coords) (v7 : BitVec 32) (v17 : BitVec 32) (v27 : BitVec 32) (v37 : BitVec 32) (k0_hw1 : k0_chk1 i v7 v17 v27 v37) (k0_t2 : Fin (k0_t2_loop v37).trips), ∀ a, (k0_off7 i v7 v17 v27 v37 k0_t2) a + S128x128.size a ≤ S1536x128.size a := fun i v7 v17 v27 v37 k0_hw1 k0_t2 => k0_hw1.2.2.2.2.2.2.2.2.1 k0_t2
theorem k0_off6_packedbf16 : ∀ (i : grid0.Coords) (v7 : BitVec 32) (v17 : BitVec 32) (v27 : BitVec 32) (v37 : BitVec 32) (k0_hw1 : k0_chk1 i v7 v17 v27 v37) (k0_t2 : Fin (k0_t2_loop v37).trips), (Rect.unit (s := S1536x1024) (k0_off6 i v7 v17 v27 v37 k0_t2) S128x1024.size (k0_off6_inb i v7 v17 v27 v37 k0_hw1 k0_t2)).PackedRows (EltTy.packing .bf16) := fun i v7 v17 v27 v37 k0_hw1 k0_t2 => k0_hw1.2.2.2.2.2.2.2.2.2 k0_t2 (k0_off6_inb i v7 v17 v27 v37 k0_hw1 k0_t2)

def k0_cond2 (i : grid0.Coords) : BitVec 1 :=
  let arg1 : BitVec 32 := BitVec.ofNat 32 (i 1).val
  let c3_i32 : BitVec 32 := 3#32
  let v45 : BitVec 1 := Scalar.cmpi .eq arg1 c3_i32
  let v46 : BitVec 32 := Scalar.extui v45
  let c0_i32_25 : BitVec 32 := 0#32
  let v47 : BitVec 1 := Scalar.cmpi .ne v46 c0_i32_25
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S33792x1024 : Shape := ⟨2, ![33792, 1024]⟩
abbrev S16x33792 : Shape := ⟨2, ![16, 33792]⟩
abbrev S1x33792 : Shape := ⟨2, ![1, 33792]⟩
abbrev S16x1024x256 : Shape := ⟨3, ![16, 1024, 256]⟩
abbrev S16x256x1024 : Shape := ⟨3, ![16, 256, 1024]⟩
abbrev S1024 : Shape := ⟨1, ![1024]⟩
abbrev S32768x1024 : Shape := ⟨2, ![32768, 1024]⟩
abbrev S16x32768 : Shape := ⟨2, ![16, 32768]⟩
abbrev S32768x16 : Shape := ⟨2, ![32768, 16]⟩
abbrev S_ : Shape := ⟨0, ![]⟩
abbrev S1x1024x256 : Shape := ⟨3, ![1, 1024, 256]⟩
abbrev S1024x256 : Shape := ⟨2, ![1024, 256]⟩
abbrev S32768x256 : Shape := ⟨2, ![32768, 256]⟩
abbrev S32768x1 : Shape := ⟨2, ![32768, 1]⟩
abbrev S1x256x1024 : Shape := ⟨3, ![1, 256, 1024]⟩
abbrev S256x1024 : Shape := ⟨2, ![256, 1024]⟩
abbrev S32768 : Shape := ⟨1, ![32768]⟩
abbrev S1x1024 : Shape := ⟨2, ![1, 1024]⟩

abbrev nBuf : Space → Nat
  | .hbm => 414
  | .vmem => 0
  | .smem => 0
  | _ => 0

abbrev hbmTy0_0 (i : Nat) : BufTy := match i % 128 with
  | 0 => ⟨S33792x1024, .f32⟩
  | 1 => ⟨S16x33792, .f32⟩
  | 2 => ⟨S1x33792, .i32⟩
  | 3 => ⟨S16x1024x256, .f32⟩
  | 4 => ⟨S16x1024x256, .f32⟩
  | 5 => ⟨S16x256x1024, .f32⟩
  | 6 => ⟨S1024, .f32⟩
  | 7 => ⟨S1024, .f32⟩
  | 8 => ⟨S32768x1024, .f32⟩
  | 9 => ⟨S16x32768, .f32⟩
  | 10 => ⟨S32768x16, .f32⟩
  | 11 => ⟨S_, .f32⟩
  | 12 => ⟨S32768x1024, .f32⟩
  | 13 => ⟨S1x1024x256, .f32⟩
  | 14 => ⟨S1024x256, .f32⟩
  | 15 => ⟨S32768x256, .f32⟩
  | 16 => ⟨S32768x256, .f32⟩
  | 17 => ⟨S32768x256, .f32⟩
  | 18 => ⟨S_, .f32⟩
  | 19 => ⟨S32768x256, .f32⟩
  | 20 => ⟨S32768x256, .f32⟩
  | 21 => ⟨S_, .f32⟩
  | 22 => ⟨S32768x256, .f32⟩
  | 23 => ⟨S32768x256, .f32⟩
  | 24 => ⟨S32768x256, .f32⟩
  | 25 => ⟨S1x1024x256, .f32⟩
  | 26 => ⟨S1024x256, .f32⟩
  | 27 => ⟨S32768x256, .f32⟩
  | 28 => ⟨S32768x256, .f32⟩
  | 29 => ⟨S32768x1, .f32⟩
  | 30 => ⟨S1x256x1024, .f32⟩
  | 31 => ⟨S256x1024, .f32⟩
  | 32 => ⟨S32768x1024, .f32⟩
  | 33 => ⟨S32768x1024, .f32⟩
  | 34 => ⟨S32768x1024, .f32⟩
  | 35 => ⟨S32768x1024, .f32⟩
  | 36 => ⟨S1x1024x256, .f32⟩
  | 37 => ⟨S1024x256, .f32⟩
  | 38 => ⟨S32768x256, .f32⟩
  | 39 => ⟨S32768x256, .f32⟩
  | 40 => ⟨S32768x256, .f32⟩
  | 41 => ⟨S_, .f32⟩
  | 42 => ⟨S32768x256, .f32⟩
  | 43 => ⟨S32768x256, .f32⟩
  | 44 => ⟨S_, .f32⟩
  | 45 => ⟨S32768x256, .f32⟩
  | 46 => ⟨S32768x256, .f32⟩
  | 47 => ⟨S32768x256, .f32⟩
  | 48 => ⟨S1x1024x256, .f32⟩
  | 49 => ⟨S1024x256, .f32⟩
  | 50 => ⟨S32768x256, .f32⟩
  | 51 => ⟨S32768x256, .f32⟩
  | 52 => ⟨S32768x1, .f32⟩
  | 53 => ⟨S1x256x1024, .f32⟩
  | 54 => ⟨S256x1024, .f32⟩
  | 55 => ⟨S32768x1024, .f32⟩
  | 56 => ⟨S32768x1024, .f32⟩
  | 57 => ⟨S32768x1024, .f32⟩
  | 58 => ⟨S32768x1024, .f32⟩
  | 59 => ⟨S1x1024x256, .f32⟩
  | 60 => ⟨S1024x256, .f32⟩
  | 61 => ⟨S32768x256, .f32⟩
  | 62 => ⟨S32768x256, .f32⟩
  | 63 => ⟨S32768x256, .f32⟩
  | 64 => ⟨S_, .f32⟩
  | 65 => ⟨S32768x256, .f32⟩
  | 66 => ⟨S32768x256, .f32⟩
  | 67 => ⟨S_, .f32⟩
  | 68 => ⟨S32768x256, .f32⟩
  | 69 => ⟨S32768x256, .f32⟩
  | 70 => ⟨S32768x256, .f32⟩
  | 71 => ⟨S1x1024x256, .f32⟩
  | 72 => ⟨S1024x256, .f32⟩
  | 73 => ⟨S32768x256, .f32⟩
  | 74 => ⟨S32768x256, .f32⟩
  | 75 => ⟨S32768x1, .f32⟩
  | 76 => ⟨S1x256x1024, .f32⟩
  | 77 => ⟨S256x1024, .f32⟩
  | 78 => ⟨S32768x1024, .f32⟩
  | 79 => ⟨S32768x1024, .f32⟩
  | 80 => ⟨S32768x1024, .f32⟩
  | 81 => ⟨S32768x1024, .f32⟩
  | 82 => ⟨S1x1024x256, .f32⟩
  | 83 => ⟨S1024x256, .f32⟩
  | 84 => ⟨S32768x256, .f32⟩
  | 85 => ⟨S32768x256, .f32⟩
  | 86 => ⟨S32768x256, .f32⟩
  | 87 => ⟨S_, .f32⟩
  | 88 => ⟨S32768x256, .f32⟩
  | 89 => ⟨S32768x256, .f32⟩
  | 90 => ⟨S_, .f32⟩
  | 91 => ⟨S32768x256, .f32⟩
  | 92 => ⟨S32768x256, .f32⟩
  | 93 => ⟨S32768x256, .f32⟩
  | 94 => ⟨S1x1024x256, .f32⟩
  | 95 => ⟨S1024x256, .f32⟩
  | 96 => ⟨S32768x256, .f32⟩
  | 97 => ⟨S32768x256, .f32⟩
  | 98 => ⟨S32768x1, .f32⟩
  | 99 => ⟨S1x256x1024, .f32⟩
  | 100 => ⟨S256x1024, .f32⟩
  | 101 => ⟨S32768x1024, .f32⟩
  | 102 => ⟨S32768x1024, .f32⟩
  | 103 => ⟨S32768x1024, .f32⟩
  | 104 => ⟨S32768x1024, .f32⟩
  | 105 => ⟨S1x1024x256, .f32⟩
  | 106 => ⟨S1024x256, .f32⟩
  | 107 => ⟨S32768x256, .f32⟩
  | 108 => ⟨S32768x256, .f32⟩
  | 109 => ⟨S32768x256, .f32⟩
  | 110 => ⟨S_, .f32⟩
  | 111 => ⟨S32768x256, .f32⟩
  | 112 => ⟨S32768x256, .f32⟩
  | 113 => ⟨S_, .f32⟩
  | 114 => ⟨S32768x256, .f32⟩
  | 115 => ⟨S32768x256, .f32⟩
  | 116 => ⟨S32768x256, .f32⟩
  | 117 => ⟨S1x1024x256, .f32⟩
  | 118 => ⟨S1024x256, .f32⟩
  | 119 => ⟨S32768x256, .f32⟩
  | 120 => ⟨S32768x256, .f32⟩
  | 121 => ⟨S32768x1, .f32⟩
  | 122 => ⟨S1x256x1024, .f32⟩
  | 123 => ⟨S256x1024, .f32⟩
  | 124 => ⟨S32768x1024, .f32⟩
  | 125 => ⟨S32768x1024, .f32⟩
  | 126 => ⟨S32768x1024, .f32⟩
  | 127 => ⟨S32768x1024, .f32⟩
  | _ => ⟨S33792x1024, .f32⟩

abbrev hbmTy0_1 (i : Nat) : BufTy := match i % 128 with
  | 0 => ⟨S1x1024x256, .f32⟩
  | 1 => ⟨S1024x256, .f32⟩
  | 2 => ⟨S32768x256, .f32⟩
  | 3 => ⟨S32768x256, .f32⟩
  | 4 => ⟨S32768x256, .f32⟩
  | 5 => ⟨S_, .f32⟩
  | 6 => ⟨S32768x256, .f32⟩
  | 7 => ⟨S32768x256, .f32⟩
  | 8 => ⟨S_, .f32⟩
  | 9 => ⟨S32768x256, .f32⟩
  | 10 => ⟨S32768x256, .f32⟩
  | 11 => ⟨S32768x256, .f32⟩
  | 12 => ⟨S1x1024x256, .f32⟩
  | 13 => ⟨S1024x256, .f32⟩
  | 14 => ⟨S32768x256, .f32⟩
  | 15 => ⟨S32768x256, .f32⟩
  | 16 => ⟨S32768x1, .f32⟩
  | 17 => ⟨S1x256x1024, .f32⟩
  | 18 => ⟨S256x1024, .f32⟩
  | 19 => ⟨S32768x1024, .f32⟩
  | 20 => ⟨S32768x1024, .f32⟩
  | 21 => ⟨S32768x1024, .f32⟩
  | 22 => ⟨S32768x1024, .f32⟩
  | 23 => ⟨S1x1024x256, .f32⟩
  | 24 => ⟨S1024x256, .f32⟩
  | 25 => ⟨S32768x256, .f32⟩
  | 26 => ⟨S32768x256, .f32⟩
  | 27 => ⟨S32768x256, .f32⟩
  | 28 => ⟨S_, .f32⟩
  | 29 => ⟨S32768x256, .f32⟩
  | 30 => ⟨S32768x256, .f32⟩
  | 31 => ⟨S_, .f32⟩
  | 32 => ⟨S32768x256, .f32⟩
  | 33 => ⟨S32768x256, .f32⟩
  | 34 => ⟨S32768x256, .f32⟩
  | 35 => ⟨S1x1024x256, .f32⟩
  | 36 => ⟨S1024x256, .f32⟩
  | 37 => ⟨S32768x256, .f32⟩
  | 38 => ⟨S32768x256, .f32⟩
  | 39 => ⟨S32768x1, .f32⟩
  | 40 => ⟨S1x256x1024, .f32⟩
  | 41 => ⟨S256x1024, .f32⟩
  | 42 => ⟨S32768x1024, .f32⟩
  | 43 => ⟨S32768x1024, .f32⟩
  | 44 => ⟨S32768x1024, .f32⟩
  | 45 => ⟨S32768x1024, .f32⟩
  | 46 => ⟨S1x1024x256, .f32⟩
  | 47 => ⟨S1024x256, .f32⟩
  | 48 => ⟨S32768x256, .f32⟩
  | 49 => ⟨S32768x256, .f32⟩
  | 50 => ⟨S32768x256, .f32⟩
  | 51 => ⟨S_, .f32⟩
  | 52 => ⟨S32768x256, .f32⟩
  | 53 => ⟨S32768x256, .f32⟩
  | 54 => ⟨S_, .f32⟩
  | 55 => ⟨S32768x256, .f32⟩
  | 56 => ⟨S32768x256, .f32⟩
  | 57 => ⟨S32768x256, .f32⟩
  | 58 => ⟨S1x1024x256, .f32⟩
  | 59 => ⟨S1024x256, .f32⟩
  | 60 => ⟨S32768x256, .f32⟩
  | 61 => ⟨S32768x256, .f32⟩
  | 62 => ⟨S32768x1, .f32⟩
  | 63 => ⟨S1x256x1024, .f32⟩
  | 64 => ⟨S256x1024, .f32⟩
  | 65 => ⟨S32768x1024, .f32⟩
  | 66 => ⟨S32768x1024, .f32⟩
  | 67 => ⟨S32768x1024, .f32⟩
  | 68 => ⟨S32768x1024, .f32⟩
  | 69 => ⟨S1x1024x256, .f32⟩
  | 70 => ⟨S1024x256, .f32⟩
  | 71 => ⟨S32768x256, .f32⟩
  | 72 => ⟨S32768x256, .f32⟩
  | 73 => ⟨S32768x256, .f32⟩
  | 74 => ⟨S_, .f32⟩
  | 75 => ⟨S32768x256, .f32⟩
  | 76 => ⟨S32768x256, .f32⟩
  | 77 => ⟨S_, .f32⟩
  | 78 => ⟨S32768x256, .f32⟩
  | 79 => ⟨S32768x256, .f32⟩
  | 80 => ⟨S32768x256, .f32⟩
  | 81 => ⟨S1x1024x256, .f32⟩
  | 82 => ⟨S1024x256, .f32⟩
  | 83 => ⟨S32768x256, .f32⟩
  | 84 => ⟨S32768x256, .f32⟩
  | 85 => ⟨S32768x1, .f32⟩
  | 86 => ⟨S1x256x1024, .f32⟩
  | 87 => ⟨S256x1024, .f32⟩
  | 88 => ⟨S32768x1024, .f32⟩
  | 89 => ⟨S32768x1024, .f32⟩
  | 90 => ⟨S32768x1024, .f32⟩
  | 91 => ⟨S32768x1024, .f32⟩
  | 92 => ⟨S1x1024x256, .f32⟩
  | 93 => ⟨S1024x256, .f32⟩
  | 94 => ⟨S32768x256, .f32⟩
  | 95 => ⟨S32768x256, .f32⟩
  | 96 => ⟨S32768x256, .f32⟩
  | 97 => ⟨S_, .f32⟩
  | 98 => ⟨S32768x256, .f32⟩
  | 99 => ⟨S32768x256, .f32⟩
  | 100 => ⟨S_, .f32⟩
  | 101 => ⟨S32768x256, .f32⟩
  | 102 => ⟨S32768x256, .f32⟩
  | 103 => ⟨S32768x256, .f32⟩
  | 104 => ⟨S1x1024x256, .f32⟩
  | 105 => ⟨S1024x256, .f32⟩
  | 106 => ⟨S32768x256, .f32⟩
  | 107 => ⟨S32768x256, .f32⟩
  | 108 => ⟨S32768x1, .f32⟩
  | 109 => ⟨S1x256x1024, .f32⟩
  | 110 => ⟨S256x1024, .f32⟩
  | 111 => ⟨S32768x1024, .f32⟩
  | 112 => ⟨S32768x1024, .f32⟩
  | 113 => ⟨S32768x1024, .f32⟩
  | 114 => ⟨S32768x1024, .f32⟩
  | 115 => ⟨S1x1024x256, .f32⟩
  | 116 => ⟨S1024x256, .f32⟩
  | 117 => ⟨S32768x256, .f32⟩
  | 118 => ⟨S32768x256, .f32⟩
  | 119 => ⟨S32768x256, .f32⟩
  | 120 => ⟨S_, .f32⟩
  | 121 => ⟨S32768x256, .f32⟩
  | 122 => ⟨S32768x256, .f32⟩
  | 123 => ⟨S_, .f32⟩
  | 124 => ⟨S32768x256, .f32⟩
  | 125 => ⟨S32768x256, .f32⟩
  | 126 => ⟨S32768x256, .f32⟩
  | 127 => ⟨S1x1024x256, .f32⟩
  | _ => ⟨S33792x1024, .f32⟩

abbrev hbmTy0_2 (i : Nat) : BufTy := match i % 128 with
  | 0 => ⟨S1024x256, .f32⟩
  | 1 => ⟨S32768x256, .f32⟩
  | 2 => ⟨S32768x256, .f32⟩
  | 3 => ⟨S32768x1, .f32⟩
  | 4 => ⟨S1x256x1024, .f32⟩
  | 5 => ⟨S256x1024, .f32⟩
  | 6 => ⟨S32768x1024, .f32⟩
  | 7 => ⟨S32768x1024, .f32⟩
  | 8 => ⟨S32768x1024, .f32⟩
  | 9 => ⟨S32768x1024, .f32⟩
  | 10 => ⟨S1x1024x256, .f32⟩
  | 11 => ⟨S1024x256, .f32⟩
  | 12 => ⟨S32768x256, .f32⟩
  | 13 => ⟨S32768x256, .f32⟩
  | 14 => ⟨S32768x256, .f32⟩
  | 15 => ⟨S_, .f32⟩
  | 16 => ⟨S32768x256, .f32⟩
  | 17 => ⟨S32768x256, .f32⟩
  | 18 => ⟨S_, .f32⟩
  | 19 => ⟨S32768x256, .f32⟩
  | 20 => ⟨S32768x256, .f32⟩
  | 21 => ⟨S32768x256, .f32⟩
  | 22 => ⟨S1x1024x256, .f32⟩
  | 23 => ⟨S1024x256, .f32⟩
  | 24 => ⟨S32768x256, .f32⟩
  | 25 => ⟨S32768x256, .f32⟩
  | 26 => ⟨S32768x1, .f32⟩
  | 27 => ⟨S1x256x1024, .f32⟩
  | 28 => ⟨S256x1024, .f32⟩
  | 29 => ⟨S32768x1024, .f32⟩
  | 30 => ⟨S32768x1024, .f32⟩
  | 31 => ⟨S32768x1024, .f32⟩
  | 32 => ⟨S32768x1024, .f32⟩
  | 33 => ⟨S1x1024x256, .f32⟩
  | 34 => ⟨S1024x256, .f32⟩
  | 35 => ⟨S32768x256, .f32⟩
  | 36 => ⟨S32768x256, .f32⟩
  | 37 => ⟨S32768x256, .f32⟩
  | 38 => ⟨S_, .f32⟩
  | 39 => ⟨S32768x256, .f32⟩
  | 40 => ⟨S32768x256, .f32⟩
  | 41 => ⟨S_, .f32⟩
  | 42 => ⟨S32768x256, .f32⟩
  | 43 => ⟨S32768x256, .f32⟩
  | 44 => ⟨S32768x256, .f32⟩
  | 45 => ⟨S1x1024x256, .f32⟩
  | 46 => ⟨S1024x256, .f32⟩
  | 47 => ⟨S32768x256, .f32⟩
  | 48 => ⟨S32768x256, .f32⟩
  | 49 => ⟨S32768x1, .f32⟩
  | 50 => ⟨S1x256x1024, .f32⟩
  | 51 => ⟨S256x1024, .f32⟩
  | 52 => ⟨S32768x1024, .f32⟩
  | 53 => ⟨S32768x1024, .f32⟩
  | 54 => ⟨S32768x1024, .f32⟩
  | 55 => ⟨S32768x1024, .f32⟩
  | 56 => ⟨S1x1024x256, .f32⟩
  | 57 => ⟨S1024x256, .f32⟩
  | 58 => ⟨S32768x256, .f32⟩
  | 59 => ⟨S32768x256, .f32⟩
  | 60 => ⟨S32768x256, .f32⟩
  | 61 => ⟨S_, .f32⟩
  | 62 => ⟨S32768x256, .f32⟩
  | 63 => ⟨S32768x256, .f32⟩
  | 64 => ⟨S_, .f32⟩
  | 65 => ⟨S32768x256, .f32⟩
  | 66 => ⟨S32768x256, .f32⟩
  | 67 => ⟨S32768x256, .f32⟩
  | 68 => ⟨S1x1024x256, .f32⟩
  | 69 => ⟨S1024x256, .f32⟩
  | 70 => ⟨S32768x256, .f32⟩
  | 71 => ⟨S32768x256, .f32⟩
  | 72 => ⟨S32768x1, .f32⟩
  | 73 => ⟨S1x256x1024, .f32⟩
  | 74 => ⟨S256x1024, .f32⟩
  | 75 => ⟨S32768x1024, .f32⟩
  | 76 => ⟨S32768x1024, .f32⟩
  | 77 => ⟨S32768x1024, .f32⟩
  | 78 => ⟨S32768x1024, .f32⟩
  | 79 => ⟨S1x1024x256, .f32⟩
  | 80 => ⟨S1024x256, .f32⟩
  | 81 => ⟨S32768x256, .f32⟩
  | 82 => ⟨S32768x256, .f32⟩
  | 83 => ⟨S32768x256, .f32⟩
  | 84 => ⟨S_, .f32⟩
  | 85 => ⟨S32768x256, .f32⟩
  | 86 => ⟨S32768x256, .f32⟩
  | 87 => ⟨S_, .f32⟩
  | 88 => ⟨S32768x256, .f32⟩
  | 89 => ⟨S32768x256, .f32⟩
  | 90 => ⟨S32768x256, .f32⟩
  | 91 => ⟨S1x1024x256, .f32⟩
  | 92 => ⟨S1024x256, .f32⟩
  | 93 => ⟨S32768x256, .f32⟩
  | 94 => ⟨S32768x256, .f32⟩
  | 95 => ⟨S32768x1, .f32⟩
  | 96 => ⟨S1x256x1024, .f32⟩
  | 97 => ⟨S256x1024, .f32⟩
  | 98 => ⟨S32768x1024, .f32⟩
  | 99 => ⟨S32768x1024, .f32⟩
  | 100 => ⟨S32768x1024, .f32⟩
  | 101 => ⟨S32768x1024, .f32⟩
  | 102 => ⟨S1x1024x256, .f32⟩
  | 103 => ⟨S1024x256, .f32⟩
  | 104 => ⟨S32768x256, .f32⟩
  | 105 => ⟨S32768x256, .f32⟩
  | 106 => ⟨S32768x256, .f32⟩
  | 107 => ⟨S_, .f32⟩
  | 108 => ⟨S32768x256, .f32⟩
  | 109 => ⟨S32768x256, .f32⟩
  | 110 => ⟨S_, .f32⟩
  | 111 => ⟨S32768x256, .f32⟩
  | 112 => ⟨S32768x256, .f32⟩
  | 113 => ⟨S32768x256, .f32⟩
  | 114 => ⟨S1x1024x256, .f32⟩
  | 115 => ⟨S1024x256, .f32⟩
  | 116 => ⟨S32768x256, .f32⟩
  | 117 => ⟨S32768x256, .f32⟩
  | 118 => ⟨S32768x1, .f32⟩
  | 119 => ⟨S1x256x1024, .f32⟩
  | 120 => ⟨S256x1024, .f32⟩
  | 121 => ⟨S32768x1024, .f32⟩
  | 122 => ⟨S32768x1024, .f32⟩
  | 123 => ⟨S32768x1024, .f32⟩
  | 124 => ⟨S32768x1024, .f32⟩
  | 125 => ⟨S_, .f32⟩
  | 126 => ⟨S32768x1024, .f32⟩
  | 127 => ⟨S32768x1024, .f32⟩
  | _ => ⟨S33792x1024, .f32⟩

abbrev hbmTy0_3 (i : Nat) : BufTy := match i % 128 with
  | 0 => ⟨S32768x1024, .f32⟩
  | 1 => ⟨S_, .f32⟩
  | 2 => ⟨S32768, .f32⟩
  | 3 => ⟨S32768x1, .f32⟩
  | 4 => ⟨S_, .f32⟩
  | 5 => ⟨S32768x1, .f32⟩
  | 6 => ⟨S32768x1, .f32⟩
  | 7 => ⟨S32768x1024, .f32⟩
  | 8 => ⟨S32768x1024, .f32⟩
  | 9 => ⟨S32768x1024, .f32⟩
  | 10 => ⟨S_, .f32⟩
  | 11 => ⟨S32768, .f32⟩
  | 12 => ⟨S32768x1, .f32⟩
  | 13 => ⟨S_, .f32⟩
  | 14 => ⟨S32768x1, .f32⟩
  | 15 => ⟨S32768x1, .f32⟩
  | 16 => ⟨S32768x1024, .f32⟩
  | 17 => ⟨S32768x1024, .f32⟩
  | 18 => ⟨S_, .f32⟩
  | 19 => ⟨S32768x1, .f32⟩
  | 20 => ⟨S32768x1, .f32⟩
  | 21 => ⟨S32768x1, .f32⟩
  | 22 => ⟨S32768x1024, .f32⟩
  | 23 => ⟨S32768x1024, .f32⟩
  | 24 => ⟨S1x1024, .f32⟩
  | 25 => ⟨S32768x1024, .f32⟩
  | 26 => ⟨S32768x1024, .f32⟩
  | 27 => ⟨S1x1024, .f32⟩
  | 28 => ⟨S32768x1024, .f32⟩
  | 29 => ⟨S32768x1024, .f32⟩
  | _ => ⟨S33792x1024, .f32⟩

abbrev hbmTy (i : Nat) : BufTy := match i / 128 with
  | 0 => hbmTy0_0 i
  | 1 => hbmTy0_1 i
  | 2 => hbmTy0_2 i
  | 3 => hbmTy0_3 i
  | _ => ⟨S33792x1024, .f32⟩

abbrev bufTy : (tb : Table) → Fin (tcTables nBuf tb) → BufTy
  | .hbm, ⟨i, _⟩ => hbmTy i
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_v0 : Ref sig .tc := ⟨.hbm, 62, rfl⟩
abbrev main_call2_v1 : Ref sig .tc := ⟨.hbm, 63, rfl⟩
abbrev main_call2_cst : Ref sig .tc := ⟨.hbm, 64, rfl⟩
abbrev main_call2_v2 : Ref sig .tc := ⟨.hbm, 65, rfl⟩
abbrev main_call2_v3 : Ref sig .tc := ⟨.hbm, 66, rfl⟩
abbrev main_call2_cst_0 : Ref sig .tc := ⟨.hbm, 67, rfl⟩
abbrev main_call2_v4 : Ref sig .tc := ⟨.hbm, 68, rfl⟩
abbrev main_call2_v5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_call4_v0 : Ref sig .tc := ⟨.hbm, 108, rfl⟩
abbrev main_call4_v1 : Ref sig .tc := ⟨.hbm, 109, rfl⟩
abbrev main_call4_cst : Ref sig .tc := ⟨.hbm, 110, rfl⟩
abbrev main_call4_v2 : Ref sig .tc := ⟨.hbm, 111, rfl⟩
abbrev main_call4_v3 : Ref sig .tc := ⟨.hbm, 112, rfl⟩
abbrev main_call4_cst_0 : Ref sig .tc := ⟨.hbm, 113, rfl⟩
abbrev main_call4_v4 : Ref sig .tc := ⟨.hbm, 114, rfl⟩
abbrev main_call4_v5 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_call5_v0 : Ref sig .tc := ⟨.hbm, 131, rfl⟩
abbrev main_call5_v1 : Ref sig .tc := ⟨.hbm, 132, rfl⟩
abbrev main_call5_cst : Ref sig .tc := ⟨.hbm, 133, rfl⟩
abbrev main_call5_v2 : Ref sig .tc := ⟨.hbm, 134, rfl⟩
abbrev main_call5_v3 : Ref sig .tc := ⟨.hbm, 135, rfl⟩
abbrev main_call5_cst_0 : Ref sig .tc := ⟨.hbm, 136, rfl⟩
abbrev main_call5_v4 : Ref sig .tc := ⟨.hbm, 137, rfl⟩
abbrev main_call5_v5 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_call6_v0 : Ref sig .tc := ⟨.hbm, 154, rfl⟩
abbrev main_call6_v1 : Ref sig .tc := ⟨.hbm, 155, rfl⟩
abbrev main_call6_cst : Ref sig .tc := ⟨.hbm, 156, rfl⟩
abbrev main_call6_v2 : Ref sig .tc := ⟨.hbm, 157, rfl⟩
abbrev main_call6_v3 : Ref sig .tc := ⟨.hbm, 158, rfl⟩
abbrev main_call6_cst_0 : Ref sig .tc := ⟨.hbm, 159, rfl⟩
abbrev main_call6_v4 : Ref sig .tc := ⟨.hbm, 160, rfl⟩
abbrev main_call6_v5 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_call7_v0 : Ref sig .tc := ⟨.hbm, 177, rfl⟩
abbrev main_call7_v1 : Ref sig .tc := ⟨.hbm, 178, rfl⟩
abbrev main_call7_cst : Ref sig .tc := ⟨.hbm, 179, rfl⟩
abbrev main_call7_v2 : Ref sig .tc := ⟨.hbm, 180, rfl⟩
abbrev main_call7_v3 : Ref sig .tc := ⟨.hbm, 181, rfl⟩
abbrev main_call7_cst_0 : Ref sig .tc := ⟨.hbm, 182, rfl⟩
abbrev main_call7_v4 : Ref sig .tc := ⟨.hbm, 183, rfl⟩
abbrev main_call7_v5 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_call8_v0 : Ref sig .tc := ⟨.hbm, 200, rfl⟩
abbrev main_call8_v1 : Ref sig .tc := ⟨.hbm, 201, rfl⟩
abbrev main_call8_cst : Ref sig .tc := ⟨.hbm, 202, rfl⟩
abbrev main_call8_v2 : Ref sig .tc := ⟨.hbm, 203, rfl⟩
abbrev main_call8_v3 : Ref sig .tc := ⟨.hbm, 204, rfl⟩
abbrev main_call8_cst_0 : Ref sig .tc := ⟨.hbm, 205, rfl⟩
abbrev main_call8_v4 : Ref sig .tc := ⟨.hbm, 206, rfl⟩
abbrev main_call8_v5 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_call9_v0 : Ref sig .tc := ⟨.hbm, 223, rfl⟩
abbrev main_call9_v1 : Ref sig .tc := ⟨.hbm, 224, rfl⟩
abbrev main_call9_cst : Ref sig .tc := ⟨.hbm, 225, rfl⟩
abbrev main_call9_v2 : Ref sig .tc := ⟨.hbm, 226, rfl⟩
abbrev main_call9_v3 : Ref sig .tc := ⟨.hbm, 227, rfl⟩
abbrev main_call9_cst_0 : Ref sig .tc := ⟨.hbm, 228, rfl⟩
abbrev main_call9_v4 : Ref sig .tc := ⟨.hbm, 229, rfl⟩
abbrev main_call9_v5 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_call10_v0 : Ref sig .tc := ⟨.hbm, 246, rfl⟩
abbrev main_call10_v1 : Ref sig .tc := ⟨.hbm, 247, rfl⟩
abbrev main_call10_cst : Ref sig .tc := ⟨.hbm, 248, rfl⟩
abbrev main_call10_v2 : Ref sig .tc := ⟨.hbm, 249, rfl⟩
abbrev main_call10_v3 : Ref sig .tc := ⟨.hbm, 250, rfl⟩
abbrev main_call10_cst_0 : Ref sig .tc := ⟨.hbm, 251, rfl⟩
abbrev main_call10_v4 : Ref sig .tc := ⟨.hbm, 252, rfl⟩
abbrev main_call10_v5 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_call11_v0 : Ref sig .tc := ⟨.hbm, 269, rfl⟩
abbrev main_call11_v1 : Ref sig .tc := ⟨.hbm, 270, rfl⟩
abbrev main_call11_cst : Ref sig .tc := ⟨.hbm, 271, rfl⟩
abbrev main_call11_v2 : Ref sig .tc := ⟨.hbm, 272, rfl⟩
abbrev main_call11_v3 : Ref sig .tc := ⟨.hbm, 273, rfl⟩
abbrev main_call11_cst_0 : Ref sig .tc := ⟨.hbm, 274, rfl⟩
abbrev main_call11_v4 : Ref sig .tc := ⟨.hbm, 275, rfl⟩
abbrev main_call11_v5 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_call12_v0 : Ref sig .tc := ⟨.hbm, 292, rfl⟩
abbrev main_call12_v1 : Ref sig .tc := ⟨.hbm, 293, rfl⟩
abbrev main_call12_cst : Ref sig .tc := ⟨.hbm, 294, rfl⟩
abbrev main_call12_v2 : Ref sig .tc := ⟨.hbm, 295, rfl⟩
abbrev main_call12_v3 : Ref sig .tc := ⟨.hbm, 296, rfl⟩
abbrev main_call12_cst_0 : Ref sig .tc := ⟨.hbm, 297, rfl⟩
abbrev main_call12_v4 : Ref sig .tc := ⟨.hbm, 298, rfl⟩
abbrev main_call12_v5 : Ref sig .tc := ⟨.hbm, 299, rfl⟩
abbrev main_v187 : Ref sig .tc := ⟨.hbm, 300, rfl⟩
abbrev main_v188 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_v192 : Ref sig .tc := ⟨.hbm, 305, rfl⟩
abbrev main_v193 : Ref sig .tc := ⟨.hbm, 306, rfl⟩
abbrev main_v194 : Ref sig .tc := ⟨.hbm, 307, rfl⟩
abbrev main_v195 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_call13_v0 : Ref sig .tc := ⟨.hbm, 315, rfl⟩
abbrev main_call13_v1 : Ref sig .tc := ⟨.hbm, 316, rfl⟩
abbrev main_call13_cst : Ref sig .tc := ⟨.hbm, 317, rfl⟩
abbrev main_call13_v2 : Ref sig .tc := ⟨.hbm, 318, rfl⟩
abbrev main_call13_v3 : Ref sig .tc := ⟨.hbm, 319, rfl⟩
abbrev main_call13_cst_0 : Ref sig .tc := ⟨.hbm, 320, rfl⟩
abbrev main_call13_v4 : Ref sig .tc := ⟨.hbm, 321, rfl⟩
abbrev main_call13_v5 : Ref sig .tc := ⟨.hbm, 322, rfl⟩
abbrev main_v202 : Ref sig .tc := ⟨.hbm, 323, rfl⟩
abbrev main_v203 : Ref sig .tc := ⟨.hbm, 324, rfl⟩
abbrev main_v204 : Ref sig .tc := ⟨.hbm, 325, rfl⟩
abbrev main_v205 : Ref sig .tc := ⟨.hbm, 326, rfl⟩
abbrev main_v206 : Ref sig .tc := ⟨.hbm, 327, rfl⟩
abbrev main_v207 : Ref sig .tc := ⟨.hbm, 328, rfl⟩
abbrev main_v208 : Ref sig .tc := ⟨.hbm, 329, rfl⟩
abbrev main_v209 : Ref sig .tc := ⟨.hbm, 330, rfl⟩
abbrev main_v210 : Ref sig .tc := ⟨.hbm, 331, rfl⟩
abbrev main_v211 : Ref sig .tc := ⟨.hbm, 332, rfl⟩
abbrev main_v212 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_call14_v0 : Ref sig .tc := ⟨.hbm, 338, rfl⟩
abbrev main_call14_v1 : Ref sig .tc := ⟨.hbm, 339, rfl⟩
abbrev main_call14_cst : Ref sig .tc := ⟨.hbm, 340, rfl⟩
abbrev main_call14_v2 : Ref sig .tc := ⟨.hbm, 341, rfl⟩
abbrev main_call14_v3 : Ref sig .tc := ⟨.hbm, 342, rfl⟩
abbrev main_call14_cst_0 : Ref sig .tc := ⟨.hbm, 343, rfl⟩
abbrev main_call14_v4 : Ref sig .tc := ⟨.hbm, 344, rfl⟩
abbrev main_call14_v5 : Ref sig .tc := ⟨.hbm, 345, rfl⟩
abbrev main_v217 : Ref sig .tc := ⟨.hbm, 346, rfl⟩
abbrev main_v218 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_v228 : Ref sig .tc := ⟨.hbm, 357, rfl⟩
abbrev main_v229 : Ref sig .tc := ⟨.hbm, 358, rfl⟩
abbrev main_v230 : Ref sig .tc := ⟨.hbm, 359, rfl⟩
abbrev main_v231 : Ref sig .tc := ⟨.hbm, 360, rfl⟩
abbrev main_call15_v0 : Ref sig .tc := ⟨.hbm, 361, rfl⟩
abbrev main_call15_v1 : Ref sig .tc := ⟨.hbm, 362, rfl⟩
abbrev main_call15_cst : Ref sig .tc := ⟨.hbm, 363, rfl⟩
abbrev main_call15_v2 : Ref sig .tc := ⟨.hbm, 364, rfl⟩
abbrev main_call15_v3 : Ref sig .tc := ⟨.hbm, 365, rfl⟩
abbrev main_call15_cst_0 : Ref sig .tc := ⟨.hbm, 366, rfl⟩
abbrev main_call15_v4 : Ref sig .tc := ⟨.hbm, 367, rfl⟩
abbrev main_call15_v5 : Ref sig .tc := ⟨.hbm, 368, rfl⟩
abbrev main_v232 : Ref sig .tc := ⟨.hbm, 369, rfl⟩
abbrev main_v233 : Ref sig .tc := ⟨.hbm, 370, rfl⟩
abbrev main_v234 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_v238 : Ref sig .tc := ⟨.hbm, 375, rfl⟩
abbrev main_v239 : Ref sig .tc := ⟨.hbm, 376, rfl⟩
abbrev main_v240 : Ref sig .tc := ⟨.hbm, 377, rfl⟩
abbrev main_v241 : Ref sig .tc := ⟨.hbm, 378, rfl⟩
abbrev main_v242 : Ref sig .tc := ⟨.hbm, 379, rfl⟩
abbrev main_v243 : Ref sig .tc := ⟨.hbm, 380, rfl⟩
abbrev main_cst_0 : Ref sig .tc := ⟨.hbm, 381, rfl⟩
abbrev main_v244 : Ref sig .tc := ⟨.hbm, 382, rfl⟩
abbrev main_v245 : Ref sig .tc := ⟨.hbm, 383, rfl⟩
abbrev main_v246 : Ref sig .tc := ⟨.hbm, 384, rfl⟩
abbrev main_cst_1 : Ref sig .tc := ⟨.hbm, 385, rfl⟩
abbrev main_v247 : Ref sig .tc := ⟨.hbm, 386, rfl⟩
abbrev main_v248 : Ref sig .tc := ⟨.hbm, 387, rfl⟩
abbrev main_cst_2 : Ref sig .tc := ⟨.hbm, 388, rfl⟩
abbrev main_v249 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_cst_3 : Ref sig .tc := ⟨.hbm, 394, rfl⟩
abbrev main_v254 : Ref sig .tc := ⟨.hbm, 395, rfl⟩
abbrev main_v255 : Ref sig .tc := ⟨.hbm, 396, rfl⟩
abbrev main_cst_4 : Ref sig .tc := ⟨.hbm, 397, rfl⟩
abbrev main_v256 : Ref sig .tc := ⟨.hbm, 398, rfl⟩
abbrev main_v257 : Ref sig .tc := ⟨.hbm, 399, rfl⟩
abbrev main_v258 : Ref sig .tc := ⟨.hbm, 400, rfl⟩
abbrev main_v259 : Ref sig .tc := ⟨.hbm, 401, rfl⟩
abbrev main_cst_5 : Ref sig .tc := ⟨.hbm, 402, rfl⟩
abbrev main_v260 : Ref sig .tc := ⟨.hbm, 403, rfl⟩
abbrev main_v261 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_v267 : Ref sig .tc := ⟨.hbm, 410, rfl⟩
abbrev main_v268 : Ref sig .tc := ⟨.hbm, 411, rfl⟩
abbrev main_v269 : Ref sig .tc := ⟨.hbm, 412, rfl⟩
abbrev main_v270 : Ref sig .tc := ⟨.hbm, 413, rfl⟩

abbrev nD : Nat := 1
abbrev τ : Topo := Topo.v7x

variable {F : FTy → Type} [FloatOps F]
-- ==== Kernel3.lean ====
abbrev S32768x512 : Shape := ⟨2, ![32768, 512]⟩
abbrev S1024x512 : Shape := ⟨2, ![1024, 512]⟩
abbrev S33792x2048 : Shape := ⟨2, ![33792, 2048]⟩
abbrev S33792x1024 : Shape := ⟨2, ![33792, 1024]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S16x1024 : Shape := ⟨2, ![16, 1024]⟩
abbrev S16x1 : Shape := ⟨2, ![16, 1]⟩
abbrev S1x1024 : Shape := ⟨2, ![1, 1024]⟩
abbrev S16x33792 : Shape := ⟨2, ![16, 33792]⟩
abbrev S1x33792 : Shape := ⟨2, ![1, 33792]⟩
abbrev S512x512 : Shape := ⟨2, ![512, 512]⟩
abbrev S512x2048 : Shape := ⟨2, ![512, 2048]⟩
abbrev S16x512 : Shape := ⟨2, ![16, 512]⟩
abbrev S1x512 : Shape := ⟨2, ![1, 512]⟩
abbrev S512 : Shape := ⟨1, ![512]⟩
abbrev S512x1 : Shape := ⟨2, ![512, 1]⟩
abbrev S32x1024 : Shape := ⟨2, ![32, 1024]⟩
abbrev S32x512 : Shape := ⟨2, ![32, 512]⟩

abbrev nBuf : Space → Nat
  | .hbm => 27
  | .vmem => 26
  | .smem => 0
  | _ => 0

abbrev bufTy : (tb : Table) → Fin (tcTables nBuf tb) → BufTy
  | .hbm, ⟨0, _⟩ => ⟨S32768x512, .bf16⟩
  | .hbm, ⟨1, _⟩ => ⟨S1024x512, .bf16⟩
  | .hbm, ⟨2, _⟩ => ⟨S32768x512, .bf16⟩
  | .hbm, ⟨3, _⟩ => ⟨S1024x512, .bf16⟩
  | .hbm, ⟨4, _⟩ => ⟨S33792x2048, .bf16⟩
  | .hbm, ⟨5, _⟩ => ⟨S33792x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x16, .f32⟩
  | .hbm, ⟨12, _⟩ => ⟨S16, .f32⟩
  | .hbm, ⟨13, _⟩ => ⟨S16x1024, .f32⟩
  | .hbm, ⟨14, _⟩ => ⟨S16x1024, .bf16⟩
  | .hbm, ⟨15, _⟩ => ⟨S16x1024, .f32⟩
  | .hbm, ⟨16, _⟩ => ⟨S16x1024, .f32⟩
  | .hbm, ⟨17, _⟩ => ⟨S16x1024, .bf16⟩
  | .hbm, ⟨18, _⟩ => ⟨S16x1, .f32⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S33792x1024, .f32⟩
  | .hbm, ⟨25, _⟩ => ⟨S16x33792, .f32⟩
  | .hbm, ⟨26, _⟩ => ⟨S1x33792, .i32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S16x1024, .bf16⟩
  | .local _ .vmem, ⟨18, _⟩ => ⟨S16x1024, .bf16⟩
  | .local _ .vmem, ⟨19, _⟩ => ⟨S16x1, .f32⟩
  | .local _ .vmem, ⟨20, _⟩ => ⟨S512x1024, .f32⟩
  | .local _ .vmem, ⟨21, _⟩ => ⟨S512x1024, .f32⟩
  | .local _ .vmem, ⟨22, _⟩ => ⟨S16x512, .f32⟩
  | .local _ .vmem, ⟨23, _⟩ => ⟨S16x512, .f32⟩
  | .local _ .vmem, ⟨24, _⟩ => ⟨S1x512, .i32⟩
  | .local _ .vmem, ⟨25, _⟩ => ⟨S1x512, .i32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S32768x512 : Shape := ⟨2, ![32768, 512]⟩
abbrev S1024x512 : Shape := ⟨2, ![1024, 512]⟩
abbrev S33792x2048 : Shape := ⟨2, ![33792, 2048]⟩
abbrev S33792x1024 : Shape := ⟨2, ![33792, 1024]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S16 : Shape := ⟨1, ![16]⟩
abbrev S33792x512 : Shape := ⟨2, ![33792, 512]⟩
abbrev S_ : Shape := ⟨0, ![]⟩
abbrev S33792 : Shape := ⟨1, ![33792]⟩
abbrev S33792x1 : Shape := ⟨2, ![33792, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S1024x512, .bf16⟩
  | .hbm, ⟨2, _⟩ => ⟨S32768x512, .bf16⟩
  | .hbm, ⟨3, _⟩ => ⟨S1024x512, .bf16⟩
  | .hbm, ⟨4, _⟩ => ⟨S33792x2048, .bf16⟩
  | .hbm, ⟨5, _⟩ => ⟨S33792x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x16, .f32⟩
  | .hbm, ⟨12, _⟩ => ⟨S16, .f32⟩
  | .hbm, ⟨13, _⟩ => ⟨S33792x512, .bf16⟩
  | .hbm, ⟨14, _⟩ => ⟨S33792x512, .f32⟩
  | .hbm, ⟨15, _⟩ => ⟨S33792x1024, .f32⟩
  | .hbm, ⟨16, _⟩ => ⟨S33792x512, .bf16⟩
  | .hbm, ⟨17, _⟩ => ⟨S33792x512, .f32⟩
  | .hbm, ⟨18, _⟩ => ⟨S33792x1024, .f32⟩
  | .hbm, ⟨19, _⟩ => ⟨S33792x2048, .f32⟩
  | .hbm, ⟨20, _⟩ => ⟨S33792x1024, .f32⟩
  | .hbm, ⟨21, _⟩ => ⟨S33792x1024, .f32⟩
  | .hbm, ⟨22, _⟩ => ⟨S33792x1024, .f32⟩
  | .hbm, ⟨23, _⟩ => ⟨S_, .f32⟩
  | .hbm, ⟨24, _⟩ => ⟨S33792x1024, .f32⟩
  | .hbm, ⟨25, _⟩ => ⟨S33792x1024, .f32⟩
  | .hbm, ⟨26, _⟩ => ⟨S_, .f32⟩
  | .hbm, ⟨27, _⟩ => ⟨S33792x1024, .f32⟩
  | .hbm, ⟨28, _⟩ => ⟨S33792x1024, .f32⟩
  | .hbm, ⟨29, _⟩ => ⟨S33792x1024, .f32⟩
  | .hbm, ⟨30, _⟩ => ⟨S33792x1024, .f32⟩
  | .hbm, ⟨31, _⟩ => ⟨S33792x1024, .f32⟩
  | .hbm, ⟨32, _⟩ => ⟨S33792x1024, .f32⟩
  | .hbm, ⟨33, _⟩ => ⟨S_, .f32⟩
  | .hbm, ⟨34, _⟩ => ⟨S33792x1024, .f32⟩
  | .hbm, ⟨35, _⟩ => ⟨S33792x1024, .f32⟩
  | .hbm, ⟨36, _⟩ => ⟨S_, .f32⟩
  | .hbm, ⟨37, _⟩ => ⟨S33792x1024, .f32⟩
  | .hbm, ⟨38, _⟩ => ⟨S33792x1024, .f32⟩
  | .hbm, ⟨39, _⟩ => ⟨S33792x1024, .f32⟩
  | .hbm, ⟨40, _⟩ => ⟨S33792x1024, .f32⟩
  | .hbm, ⟨41, _⟩ => ⟨S_, .f32⟩
  | .hbm, ⟨42, _⟩ => ⟨S33792x1024, .f32⟩
  | .hbm, ⟨43, _⟩ => ⟨S33792x1024, .f32⟩
  | .hbm, ⟨44, _⟩ => ⟨S33792x1024, .f32⟩
  | .hbm, ⟨45, _⟩ => ⟨S33792x1024, .f32⟩
  | .hbm, ⟨46, _⟩ => ⟨S_, .f32⟩
  | .hbm, ⟨47, _⟩ => ⟨S33792, .f32⟩
  | .hbm, ⟨48, _⟩ => ⟨S33792x1, .f32⟩
  | .hbm, ⟨49, _⟩ => ⟨S_, .f32⟩
  | .hbm, ⟨50, _⟩ => ⟨S33792x1, .f32⟩
  | .hbm, ⟨51, _⟩ => ⟨S33792x1, .f32⟩
  | .hbm, ⟨52, _⟩ => ⟨S33792x1024, .f32⟩
  | .hbm, ⟨53, _⟩ => ⟨S33792x1024, .f32⟩
  | .hbm, ⟨54, _⟩ => ⟨S33792x1024, .f32⟩
  | .hbm, ⟨55, _⟩ => ⟨S_, .f32⟩
  | .hbm, ⟨56, _⟩ => ⟨S33792, .f32⟩
  | .hbm, ⟨57, _⟩ => ⟨S33792x1, .f32⟩
  | .hbm, ⟨58, _⟩ => ⟨S_, .f32⟩
  | .hbm, ⟨59, _⟩ => ⟨S33792x1, .f32⟩
  | .hbm, ⟨60, _⟩ => ⟨S33792x1, .f32⟩
  | .hbm, ⟨61, _⟩ => ⟨S33792x1024, .f32⟩
  | .hbm, ⟨62, _⟩ => ⟨S33792x1024, .f32⟩
  | .hbm, ⟨63, _⟩ => ⟨S_, .f32⟩
  | .hbm, ⟨64, _⟩ => ⟨S33792x1, .f32⟩
  | .hbm, ⟨65, _⟩ => ⟨S33792x1, .f32⟩
  | .hbm, ⟨66, _⟩ => ⟨S33792x1, .f32⟩
  | .hbm, ⟨67, _⟩ => ⟨S33792x1024, .f32⟩
  | .hbm, ⟨68, _⟩ => ⟨S33792x1024, .f32⟩
  | .hbm, ⟨69, _⟩ => ⟨S1x1024, .f32⟩
  | .hbm, ⟨70, _⟩ => ⟨S33792x1024, .f32⟩
  | .hbm, ⟨71, _⟩ => ⟨S33792x1024, .f32⟩
  | .hbm, ⟨72, _⟩ => ⟨S1x1024, .f32⟩
  | .hbm, ⟨73, _⟩ => ⟨S33792x1024, .f32⟩
  | .hbm, ⟨74, _⟩ => ⟨S33792x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Proof.Attn.Soft.lean ====
/-
  Softmax over extended reals, by itself: weights `2^(s - m)` rescale when the maximum grows, so the running maximum,
  denominator and numerator of a sweep over tiles of keys are the whole sums over the keys swept; and a numerator over a
  positive denominator is the sum of the divided weights.
-/
module

public import Idealize.ShloMosaic.PureOps.Ideal
public import Idealize.ShloMosaic.PureOps.Ideal.Laws
public import Idealize.ShloMosaic.Lib.Pointwise.Sums

@[expose] public section

noncomputable section

namespace Cert.Proof.Attn

open Idealize.ShloMosaic

/-- A weight: two to the power. -/
abbrev wt (x : EReal) : EReal := Ideal.exp2 x

theorem wt_nonneg (x : EReal) : 0 ≤ wt x := by
  induction x with
  | bot => simp [wt]
  | top => simp [wt]
  | coe r => rw [wt, Ideal.exp2_coe]; exact_mod_cast Real.rpow_nonneg (by norm_num) r

theorem wt_ne_top {x : EReal} (h : x ≠ ⊤) : wt x ≠ ⊤ := by
  induction x with
  | bot => simp [wt]
  | top => exact absurd rfl h
  | coe r => rw [wt, Ideal.exp2_coe]; exact EReal.coe_ne_top _

theorem sub_ne_top_of_le {m M : EReal} (h : m ≤ M) : m - M ≠ ⊤ := by
  intro e
  induction M with
  | bot => rw [le_bot_iff.1 h] at e; simp at e
  | top => simp at e
  | coe b =>
    induction m with
    | bot => simp at e
    | top => exact absurd h (by simp)
    | coe a => exact EReal.coe_ne_top _ (by exact_mod_cast e)

/-- The host's way to write a power of two. -/
theorem pow_two (x : EReal) : Ideal.pow (Ideal.ofBits .f32 0x40000000#32) x = wt x := by
  have e : Ideal.ofBits .f32 0x40000000#32 = ((2 : ℝ) : EReal) := by
    have h : BitVec.extractLsb' 31 1 1073741824#32 = 0#1 := by decide
    have h' : (1073741824 : ℕ) >>> 23 = 128 := by decide
    simp only [Ideal.ofBits, Ideal.ieee]
    norm_num [h, h']
  rw [e]
  induction x with
  | bot => rw [Ideal.pow_coe_bot, if_neg (by norm_num), if_pos (by norm_num)]; rfl
  | top => rw [Ideal.pow_coe_top, if_neg (by norm_num), if_pos (by norm_num)]; rfl
  | coe r => rw [Ideal.pow_coe_coe]; rfl

/-- Rescaling: a weight against `m`, times the weight of `m` against a larger `M`, is the weight against `M`. -/
theorem wt_chain {s m M : EReal} (h1 : s ≤ m) (h2 : m ≤ M) : wt (m - M) * wt (s - m) = wt (s - M) := by
  induction M with
  | top => simp [wt]
  | bot =>
    rw [le_bot_iff.1 h2] at h1 ⊢
    rw [le_bot_iff.1 h1]; simp [wt]
  | coe c =>
    induction m with
    | top => exact absurd h2 (by simp)
    | bot => rw [le_bot_iff.1 h1]; simp [wt]
    | coe b =>
      induction s with
      | top => exact absurd h1 (by simp)
      | bot => simp [wt]
      | coe a =>
        rw [← EReal.coe_sub, ← EReal.coe_sub, ← EReal.coe_sub]
        simp only [wt, Ideal.exp2_coe]
        rw [← EReal.coe_mul]
        congr 1
        show (2 : ℝ) ^ (b - c) * (2 : ℝ) ^ (a - b) = (2 : ℝ) ^ (a - c)
        rw [← Real.rpow_add (by norm_num)]; congr 1; ring

/-- A nonnegative finite factor goes into a sum. -/
theorem mul_sum {ι : Type*} (A : Finset ι) (f : ι → EReal) {a : EReal} (h0 : 0 ≤ a) (ht : a ≠ ⊤) :
    a * ∑ i ∈ A, f i = ∑ i ∈ A, a * f i := by
  classical
  induction A using Finset.induction_on with
  | empty => simp
  | insert i A hi ih => rw [Finset.sum_insert hi, Finset.sum_insert hi, EReal.left_distrib_of_nonneg_of_ne_top h0 ht, ih]

/-- The denominators rescale, -/
theorem rescale {ι : Type*} (A : Finset ι) (s : ι → EReal) {m M : EReal} (h1 : ∀ i ∈ A, s i ≤ m) (h2 : m ≤ M) :
    wt (m - M) * ∑ i ∈ A, wt (s i - m) = ∑ i ∈ A, wt (s i - M) := by
  rw [mul_sum _ _ (wt_nonneg _) (wt_ne_top (sub_ne_top_of_le h2))]
  exact Finset.sum_congr rfl fun i hi => wt_chain (h1 i hi) h2

/-- and the numerators. -/
theorem rescaleV {ι : Type*} (A : Finset ι) (s v : ι → EReal) {m M : EReal} (h1 : ∀ i ∈ A, s i ≤ m) (h2 : m ≤ M) :
    wt (m - M) * ∑ i ∈ A, v i * wt (s i - m) = ∑ i ∈ A, v i * wt (s i - M) := by
  rw [mul_sum _ _ (wt_nonneg _) (wt_ne_top (sub_ne_top_of_le h2))]
  refine Finset.sum_congr rfl fun i hi => ?_
  rw [mul_left_comm, wt_chain (h1 i hi) h2]

/-- Of a sweep over the first `n` tiles of keys: maximum, denominator and numerator are those of all the keys swept. -/
def Swept (S W : ℕ → Fin 512 → EReal) (n : ℕ) (m l a : EReal) : Prop :=
  (∀ z, m ≤ z ↔ ∀ j < n, ∀ k, S j k ≤ z)
    ∧ l = ∑ p ∈ Finset.range n ×ˢ (Finset.univ : Finset (Fin 512)), wt (S p.1 p.2 - m)
    ∧ a = ∑ p ∈ Finset.range n ×ˢ (Finset.univ : Finset (Fin 512)), W p.1 p.2 * wt (S p.1 p.2 - m)

theorem swept_zero (S W : ℕ → Fin 512 → EReal) : Swept S W 0 ⊥ 0 0 :=
  ⟨fun z => by simp, by simp, by simp⟩

/-- All a sweep's keys are at most its maximum. -/
theorem Swept.le {S W : ℕ → Fin 512 → EReal} {n : ℕ} {m l a : EReal} (h : Swept S W n m l a) :
    ∀ p ∈ Finset.range n ×ˢ (Finset.univ : Finset (Fin 512)), S p.1 p.2 ≤ m := fun p hp =>
  (h.1 m).1 le_rfl p.1 (by simpa using hp) p.2

theorem range_succ_sum (n : ℕ) (f : ℕ × Fin 512 → EReal) :
    ∑ p ∈ Finset.range (n + 1) ×ˢ (Finset.univ : Finset (Fin 512)), f p
      = ∑ p ∈ Finset.range n ×ˢ (Finset.univ : Finset (Fin 512)), f p + ∑ k, f (n, k) := by
  rw [Finset.sum_product, Finset.sum_range_succ, Finset.sum_product]

theorem fold_max_le {ι : Type*} (A : Finset ι) (f : ι → EReal) (z : EReal) : A.fold max ⊥ f ≤ z ↔ ∀ i ∈ A, f i ≤ z := by
  rw [Finset.fold_max_le]; simp

/-- One more tile. -/
theorem Swept.step {S W : ℕ → Fin 512 → EReal} {n : ℕ} {m l a M : EReal} (h : Swept S W n m l a)
    (hM : M = max m (Finset.univ.fold max ⊥ fun k => S n k)) :
    Swept S W (n + 1) M (wt (m - M) * l + ∑ k, wt (S n k - M)) (wt (m - M) * a + ∑ k, W n k * wt (S n k - M)) := by
  have hle : m ≤ M := hM ▸ le_max_left _ _
  refine ⟨fun z => ?_, ?_, ?_⟩
  · rw [hM, max_le_iff, h.1, fold_max_le]
    constructor
    · rintro ⟨h1, h2⟩ j hj k
      rcases Nat.lt_succ_iff_lt_or_eq.1 hj with hj | rfl
      · exact h1 j hj k
      · exact h2 k (Finset.mem_univ _)
    · exact fun h => ⟨fun j hj k => h j (by omega) k, fun k _ => h n (by omega) k⟩
  · rw [range_succ_sum, ← rescale _ _ h.le hle, ← h.2.1]
  · rw [range_succ_sum, ← rescaleV _ _ _ h.le hle, ← h.2.2]

/-- A sum over the 4224 keys of a batch: the meta block's, then tile by tile. -/
theorem sum_keys (f : Fin 4224 → EReal) :
    ∑ y, f y = ∑ k : Fin 128, f ⟨k.val, by omega⟩ + ∑ j : Fin 8, ∑ k : Fin 512, f ⟨128 + (512 * j.val + k.val), by omega⟩ := by
  rw [Fin.sum_univ_two_halves 128 4096 rfl, Fin.sum_univ_tiles 8 512 rfl]
  refine congrArg _ (Finset.sum_congr rfl fun j _ => Finset.sum_congr rfl fun k _ => congrArg f (Fin.ext ?_))
  show 128 + (j.val * 512 + k.val) = 128 + (512 * j.val + k.val)
  omega

/-- Tiles after the query's hold nothing. -/
theorem sum_tiles (n : ℕ) (hn : n < 8) (g : ℕ → Fin 512 → EReal) (hg : ∀ j, n < j → j < 8 → ∀ k, g j k = 0) :
    ∑ j : Fin 8, ∑ k : Fin 512, g j.val k = ∑ p ∈ Finset.range n ×ˢ (Finset.univ : Finset (Fin 512)), g p.1 p.2 + ∑ k, g n k := by
  rw [← range_succ_sum n fun p => g p.1 p.2, Finset.sum_product, Fin.sum_univ_eq_sum_range (fun j => ∑ k, g j k) 8]
  refine (Finset.sum_subset (Finset.range_subset_range.2 (by omega)) fun j hj hj' => ?_).symm
  exact Finset.sum_eq_zero fun k _ => hg j (by simpa using hj') (by simpa using hj) k

/-- A query of the meta block sees no key after that block. -/
theorem meta_sums (t w : Fin 4224 → EReal) (M : EReal) (E V : Fin 128 → EReal)
    (hM : M = Finset.univ.fold max ⊥ E) (hE : ∀ k : Fin 128, t ⟨k.val, by omega⟩ = E k) (hV : ∀ k : Fin 128, w ⟨k.val, by omega⟩ = V k)
    (hB : ∀ y : Fin 4224, 128 ≤ y.val → t y = ⊥) :
    (∀ z, M ≤ z ↔ ∀ y, t y ≤ z) ∧ ∑ k, wt (E k - M) = ∑ y, wt (t y - M) ∧ ∑ k, V k * wt (E k - M) = ∑ y, w y * wt (t y - M) := by
  have z0 : wt (⊥ - M) = 0 := by rw [EReal.bot_sub]; rfl
  refine ⟨fun z => ?_, ?_, ?_⟩
  · rw [hM, fold_max_le]
    constructor
    · intro h y
      by_cases hy : y.val < 128
      · have := h ⟨y.val, hy⟩ (Finset.mem_univ _)
        rwa [← hE] at this
      · rw [hB y (by omega)]; exact bot_le
    · intro h k _
      rw [← hE]; exact h _
  · rw [sum_keys]
    have e : ∑ j : Fin 8, ∑ k : Fin 512, wt (t ⟨128 + (512 * j.val + k.val), by omega⟩ - M) = 0 :=
      Finset.sum_eq_zero fun j _ => Finset.sum_eq_zero fun k _ => by
        rw [hB ⟨128 + (512 * j.val + k.val), by omega⟩ (by show 128 ≤ 128 + (512 * j.val + k.val); omega), z0]
    rw [e, add_zero]
    exact Finset.sum_congr rfl fun k _ => by rw [hE]
  · rw [sum_keys]
    have e : ∑ j : Fin 8, ∑ k : Fin 512, w ⟨128 + (512 * j.val + k.val), by omega⟩ * wt (t ⟨128 + (512 * j.val + k.val), by omega⟩ - M) = 0 :=
      Finset.sum_eq_zero fun j _ => Finset.sum_eq_zero fun k _ => by
        rw [hB ⟨128 + (512 * j.val + k.val), by omega⟩ (by show 128 ≤ 128 + (512 * j.val + k.val); omega), z0, mul_zero]
    rw [e, add_zero]
    exact Finset.sum_congr rfl fun k _ => by rw [hE, hV]

/-- The last update makes the sweep whole: over all 4224 keys, those after the query masked. -/
theorem Swept.last {S W : ℕ → Fin 512 → EReal} {n : ℕ} {m l a M : EReal} (h : Swept S W n m l a) (hn : n < 8)
    (t w : Fin 4224 → EReal) (D : Fin 512 → EReal) (E V : Fin 128 → EReal)
    (hM : M = max (max m (Finset.univ.fold max ⊥ E)) (Finset.univ.fold max ⊥ D))
    (hE : ∀ k : Fin 128, t ⟨k.val, by omega⟩ = E k) (hV : ∀ k : Fin 128, w ⟨k.val, by omega⟩ = V k)
    (hS : ∀ j (hj : j < n) (k : Fin 512), t ⟨128 + (512 * j + k.val), by omega⟩ = S j k)
    (hD : ∀ k : Fin 512, t ⟨128 + (512 * n + k.val), by omega⟩ = D k)
    (hW : ∀ j (hj : j ≤ n) (k : Fin 512), w ⟨128 + (512 * j + k.val), by omega⟩ = W j k)
    (hB : ∀ j (hj : n < j) (hj' : j < 8) (k : Fin 512), t ⟨128 + (512 * j + k.val), by omega⟩ = ⊥) :
    (∀ z, M ≤ z ↔ ∀ y, t y ≤ z)
      ∧ (wt (m - M) * l + ∑ k, wt (D k - M)) + ∑ k, wt (E k - M) = ∑ y, wt (t y - M)
      ∧ wt (m - M) * a + (∑ k, W n k * wt (D k - M) + ∑ k, V k * wt (E k - M)) = ∑ y, w y * wt (t y - M) := by
  have hle : m ≤ M := hM ▸ (le_max_left _ _).trans (le_max_left _ _)
  have hex : ∀ y : Fin 4224, (∃ k : Fin 128, y = ⟨k.val, by omega⟩) ∨ ∃ (j : ℕ) (hj : j < 8) (k : Fin 512), y = ⟨128 + (512 * j + k.val), by omega⟩ := fun y => by
    by_cases hy : y.val < 128
    · exact .inl ⟨⟨y.val, hy⟩, rfl⟩
    · refine .inr ⟨(y.val - 128) / 512, by omega, ⟨(y.val - 128) % 512, Nat.mod_lt _ (by decide)⟩, Fin.ext ?_⟩
      show y.val = 128 + (512 * ((y.val - 128) / 512) + (y.val - 128) % 512)
      omega
  refine ⟨fun z => ?_, ?_, ?_⟩
  · rw [hM, max_le_iff, max_le_iff, h.1, fold_max_le, fold_max_le]
    constructor
    · rintro ⟨⟨h1, h2⟩, h3⟩ y
      rcases hex y with ⟨k, rfl⟩ | ⟨j, hj, k, rfl⟩
      · rw [hE]; exact h2 k (Finset.mem_univ _)
      · rcases lt_trichotomy j n with h' | h' | h'
        · rw [hS j h']; exact h1 j h' k
        · subst h'; rw [hD]; exact h3 k (Finset.mem_univ _)
        · rw [hB j h' hj]; exact bot_le
    · exact fun h => ⟨⟨fun j hj k => hS j hj k ▸ h _, fun k _ => hE k ▸ h _⟩, fun k _ => hD k ▸ h _⟩
  · rw [h.2.1, rescale _ _ h.le hle, sum_keys]
    simp only [hE]
    have := sum_tiles n hn (fun j k => if hj : j < 8 then wt (t ⟨128 + (512 * j + k.val), by omega⟩ - M) else 0)
      (fun j h1 h2 k => by simp only [dif_pos h2, hB j h1 h2, EReal.bot_sub]; rfl)
    simp only [Fin.is_lt, dite_true, hn, hD] at this
    rw [this, add_comm]
    refine congrArg _ (congrArg (· + _) (Finset.sum_congr rfl fun p hp => ?_))
    have hp' : p.1 < n := by simpa using hp
    rw [dif_pos (by omega), hS _ hp']
  · rw [h.2.2, rescaleV _ _ _ h.le hle, sum_keys]
    simp only [hE, hV]
    have := sum_tiles n hn (fun j k => if hj : j < 8 then w ⟨128 + (512 * j + k.val), by omega⟩ * wt (t ⟨128 + (512 * j + k.val), by omega⟩ - M) else 0)
      (fun j h1 h2 k => by
        simp only [dif_pos h2, hB j h1 h2, EReal.bot_sub]
        show _ * (0 : EReal) = 0
        rw [mul_zero])
    simp only [Fin.is_lt, dite_true, hn, hD, hW n le_rfl] at this
    rw [this, ← add_assoc, add_comm]
    refine congrArg _ (congrArg (· + _) (Finset.sum_congr rfl fun p hp => ?_))
    have hp' : p.1 < n := by simpa using hp
    rw [dif_pos (by omega), hS _ hp', hW _ hp'.le]

theorem coe_sum {ι : Type*} (A : Finset ι) (r : ι → ℝ) : ((∑ y ∈ A, r y : ℝ) : EReal) = ∑ y ∈ A, (r y : EReal) := by
  classical
  induction A using Finset.induction_on with
  | empty => simp
  | insert i A hi ih => rw [Finset.sum_insert hi, Finset.sum_insert hi, EReal.coe_add, ih]

/-- Where no score is `⊤` and one is not `⊥`, the denominator is a positive number. -/
theorem den_pos {ι : Type*} [Fintype ι] (t : ι → EReal) (M : EReal) (hM : ∀ z, M ≤ z ↔ ∀ y, t y ≤ z) (ht : ∀ y, t y ≠ ⊤)
    (x : ι) (hx : t x ≠ ⊥) : ∃ L : ℝ, 0 < L ∧ ∑ y, wt (t y - M) = (L : EReal) := by
  have hle : ∀ y, t y ≤ M := (hM M).1 le_rfl
  have hMt : M ≠ ⊤ := by
    have e : M = Finset.univ.sup t := eq_of_forall_ge_iff fun z => by rw [hM, Finset.sup_le_iff]; simp
    rw [e]
    exact ((Finset.sup_lt_iff (bot_lt_top)).2 fun y _ => lt_top_iff_ne_top.2 (ht y)).ne
  have hMb : M ≠ ⊥ := fun e => hx (le_bot_iff.1 (e ▸ hle x))
  lift M to ℝ using ⟨hMt, hMb⟩
  have hf : ∀ y, ∃ r : ℝ, 0 ≤ r ∧ (y = x → 0 < r) ∧ wt (t y - (M : EReal)) = (r : EReal) := fun y => by
    by_cases hy : t y = ⊥
    · exact ⟨0, le_rfl, fun e => absurd (e ▸ hy) hx, by rw [hy, EReal.bot_sub]; rfl⟩
    · obtain ⟨r, hr⟩ : ∃ r : ℝ, t y = (r : EReal) := ⟨(t y).toReal, (EReal.coe_toReal (ht y) hy).symm⟩
      refine ⟨(2 : ℝ) ^ (r - M), Real.rpow_nonneg (by norm_num) _, fun _ => Real.rpow_pos_of_pos (by norm_num) _, ?_⟩
      rw [hr, ← EReal.coe_sub, wt, Ideal.exp2_coe]; rfl
  choose r h0 h1 hr using hf
  refine ⟨∑ y, r y, ?_, ?_⟩
  · exact Finset.sum_pos' (fun y _ => h0 y) ⟨x, Finset.mem_univ _, h1 x rfl⟩
  · rw [coe_sum]; exact Finset.sum_congr rfl fun y _ => hr y

/-- Dividing the numerator is dividing the weights. -/
theorem div_sum {ι : Type*} [Fintype ι] (p v : ι → EReal) {L : ℝ} (hL : 0 < L) :
    Ideal.div (∑ y, v y * p y) (L : EReal) = ∑ y, Ideal.div (p y) (L : EReal) * v y := by
  have h0 : (0 : EReal) ≤ ((1 / L : ℝ) : EReal) := by exact_mod_cast (one_div_pos.2 hL).le
  rw [Ideal.div_coe hL.ne', mul_comm, mul_sum _ _ h0 (EReal.coe_ne_top _)]
  refine Finset.sum_congr rfl fun y _ => ?_
  rw [Ideal.div_coe hL.ne']; ac_rfl

/-- Plain softmax attention of one query over keys with scores `t` and values `w`. -/
def soft {ι : Type*} [Fintype ι] (t w : ι → EReal) : EReal :=
  ∑ y, Ideal.div (wt (t y - Finset.univ.fold max ⊥ t)) (∑ z, wt (t z - Finset.univ.fold max ⊥ t)) * w y

/-- A swept numerator over its denominator is plain softmax attention. -/
theorem div_eq_soft {ι : Type*} [Fintype ι] (t w : ι → EReal) (M : EReal) (hM : ∀ z, M ≤ z ↔ ∀ y, t y ≤ z) (ht : ∀ y, t y ≠ ⊤)
    (x : ι) (hx : t x ≠ ⊥) : Ideal.div (∑ y, w y * wt (t y - M)) (∑ y, wt (t y - M)) = soft t w := by
  have e : Finset.univ.fold max ⊥ t = M := eq_of_forall_ge_iff fun z => by rw [hM, fold_max_le]; simp
  obtain ⟨L, hL, hs⟩ := den_pos t M hM ht x hx
  rw [soft, e, hs, div_sum _ _ hL]

end Cert.Proof.Attn

end
-- ==== Proof.Attn.Spec.lean ====
/-
  What both programs compute, over the three prepared arrays: of batch `b` the 4224 positions are the meta block's 128 and
  then the eight tiles of 512; position `x` of head `h` attends to the positions up to it.
-/
module

public import proofs.«01_k».proof.Proof.Attn.Soft
public import Idealize.ShloMosaic.Lib.Pointwise
public import Idealize.ShloMosaic.Lib.WordCmp

@[expose] public section

noncomputable section

namespace Cert.Proof.Attn

open Idealize.ShloMosaic

/-- The three arrays' shapes. -/
abbrev SQ : Shape := ⟨3, ![66, 1024, 512]⟩
abbrev SK : Shape := ⟨3, ![66, 512, 1024]⟩
abbrev SV : Shape := ⟨3, ![66, 512, 512]⟩

/-- The mask's word is minus infinity. -/
theorem ofBits_bot : Ideal.ofBits .f32 0xFF800000#32 = ⊥ := rfl

/-- A choice by the comparison of two small words is one by the comparison of the numbers. -/
theorem select_sle {α : Type} (a b : ℕ) (ha : a < 4224) (hb : b < 4224) (x y : α) :
    Scalar.select (IntOp.cmpi .sle (BitVec.ofNat 32 a) (BitVec.ofNat 32 b)) x y = if a ≤ b then x else y := by
  have e : IntOp.cmpi .sle (BitVec.ofNat 32 a) (BitVec.ofNat 32 b) = BitVec.ofBool (decide (a ≤ b)) := by
    rw [WordCmp.cmpi_sle_eq, WordCmp.toInt_ofNat_of_lt (by omega), WordCmp.toInt_ofNat_of_lt (by omega)]
    simp only [Nat.cast_le]
  rw [e]
  by_cases h : a ≤ b
  · rw [if_pos h, decide_eq_true h]; rfl
  · rw [if_neg h, decide_eq_false h]; rfl

/-- The tile that holds position `x` of batch `b`. -/
def tileOf (b : Fin 8) (x : Fin 4224) : Fin 66 :=
  if x.val < 128 then ⟨64 + b.val / 4, by omega⟩ else ⟨8 * b.val + (x.val - 128) / 512, by omega⟩

/-- Its place in that tile. -/
def laneOf (b : Fin 8) (x : Fin 4224) : Fin 512 :=
  if h : x.val < 128 then ⟨128 * (b.val % 4) + x.val, by omega⟩ else ⟨(x.val - 128) % 512, by omega⟩

/-- Row `d` of head `h` of the queries and keys. -/
def rowQ (h : Fin 8) (d : Fin 128) : Fin 1024 := ⟨128 * h.val + d.val, by omega⟩
/-- Row `d` of head `h` of the values. -/
def rowV (h : Fin 8) (d : Fin 64) : Fin 512 := ⟨64 * h.val + d.val, by omega⟩

/-- The product of a query with a key. -/
def dotQK (A0 : FVec Ideal SQ .bf16) (A1 : FVec Ideal SK .bf16) (b h : Fin 8) (x y : Fin 4224) : EReal :=
  ∑ d : Fin 128, A0 (ix3 (tileOf b x) (rowQ h d) (laneOf b x)) * A1 (ix3 (tileOf b y) (laneOf b y) (rowQ h d))

/-- The masked score of key `y` for query `x`. -/
def score (A0 : FVec Ideal SQ .bf16) (A1 : FVec Ideal SK .bf16) (b h : Fin 8) (x y : Fin 4224) : EReal :=
  if y.val ≤ x.val then dotQK A0 A1 b h x y else ⊥

/-- The values of channel `d` of a head. -/
def valOf (A2 : FVec Ideal SV .bf16) (b h : Fin 8) (d : Fin 64) (y : Fin 4224) : EReal :=
  A2 (ix3 (tileOf b y) (rowV h d) (laneOf b y))

/-- Attention of a position, channel by channel. -/
def att (A0 : FVec Ideal SQ .bf16) (A1 : FVec Ideal SK .bf16) (A2 : FVec Ideal SV .bf16) (b h : Fin 8) (x : Fin 4224) (d : Fin 64) : EReal :=
  soft (score A0 A1 b h x) (valOf A2 b h d)

end Cert.Proof.Attn

end
-- ==== Proof.Attn.Core.lean ====
/-
  One query block's attention in one head, as functions of vectors: the scores of a tile of keys, the two updates of the
  running maximum, denominator and numerator (by a whole tile of earlier keys; by the diagonal tile together with the
  block of meta tokens), and the block's result of the four heads side by side. Each is the kernel's text once, for a
  head `jj`; the printed copies are these functions at a literal head.
-/
module

public import proofs.«01_k».proof.Proof.Gen.KernelIdeal.Skeleton
public import Idealize.ShloMosaic.Lib.VecWindow

@[expose] public section

noncomputable section

namespace Cert.Proof.Attn

open Idealize.ShloMosaic Idealize.ShloMosaic.TcCoe Cert.KernelIdeal Cert.KernelIdeal.Gen

variable {F : FTy → Type} [FloatOps F] [Named F]

theorem slK (jj : Fin 4) : S512x512.Slices ![0, 128 * jj.val] S512x128 := by
  fin_cases jj
  exacts [slices_S512x512_o0_0_S512x128, slices_S512x512_o0_128_S512x128, slices_S512x512_o0_256_S512x128, slices_S512x512_o0_384_S512x128]

theorem slQ (jj : Fin 4) : S512x512.Slices ![128 * jj.val, 0] S128x512 := by
  fin_cases jj
  exacts [slices_S512x512_o0_0_S128x512, slices_S512x512_o128_0_S128x512, slices_S512x512_o256_0_S128x512, slices_S512x512_o384_0_S128x512]

theorem slV (jj : Fin 4) : S256x512.Slices ![64 * jj.val, 0] S64x512 := by
  fin_cases jj
  exacts [slices_S256x512_o0_0_S64x512, slices_S256x512_o64_0_S64x512, slices_S256x512_o128_0_S64x512, slices_S256x512_o192_0_S64x512]

theorem slKm (jj : Fin 4) : S128x512.Slices ![0, 128 * jj.val] S128x128 := by
  fin_cases jj
  exacts [slices_S128x512_o0_0_S128x128, slices_S128x512_o0_128_S128x128, slices_S128x512_o0_256_S128x128, slices_S128x512_o0_384_S128x128]

theorem slQm (jj : Fin 4) : S512x128.Slices ![128 * jj.val, 0] S128x128 := by
  fin_cases jj
  exacts [slices_S512x128_o0_0_S128x128, slices_S512x128_o128_0_S128x128, slices_S512x128_o256_0_S128x128, slices_S512x128_o384_0_S128x128]

theorem slVm (jj : Fin 4) : S256x128.Slices ![64 * jj.val, 0] S64x128 := by
  fin_cases jj
  exacts [slices_S256x128_o0_0_S64x128, slices_S256x128_o64_0_S64x128, slices_S256x128_o128_0_S64x128, slices_S256x128_o192_0_S64x128]

/-- Scores of a tile of keys (`k`: keys by lanes of all heads) against a block of queries (`q`: lanes by queries). -/
def sc (jj : Fin 4) (q k : FVec F S512x512 .bf16) : FVec F S512x512 .f32 :=
  matmul dot_S512x128_S128x512_S512x512_1_0_0_1_n_n none (extractStridedSlice S512x128 ![0, 128 * jj.val] k (slK jj))
    (extractStridedSlice S128x512 ![128 * jj.val, 0] q (slQ jj)) (constant S512x512 .f32 0x00000000#32)

/-- Scores of the meta block's keys against a block of queries. -/
def scM (jj : Fin 4) (q : FVec F S512x512 .bf16) (km : FVec F S128x512 .bf16) : FVec F S128x512 .f32 :=
  matmul dot_S128x128_S128x512_S128x512_1_0_0_1_n_n none (extractStridedSlice S128x128 ![0, 128 * jj.val] km (slKm jj))
    (extractStridedSlice S128x512 ![128 * jj.val, 0] q (slQ jj)) (constant S128x512 .f32 0x00000000#32)

/-- The scores as the scratch's row of a head holds them. -/
abbrev up (s : FVec F S512x512 .f32) : FVec F S1x1x512x512 .f32 := shapeCast S1x1x512x512 s shapeCasts_S512x512_S1x1x512x512
/-- The meta scores as the scratch's row of a head holds them. -/
abbrev upM (s : FVec F S128x512 .f32) : FVec F S1x128x512 .f32 := shapeCast S1x128x512 s shapeCasts_S128x512_S1x128x512

/-- A scratch row read back as a score tile. -/
abbrev dn (s : FVec F S1x1x512x512 .f32) : FVec F S512x512 .f32 := shapeCast S512x512 s shapeCasts_S1x1x512x512_S512x512
abbrev dnM (s : FVec F S1x128x512 .f32) : FVec F S128x512 .f32 := shapeCast S128x512 s shapeCasts_S1x128x512_S128x512

/-- A row of per-query numbers under every column of the block. -/
abbrev row (v : FVec F S512 .f32) : FVec F S1x512 .f32 := shapeCast S1x512 v shapeCasts_S512_S1x512
/-- The maximum over the keys of a tile, per query. -/
abbrev colMax (s : FVec F S512x512 .f32) : FVec F S1x512 .f32 :=
  row (multiReduction .maximumf [0] S512 s 0xFF800000#32 reduces_S512x512_S512 (.inl rfl) rfl)
abbrev colMaxM (s : FVec F S128x512 .f32) : FVec F S1x512 .f32 :=
  row (multiReduction .maximumf [0] S512 s 0xFF800000#32 reduces_S128x512_S512 (.inl rfl) rfl)
/-- The sum over the keys of a tile, per query. -/
abbrev colSum (s : FVec F S512x512 .f32) : FVec F S1x512 .f32 :=
  row (multiReduction .add [0] S512 s 0x00000000#32 reduces_S512x512_S512 (.inl rfl) rfl)
abbrev colSumM (s : FVec F S128x512 .f32) : FVec F S1x512 .f32 :=
  row (multiReduction .add [0] S512 s 0x00000000#32 reduces_S128x512_S512 (.inl rfl) rfl)

/-- Per query the weights of a tile: two to the score less the maximum. -/
abbrev pw (s : FVec F S512x512 .f32) (M : FVec F S1x512 .f32) : FVec F S512x512 .f32 :=
  exp2 (subf s (broadcastTo S512x512 M broadcasts_S1x512_S512x512))
abbrev pwM (s : FVec F S128x512 .f32) (M : FVec F S1x512 .f32) : FVec F S128x512 .f32 :=
  exp2 (subf s (broadcastTo S128x512 M broadcasts_S1x512_S128x512))

/-- Values of a head against the weights of a tile. -/
abbrev vp (jj : Fin 4) (v : FVec F S256x512 .bf16) (p : FVec F S512x512 .f32) : FVec F S64x512 .f32 :=
  matmul dot_S64x512_S512x512_S64x512_1_0_0_1_n_n none (extractStridedSlice S64x512 ![64 * jj.val, 0] v (slV jj))
    (truncf .bf16 p bitsLt_bf16_f32) (constant S64x512 .f32 0x00000000#32)
abbrev vpM (jj : Fin 4) (v : FVec F S256x128 .bf16) (p : FVec F S128x512 .f32) : FVec F S64x512 .f32 :=
  matmul dot_S64x128_S128x512_S64x512_1_0_0_1_n_n none (extractStridedSlice S64x128 ![64 * jj.val, 0] v (slVm jj))
    (truncf .bf16 p bitsLt_bf16_f32) (constant S64x512 .f32 0x00000000#32)

/-- Running state of a head: maximum, denominator, numerator, per query. -/
abbrev HS (F : FTy → Type) : Type := FVec F S1x512 .f32 × FVec F S1x512 .f32 × FVec F S64x512 .f32

/-- The state before any tile. -/
def st0 : HS F :=
  (broadcast S1x512 (Named.named κ "mask" 0xF149F2CA#32 : F .f32), broadcast S1x512 (Scalar.ofBits .f32 0x00000000#32 : F .f32),
    broadcast S64x512 (Scalar.ofBits .f32 0x00000000#32 : F .f32))

/-- The update by a whole tile of keys. -/
def stepT (jj : Fin 4) (v : FVec F S256x512 .bf16) (s : FVec F S512x512 .f32) (t : HS F) : HS F :=
  let M := maximumf t.1 (colMax s)
  let a := exp2 (subf t.1 M)
  (M, addf (mulf a t.2.1) (colSum (pw s M)), addf (mulf (broadcastTo S64x512 a broadcasts_S1x512_S64x512) t.2.2) (vp jj v (pw s M)))

/-- The diagonal tile's scores: a key after the query is masked. -/
def masked (s : FVec F S512x512 .f32) : FVec F S512x512 .f32 :=
  select (cmpi .sle (iota .tc S512x512 32 [0] iota_S512x512_d0_w32) (iota .tc S512x512 32 [1] iota_S512x512_d1_w32)) s
    (broadcast S512x512 (Named.named κ "mask" 0xF149F2CA#32 : F .f32))

/-- The last update, by the diagonal tile and the meta block: denominator and numerator. -/
def stepD (jj : Fin 4) (v : FVec F S256x512 .bf16) (vm : FVec F S256x128 .bf16) (s : FVec F S512x512 .f32) (sm : FVec F S128x512 .f32)
    (t : HS F) : FVec F S1x512 .f32 × FVec F S64x512 .f32 :=
  let M := maximumf (maximumf t.1 (colMaxM sm)) (colMax (masked s))
  let a := exp2 (subf t.1 M)
  (addf (addf (mulf a t.2.1) (colSum (pw (masked s) M))) (colSumM (pwM sm M)),
    addf (mulf (broadcastTo S64x512 a broadcasts_S1x512_S64x512) t.2.2) (addf (vp jj v (pw (masked s) M)) (vpM jj vm (pwM sm M))))

/-- A tile of `512` keys out of the eight of the batch. -/
def kt (x : FVec F S8x512x512 .bf16) (j : ℕ) : FVec F S1x512x512 .bf16 :=
  VecWindow.window (s := S8x512x512) x ![j % 8, 0, 0] S1x512x512.size (by
    have := Nat.mod_lt j (by decide : 0 < 8)
    intro a; fin_cases a
    · show j % 8 + 1 ≤ 8; omega
    · exact le_refl 512
    · exact le_refl 512)

/-- The values' tile. -/
def vt (x : FVec F S8x256x512 .bf16) (j : ℕ) : FVec F S1x256x512 .bf16 :=
  VecWindow.window (s := S8x256x512) x ![j % 8, 0, 0] S1x256x512.size (by
    have := Nat.mod_lt j (by decide : 0 < 8)
    intro a; fin_cases a
    · show j % 8 + 1 ≤ 8; omega
    · exact le_refl 256
    · exact le_refl 512)

abbrev sq (k : FVec F S1x512x512 .bf16) : FVec F S512x512 .bf16 := shapeCast S512x512 k shapeCasts_S1x512x512_S512x512
abbrev sqV (v : FVec F S1x256x512 .bf16) : FVec F S256x512 .bf16 := shapeCast S256x512 v shapeCasts_S1x256x512_S256x512

/-- The state of a head after the first `n` tiles of keys. -/
def stN (jj : Fin 4) (q : FVec F S512x512 .bf16) (x : FVec F S8x512x512 .bf16) (v : FVec F S8x256x512 .bf16) : ℕ → HS F
  | 0 => st0
  | n + 1 => stepT jj (sqV (vt v n)) (sc jj q (sq (kt x n))) (stN jj q x v n)

/-- Four heads' states in the order the loop carries them. -/
abbrev tup (t : Fin 4 → HS F) : FVec F S1x512 .f32 × FVec F S1x512 .f32 × FVec F S64x512 .f32 × FVec F S1x512 .f32 × FVec F S1x512 .f32 × FVec F S64x512 .f32 × FVec F S1x512 .f32 × FVec F S1x512 .f32 × FVec F S64x512 .f32 × FVec F S1x512 .f32 × FVec F S1x512 .f32 × FVec F S64x512 .f32 :=
  ((t 0).1, (t 0).2.1, (t 0).2.2, (t 1).1, (t 1).2.1, (t 1).2.2, (t 2).1, (t 2).2.1, (t 2).2.2, (t 3).1, (t 3).2.1, (t 3).2.2)

/-- Denominator and numerator of a head at query block `n`. -/
def fin (jj : Fin 4) (q : FVec F S512x512 .bf16) (x : FVec F S8x512x512 .bf16) (v : FVec F S8x256x512 .bf16)
    (km : FVec F S128x512 .bf16) (vm : FVec F S256x128 .bf16) (n : ℕ) : FVec F S1x512 .f32 × FVec F S64x512 .f32 :=
  stepD jj (sqV (vt v n)) vm (sc jj q (sq (kt x n))) (scM jj q km) (stN jj q x v n)

/-- The block's result: every head's numerator over its denominator, queries by lanes. -/
def outB (t : Fin 4 → FVec F S1x512 .f32 × FVec F S64x512 .f32) : FVec F S512x256 .bf16 :=
  k0_pay240 (t 0).1 (t 0).2 (t 1).1 (t 1).2 (t 2).1 (t 2).2 (t 3).1 (t 3).2

/-- Query block `n`'s result. -/
def blkOut (xq x : FVec F S8x512x512 .bf16) (v : FVec F S8x256x512 .bf16) (km : FVec F S128x512 .bf16) (vm : FVec F S256x128 .bf16) (n : ℕ) :
    FVec F S512x256 .bf16 :=
  outB fun jj => fin jj (sq (kt xq n)) x v km vm n

end Cert.Proof.Attn

end
-- ==== Proof.Attn.Point.lean ====
/-
  The vector functions of Core.lean read at one query and one channel: the state of a head after some tiles is a sweep of
  Soft.lean over that query's scores, and the block's result is the sweep's last step.
-/
module

public import proofs.«01_k».proof.Proof.Attn.Spec
public import proofs.«01_k».proof.Proof.Attn.Core

@[expose] public section

set_option maxRecDepth 16384

noncomputable section

namespace Cert.Proof.Attn

open Idealize.ShloMosaic Idealize.ShloMosaic.TcCoe Cert.KernelIdeal Cert.KernelIdeal.Gen

/-- Row `d` of head `jj` of the four that a point takes. -/
def rowL (jj : Fin 4) (d : Fin 128) : Fin 512 := ⟨128 * jj.val + d.val, by omega⟩
/-- Likewise of the values. -/
def rowLV (jj : Fin 4) (d : Fin 64) : Fin 256 := ⟨64 * jj.val + d.val, by omega⟩

theorem mask_at : (Named.named κ "mask" 0xF149F2CA#32 : Ideal .f32) = (⊥ : EReal) :=
  IdealRules.named_const.ideal_named_scalar _ _ _ _ rfl

theorem sc_at (jj : Fin 4) (q k : FVec Ideal S512x512 .bf16) (y c : Fin 512) :
    sc jj q k (ix2 y c) = ∑ d : Fin 128, q (ix2 (rowL jj d) c) * k (ix2 y (rowL jj d)) := by
  pointwise [sc]
  exact Finset.sum_congr rfl fun d _ => mul_comm _ _

theorem scM_at (jj : Fin 4) (q : FVec Ideal S512x512 .bf16) (k : FVec Ideal S128x512 .bf16) (y : Fin 128) (c : Fin 512) :
    scM jj q k (ix2 y c) = ∑ d : Fin 128, q (ix2 (rowL jj d) c) * k (ix2 y (rowL jj d)) := by
  pointwise [scM]
  exact Finset.sum_congr rfl fun d _ => mul_comm _ _

theorem masked_at (s : FVec Ideal S512x512 .f32) (y c : Fin 512) :
    masked s (ix2 y c) = if y.val ≤ c.val then s (ix2 y c) else ⊥ := by
  pointwise [masked]
  rw [select_sle _ _ (by omega) (by omega), mask_at]

theorem kt_at (x : FVec Ideal S8x512x512 .bf16) (n : Fin 8) (a b : Fin 512) : sq (kt x n.val) (ix2 a b) = x (ix3 n a b) := by
  pointwise [sq, kt]
  refine congrArg x (funext fun i => Fin.ext ?_)
  fin_cases i
  · show n.val % 8 + 0 = n.val; omega
  · show 0 + 1 * a.val = a.val; omega
  · show 0 + 1 * b.val = b.val; omega

theorem vt_at (x : FVec Ideal S8x256x512 .bf16) (n : Fin 8) (a : Fin 256) (b : Fin 512) : sqV (vt x n.val) (ix2 a b) = x (ix3 n a b) := by
  pointwise [sqV, vt]
  refine congrArg x (funext fun i => Fin.ext ?_)
  fin_cases i
  · show n.val % 8 + 0 = n.val; omega
  · show 0 + 1 * a.val = a.val; omega
  · show 0 + 1 * b.val = b.val; omega

theorem stepT_at (jj : Fin 4) (v : FVec Ideal S256x512 .bf16) (s : FVec Ideal S512x512 .f32) (t : HS Ideal) (c : Fin 512) (d : Fin 64) :
    (stepT jj v s t).1 (ix2 0 c) = max (t.1 (ix2 0 c)) (Finset.univ.fold max ⊥ fun k : Fin 512 => s (ix2 k c))
    ∧ (stepT jj v s t).2.1 (ix2 0 c) = wt (t.1 (ix2 0 c) - (stepT jj v s t).1 (ix2 0 c)) * t.2.1 (ix2 0 c)
        + ∑ k : Fin 512, wt (s (ix2 k c) - (stepT jj v s t).1 (ix2 0 c))
    ∧ (stepT jj v s t).2.2 (ix2 d c) = wt (t.1 (ix2 0 c) - (stepT jj v s t).1 (ix2 0 c)) * t.2.2 (ix2 d c)
        + ∑ k : Fin 512, v (ix2 (rowLV jj d) k) * wt (s (ix2 k c) - (stepT jj v s t).1 (ix2 0 c)) := by
  refine ⟨?_, ?_, ?_⟩
  · pointwise [stepT]
    rw [ofBits_bot]
  · pointwise [stepT]
    rfl
  · pointwise [stepT]
    rfl

theorem stepD_at (jj : Fin 4) (v : FVec Ideal S256x512 .bf16) (vm : FVec Ideal S256x128 .bf16) (s : FVec Ideal S512x512 .f32)
    (sm : FVec Ideal S128x512 .f32) (t : HS Ideal) (c : Fin 512) (d : Fin 64) (M : EReal)
    (hM : M = max (max (t.1 (ix2 0 c)) (Finset.univ.fold max ⊥ fun k : Fin 128 => sm (ix2 k c)))
      (Finset.univ.fold max ⊥ fun k : Fin 512 => masked s (ix2 k c))) :
    (stepD jj v vm s sm t).1 (ix2 0 c) = (wt (t.1 (ix2 0 c) - M) * t.2.1 (ix2 0 c) + ∑ k : Fin 512, wt (masked s (ix2 k c) - M))
        + ∑ k : Fin 128, wt (sm (ix2 k c) - M)
    ∧ (stepD jj v vm s sm t).2 (ix2 d c) = wt (t.1 (ix2 0 c) - M) * t.2.2 (ix2 d c)
        + (∑ k : Fin 512, v (ix2 (rowLV jj d) k) * wt (masked s (ix2 k c) - M) + ∑ k : Fin 128, vm (ix2 (rowLV jj d) k) * wt (sm (ix2 k c) - M)) := by
  subst hM
  refine ⟨?_, ?_⟩
  · pointwise [stepD]
    rfl
  · pointwise [stepD]
    rfl

/-- Four pieces of 64 rows one after another. -/
theorem four_pieces (f : Fin 4 → Fin 64 → EReal) (l : ℕ) (jj : Fin 4) (d : Fin 64) (hl : l = 64 * jj.val + d.val) :
    (if h : l < 64 then f 0 ⟨l, h⟩ else if h : l - 64 < 64 then f 1 ⟨l - 64, h⟩
      else if h : l - 64 - 64 < 64 then f 2 ⟨l - 64 - 64, h⟩ else f 3 ⟨l - 64 - 64 - 64, by omega⟩) = f jj d := by
  subst hl
  obtain ⟨j, hj⟩ := jj
  have hj' : j = 0 ∨ j = 1 ∨ j = 2 ∨ j = 3 := by omega
  rcases hj' with rfl | rfl | rfl | rfl
  · rw [dif_pos (by show 64 * 0 + d.val < 64; omega)]
    exact congrArg (f 0) (Fin.ext (by show 64 * 0 + d.val = d.val; omega))
  · rw [dif_neg (by show ¬ 64 * 1 + d.val < 64; omega), dif_pos (by show 64 * 1 + d.val - 64 < 64; omega)]
    exact congrArg (f 1) (Fin.ext (by show 64 * 1 + d.val - 64 = d.val; omega))
  · rw [dif_neg (by show ¬ 64 * 2 + d.val < 64; omega), dif_neg (by show ¬ 64 * 2 + d.val - 64 < 64; omega), dif_pos (by show 64 * 2 + d.val - 64 - 64 < 64; omega)]
    exact congrArg (f 2) (Fin.ext (by show 64 * 2 + d.val - 64 - 64 = d.val; omega))
  · rw [dif_neg (by show ¬ 64 * 3 + d.val < 64; omega), dif_neg (by show ¬ 64 * 3 + d.val - 64 < 64; omega), dif_neg (by show ¬ 64 * 3 + d.val - 64 - 64 < 64; omega)]
    exact congrArg (f 3) (Fin.ext (by show 64 * 3 + d.val - 64 - 64 - 64 = d.val; omega))

theorem outB_at (t : Fin 4 → FVec Ideal S1x512 .f32 × FVec Ideal S64x512 .f32) (c : Fin 512) (jj : Fin 4) (d : Fin 64) :
    outB t (ix2 c (rowLV jj d)) = Ideal.div ((t jj).2 (ix2 d c)) ((t jj).1 (ix2 0 c)) := by
  pointwise [outB, k0_pay240]
  exact four_pieces (fun i e => Ideal.div ((t i).2 (ix2 e c)) ((t i).1 (ix2 0 c))) _ jj d rfl

/-- A head's state after `n` tiles is a sweep over them. -/
theorem stN_swept (jj : Fin 4) (q : FVec Ideal S512x512 .bf16) (x : FVec Ideal S8x512x512 .bf16) (v : FVec Ideal S8x256x512 .bf16)
    (c : Fin 512) (d : Fin 64) (n : ℕ) :
    Swept (fun j k => sc jj q (sq (kt x j)) (ix2 k c)) (fun j k => sqV (vt v j) (ix2 (rowLV jj d) k)) n
      ((stN jj q x v n).1 (ix2 0 c)) ((stN jj q x v n).2.1 (ix2 0 c)) ((stN jj q x v n).2.2 (ix2 d c)) := by
  induction n with
  | zero =>
    have e1 : (stN jj q x v 0).1 (ix2 0 c) = (⊥ : EReal) := mask_at
    have e2 : (stN jj q x v 0).2.1 (ix2 0 c) = (0 : EReal) := by
      show Ideal.ofBits .f32 0x00000000#32 = 0
      simp [Ideal.ofBits, Ideal.ieee]
    have e3 : (stN jj q x v 0).2.2 (ix2 d c) = (0 : EReal) := by
      show Ideal.ofBits .f32 0x00000000#32 = 0
      simp [Ideal.ofBits, Ideal.ieee]
    rw [e1, e2, e3]
    exact swept_zero _ _
  | succ n ih =>
    obtain ⟨h1, h2, h3⟩ := stepT_at jj (sqV (vt v n)) (sc jj q (sq (kt x n))) (stN jj q x v n) c d
    have := ih.step h1
    rw [← h2, ← h3] at this
    exact this

/-- A real query's result: attention over all keys, of whatever scores and values the blocks hold. -/
theorem blkOut_at (xq x : FVec Ideal S8x512x512 .bf16) (v : FVec Ideal S8x256x512 .bf16) (km : FVec Ideal S128x512 .bf16) (vm : FVec Ideal S256x128 .bf16)
    (n : Fin 8) (c : Fin 512) (jj : Fin 4) (d : Fin 64) (t w : Fin 4224 → EReal)
    (hE : ∀ k : Fin 128, t ⟨k.val, by omega⟩ = ∑ e : Fin 128, xq (ix3 n (rowL jj e) c) * km (ix2 k (rowL jj e)))
    (hV : ∀ k : Fin 128, w ⟨k.val, by omega⟩ = vm (ix2 (rowLV jj d) k))
    (hT : ∀ (j : Fin 8) (k : Fin 512), t ⟨128 + (512 * j.val + k.val), by omega⟩
      = if 512 * j.val + k.val ≤ 512 * n.val + c.val then ∑ e : Fin 128, xq (ix3 n (rowL jj e) c) * x (ix3 j k (rowL jj e)) else ⊥)
    (hW : ∀ (j : Fin 8) (k : Fin 512), w ⟨128 + (512 * j.val + k.val), by omega⟩ = v (ix3 j (rowLV jj d) k))
    (ht : ∀ y, t y ≠ ⊤) (y0 : Fin 4224) (hy : t y0 ≠ ⊥) :
    blkOut xq x v km vm n.val (ix2 c (rowLV jj d)) = soft t w := by
  unfold blkOut
  rw [outB_at]
  unfold fin
  obtain ⟨h1, h2⟩ := stepD_at jj (sqV (vt v n.val)) vm (sc jj (sq (kt xq n.val)) (sq (kt x n.val))) (scM jj (sq (kt xq n.val)) km)
    (stN jj (sq (kt xq n.val)) x v n.val) c d _ rfl
  rw [h1, h2]
  have hs : ∀ (j : Fin 8) (k : Fin 512), sc jj (sq (kt xq n.val)) (sq (kt x j.val)) (ix2 k c)
      = ∑ e : Fin 128, xq (ix3 n (rowL jj e) c) * x (ix3 j k (rowL jj e)) := fun j k => by
    rw [sc_at]
    exact Finset.sum_congr rfl fun e _ => by rw [kt_at, kt_at]
  obtain ⟨a1, a2, a3⟩ := (stN_swept jj (sq (kt xq n.val)) x v c d n.val).last n.isLt t w
    (fun k => masked (sc jj (sq (kt xq n.val)) (sq (kt x n.val))) (ix2 k c)) (fun k => scM jj (sq (kt xq n.val)) km (ix2 k c))
    (fun k => vm (ix2 (rowLV jj d) k)) rfl
    (fun k => by
      rw [hE, scM_at]
      exact Finset.sum_congr rfl fun e _ => by rw [kt_at])
    hV
    (fun j hj k => by
      have := hT ⟨j, by omega⟩ k
      rw [this, if_pos (by show 512 * j + k.val ≤ 512 * n.val + c.val; omega)]
      exact (hs ⟨j, by omega⟩ k).symm)
    (fun k => by
      rw [hT n k, masked_at, hs]
      by_cases h : k.val ≤ c.val
      · rw [if_pos h, if_pos (by omega)]
      · rw [if_neg h, if_neg (by omega)])
    (fun j hj k => by
      rw [hW ⟨j, by omega⟩ k]
      exact (vt_at v ⟨j, by omega⟩ _ _).symm)
    (fun j hj hj' k => by
      have := hT ⟨j, hj'⟩ k
      rw [this, if_neg (by show ¬ 512 * j + k.val ≤ 512 * n.val + c.val; omega)])
  rw [a2, a3]
  exact div_eq_soft t w _ a1 ht y0 hy

end Cert.Proof.Attn

end
-- ==== Proof.Attn.Reads.lean ====
/-
  Reading back what a list of stores left (the newest store first), and the closed forms of the kernel's computed offsets,
  trip counts and condition over the query block's number.
-/
module

public import proofs.«01_k».proof.Proof.Attn.Core
public import Idealize.ShloMosaic.Lib.VecWindow
public import Idealize.ShloMosaic.Lib.Pipeline.Value

@[expose] public section

noncomputable section

namespace Cert.Proof.Attn

open Idealize.ShloMosaic Idealize.ShloMosaic.TcCoe Cert.KernelIdeal Cert.KernelIdeal.Gen

section View

variable {sig : RefSig} {κ : Kind} {sp : Space} {s : Shape} {e : EltTy} {Val : EltTy → Type}
variable (v : View sig κ sp s e) (f : v.ty.Contents Val)

/-- A load of the newest store's own rectangle gives its payload. -/
theorem readAt_hit {off size : Fin s.rank → ℕ} (inb inb' : ∀ a, off a + size a ≤ s.size a)
    (w : (Rect.unit off size inb).shape.Idx → Val e) (L : List (View.Piece Val s e)) :
    v.readAt Val (Rect.unit off size inb').toLoadRect (v.writes Val f ((⟨Rect.unit off size inb, w⟩ : View.Piece Val s e) :: L)) = w := by
  funext x
  refine View.read_writes_cons_unit_of_mem v f inb w L _ x rfl fun a => ?_
  show off a + 1 * (x a).val = off a + (x a).val
  omega

/-- A load of a rectangle apart from the newest store's on some axis reads what the earlier stores left. -/
theorem readAt_miss {off size off' size' : Fin s.rank → ℕ} (inb : ∀ a, off a + size a ≤ s.size a) (inb' : ∀ a, off' a + size' a ≤ s.size a)
    (w : (Rect.unit off size inb).shape.Idx → Val e) (L : List (View.Piece Val s e))
    (h : ∃ a, off' a + size' a ≤ off a ∨ off a + size a ≤ off' a) :
    v.readAt Val (Rect.unit off' size' inb').toLoadRect (v.writes Val f ((⟨Rect.unit off size inb, w⟩ : View.Piece Val s e) :: L))
      = v.readAt Val (Rect.unit off' size' inb').toLoadRect (v.writes Val f L) := by
  obtain ⟨a, ha⟩ := h
  funext x
  refine View.read_writes_cons_unit_of_not_mem v f inb w L _ rfl a ?_
  have e : ((Rect.unit off' size' inb').toLoadRect.idx x a).val = off' a + 1 * (x a).val := rfl
  have : (x a).val < size' a := (x a).isLt
  omega

/-- The same of a load whose cells are all among the stores'. -/
theorem readCov_hit [∀ e, Nonempty (Val e)] {off size : Fin s.rank → ℕ} (inb inb' : ∀ a, off a + size a ≤ s.size a)
    (w : (Rect.unit off size inb).shape.Idx → Val e) (L : List (View.Piece Val s e)) :
    v.readCov ((⟨Rect.unit off size inb, w⟩ : View.Piece Val s e) :: L) (Rect.unit off size inb').toLoadRect = w :=
  readAt_hit v _ inb inb' w L

theorem readCov_miss [∀ e, Nonempty (Val e)] {off size off' size' : Fin s.rank → ℕ} (inb : ∀ a, off a + size a ≤ s.size a)
    (inb' : ∀ a, off' a + size' a ≤ s.size a) (w : (Rect.unit off size inb).shape.Idx → Val e) (L : List (View.Piece Val s e))
    (h : ∃ a, off' a + size' a ≤ off a ∨ off a + size a ≤ off' a) :
    v.readCov ((⟨Rect.unit off size inb, w⟩ : View.Piece Val s e) :: L) (Rect.unit off' size' inb').toLoadRect
      = v.readCov L (Rect.unit off' size' inb').toLoadRect :=
  readAt_miss v _ inb inb' w L h

end View

variable {F : FTy → Type} [FloatOps F] [Named F]

theorem dn_up (s : FVec F S512x512 .f32) : dn (up s) = s := shapeCast_shapeCast s _ _
theorem dnM_upM (s : FVec F S128x512 .f32) : dnM (upM s) = s := shapeCast_shapeCast s _ _

theorem trips1 : k0_t1_loop.trips = 8 := by decide
theorem trips2 : ∀ k : Fin k0_t1_loop.trips, (k0_t2_loop k).trips = k.val / 2 := by decide +kernel
theorem trips3 : ∀ k : Fin k0_t1_loop.trips, (k0_t3_loop k).trips = 0 := by decide +kernel
theorem cond1 : ∀ k : Fin k0_t1_loop.trips, k0_cond1 k = 1#1 ↔ k.val % 2 = 1 := by decide +kernel
theorem off1 : ∀ k : Fin k0_t1_loop.trips, k0_off1 k = ![k.val % 8, 0, 0] := by decide +kernel
theorem off2a : ∀ (k : Fin k0_t1_loop.trips) (j : Fin (k0_t2_loop k).trips), k0_off2 k j 1#32 = ![(2 * j.val + 1) % 8, 0, 0] := by decide +kernel
theorem off2b : ∀ (k : Fin k0_t1_loop.trips) (j : Fin (k0_t2_loop k).trips), k0_off2 k j 2#32 = ![(2 * (j.val + 1)) % 8, 0, 0] := by decide +kernel
theorem off3 : ∀ (k : Fin k0_t1_loop.trips) (j : Fin (k0_t2_loop k).trips), k0_off3 k j = ![(2 * j.val) % 8, 0, 0] := by decide +kernel
theorem off4 : ∀ (k : Fin k0_t1_loop.trips) (j : Fin (k0_t2_loop k).trips), k0_off4 k j = ![(2 * j.val + 1) % 8, 0, 0] := by decide +kernel
theorem off8 : ∀ k : Fin k0_t1_loop.trips, k0_off8 k = ![k.val % 8, 0, 0] := by decide +kernel
theorem off9 : ∀ k : Fin k0_t1_loop.trips, k.val % 2 = 1 → k0_off9 k = ![(k.val - 1) % 8, 0, 0] := by decide +kernel
theorem off10 : ∀ k : Fin k0_t1_loop.trips, k0_off10 k = ![k.val % 8, 0, 0] := by decide +kernel
theorem off11 : ∀ k : Fin k0_t1_loop.trips, k0_off11 k = ![k.val % 8, 0, 0] := by decide +kernel
theorem off12 : ∀ k : Fin k0_t1_loop.trips, k0_off12 k = ![512 * k.val, 0] := by decide +kernel

/-- A load of key tile `j`. -/
theorem read_kt {a : Memref sig .tc .vmem S8x512x512 .bf16} (X : BufTy.Contents (Elt F) a.view.ty) {off : Fin 3 → ℕ} (j : ℕ)
    (inb : ∀ b, off b + S1x512x512.size b ≤ S8x512x512.size b) (h : off = ![j % 8, 0, 0]) :
    a.view.readAt (Elt F) (Rect.unit (s := S8x512x512) off S1x512x512.size inb).toLoadRect X = kt (a.view.read (Elt F) X) j :=
  View.readAt_unit a.view X inb h _

/-- A load of value tile `j`. -/
theorem read_vt {a : Memref sig .tc .vmem S8x256x512 .bf16} (X : BufTy.Contents (Elt F) a.view.ty) {off : Fin 3 → ℕ} (j : ℕ)
    (inb : ∀ b, off b + S1x256x512.size b ≤ S8x256x512.size b) (h : off = ![j % 8, 0, 0]) :
    a.view.readAt (Elt F) (Rect.unit (s := S8x256x512) off S1x256x512.size inb).toLoadRect X = vt (a.view.read (Elt F) X) j :=
  View.readAt_unit a.view X inb h _

end Cert.Proof.Attn

end
-- ==== Proof.Attn.Loop2.lean ====
/-
  The loop over pairs of earlier key tiles of one query block: before trip `k` the scratch's first slot holds the scores of
  tile `2k` in every head, and the carried states are those after `2k` tiles. One trip, run once at a symbolic `k`.
-/
module

public import proofs.«01_k».proof.Proof.Attn.Reads
public import Idealize.ShloMosaic.Lib.Exec
public import Idealize.ShloMosaic.Lib.Tactic
public import Idealize.ShloMosaic.Lib.Tactic.Stretches
public import Idealize.ShloMosaic.Lib.Pipeline.Kit

@[expose] public section

noncomputable section

namespace Cert.Proof.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The scratch's first slot holds the four heads' score tiles `s`. -/
def Slot0 (arg10 : Memref sig .tc .vmem S2x4x512x512 .f32) (f : BufTy.Contents (Elt F) arg10.view.ty) (s : Fin 4 → FVec F S512x512 .f32) : Prop :=
  arg10.view.readAt (Elt F) (Rect.unit (s := S2x4x512x512) ![0, 0, 0, 0] S1x1x512x512.size inb_S2x4x512x512_S1x1x512x512_0_0_0_0).toLoadRect f = up (s 0)
  ∧ arg10.view.readAt (Elt F) (Rect.unit (s := S2x4x512x512) ![0, 1, 0, 0] S1x1x512x512.size inb_S2x4x512x512_S1x1x512x512_0_1_0_0).toLoadRect f = up (s 1)
  ∧ arg10.view.readAt (Elt F) (Rect.unit (s := S2x4x512x512) ![0, 2, 0, 0] S1x1x512x512.size inb_S2x4x512x512_S1x1x512x512_0_2_0_0).toLoadRect f = up (s 2)
  ∧ arg10.view.readAt (Elt F) (Rect.unit (s := S2x4x512x512) ![0, 3, 0, 0] S1x1x512x512.size inb_S2x4x512x512_S1x1x512x512_0_3_0_0).toLoadRect f = up (s 3)

/-- A head's row of the scratch's first slot. -/
def rd0 (arg10 : Memref sig .tc .vmem S2x4x512x512 .f32) (f : BufTy.Contents (Elt F) arg10.view.ty) (jj : Fin 4) : FVec F S1x1x512x512 .f32 :=
  (![arg10.view.readAt (Elt F) (Rect.unit (s := S2x4x512x512) ![0, 0, 0, 0] S1x1x512x512.size inb_S2x4x512x512_S1x1x512x512_0_0_0_0).toLoadRect f,
    arg10.view.readAt (Elt F) (Rect.unit (s := S2x4x512x512) ![0, 1, 0, 0] S1x1x512x512.size inb_S2x4x512x512_S1x1x512x512_0_1_0_0).toLoadRect f,
    arg10.view.readAt (Elt F) (Rect.unit (s := S2x4x512x512) ![0, 2, 0, 0] S1x1x512x512.size inb_S2x4x512x512_S1x1x512x512_0_2_0_0).toLoadRect f,
    arg10.view.readAt (Elt F) (Rect.unit (s := S2x4x512x512) ![0, 3, 0, 0] S1x1x512x512.size inb_S2x4x512x512_S1x1x512x512_0_3_0_0).toLoadRect f]
    : Fin 4 → FVec F S1x1x512x512 .f32) jj

/-- The first slot's score tiles. -/
def dnR (arg10 : Memref sig .tc .vmem S2x4x512x512 .f32) (f : BufTy.Contents (Elt F) arg10.view.ty) : Fin 4 → FVec F S512x512 .f32 :=
  fun jj => dn (rd0 arg10 f jj)

/-- The score tiles of tile `n`, those of tile `0` being `s`. -/
def scAt (s : Fin 4 → FVec F S512x512 .f32) (q : FVec F S512x512 .bf16) (x : FVec F S8x512x512 .bf16) : ℕ → Fin 4 → FVec F S512x512 .f32
  | 0 => s
  | n + 1 => fun jj => sc jj q (sq (kt x (n + 1)))

/-- The states after `n` tiles from `t`, tile `0`'s scores being `s`. -/
def stAt (s : Fin 4 → FVec F S512x512 .f32) (t : Fin 4 → HS F) (q : FVec F S512x512 .bf16) (x : FVec F S8x512x512 .bf16)
    (v : FVec F S8x256x512 .bf16) : ℕ → Fin 4 → HS F
  | 0 => t
  | n + 1 => fun jj => stepT jj (sqV (vt v n)) (scAt s q x n jj) (stAt s t q x v n jj)

/-- The four heads' states out of the carried tuple. -/
abbrev untup (a : FVec F S1x512 .f32 × FVec F S1x512 .f32 × FVec F S64x512 .f32 × FVec F S1x512 .f32 × FVec F S1x512 .f32 × FVec F S64x512 .f32 × FVec F S1x512 .f32 × FVec F S1x512 .f32 × FVec F S64x512 .f32 × FVec F S1x512 .f32 × FVec F S1x512 .f32 × FVec F S64x512 .f32) : Fin 4 → HS F :=
  ![(a.1, a.2.1, a.2.2.1), (a.2.2.2.1, a.2.2.2.2.1, a.2.2.2.2.2.1), (a.2.2.2.2.2.2.1, a.2.2.2.2.2.2.2.1, a.2.2.2.2.2.2.2.2.1),
    (a.2.2.2.2.2.2.2.2.2.1, a.2.2.2.2.2.2.2.2.2.2.1, a.2.2.2.2.2.2.2.2.2.2.2)]

theorem scAt_eq (q : FVec F S512x512 .bf16) (x : FVec F S8x512x512 .bf16) (n : ℕ) :
    scAt (fun jj => sc jj q (sq (kt x 0))) q x n = fun jj => sc jj q (sq (kt x n)) := by
  cases n <;> rfl

theorem stAt_eq (q : FVec F S512x512 .bf16) (x : FVec F S8x512x512 .bf16) (v : FVec F S8x256x512 .bf16) (n : ℕ) :
    stAt (fun jj => sc jj q (sq (kt x 0))) (fun _ => st0) q x v n = fun jj => stN jj q x v n := by
  induction n with
  | zero => rfl
  | succ n ih =>
    funext jj
    show stepT jj _ (scAt _ q x n jj) (stAt _ _ q x v n jj) = stepT jj _ _ _
    rw [ih, scAt_eq]

theorem Slot0.eq {arg10 : Memref sig .tc .vmem S2x4x512x512 .f32} {f : BufTy.Contents (Elt F) arg10.view.ty} {s : Fin 4 → FVec F S512x512 .f32}
    (h : Slot0 arg10 f s) (jj : Fin 4) : s jj = dn (rd0 arg10 f jj) := by
  obtain ⟨h0, h1, h2, h3⟩ := h
  fin_cases jj
  · exact ((congrArg dn h0).trans (dn_up _)).symm
  · exact ((congrArg dn h1).trans (dn_up _)).symm
  · exact ((congrArg dn h2).trans (dn_up _)).symm
  · exact ((congrArg dn h3).trans (dn_up _)).symm

theorem Slot0.dnR {arg10 : Memref sig .tc .vmem S2x4x512x512 .f32} {f : BufTy.Contents (Elt F) arg10.view.ty} {s : Fin 4 → FVec F S512x512 .f32}
    (h : Slot0 arg10 f s) : dnR arg10 f = s :=
  funext fun jj => (h.eq jj).symm

section Loop

variable (𝒱 : Variants) (c : Dev nD) (bd : Option 𝒱.V) (E : Set ℕ) (i : grid0.Coords) (arg2 : Memref sig .tc .vmem S8x512x512 .bf16) (harg2 : arg2.IsWhole) (arg3 : Memref sig .tc .vmem S8x512x512 .bf16) (harg3 : arg3.IsWhole) (arg4 : Memref sig .tc .vmem S8x256x512 .bf16) (harg4 : arg4.IsWhole) (arg5 : Memref sig .tc .vmem S1x512x128 .bf16) (harg5 : arg5.IsWhole) (arg6 : Memref sig .tc .vmem S1x128x512 .bf16) (harg6 : arg6.IsWhole) (arg7 : Memref sig .tc .vmem S1x256x128 .bf16) (harg7 : arg7.IsWhole) (arg8 : Memref sig .tc .vmem S4096x256 .bf16) (harg8 : arg8.IsWhole) (arg9 : Memref sig .tc .vmem S128x256 .bf16) (harg9 : arg9.IsWhole) (arg10 : Memref sig .tc .vmem S2x4x512x512 .f32) (harg10 : arg10.IsWhole) (arg11 : Memref sig .tc .vmem S4x128x512 .f32) (harg11 : arg11.IsWhole) (v3 : FVec F S256x128 .bf16) (k0_t1 : Fin k0_t1_loop.trips) (arg12 : BitVec 32) (v93 : FVec F S512x512 .bf16) (v94 : FVec F S1x512 .f32) (v95 : FVec F S1x512 .f32) (v96 : FVec F S64x512 .f32) (c2_i32 : BitVec 32) (v147 : BitVec 32) (v152 : BitVec 32) (v153 : BitVec 1)
  (init : FVec F S1x512 .f32 × FVec F S1x512 .f32 × FVec F S64x512 .f32 × FVec F S1x512 .f32 × FVec F S1x512 .f32 × FVec F S64x512 .f32 × FVec F S1x512 .f32 × FVec F S1x512 .f32 × FVec F S64x512 .f32 × FVec F S1x512 .f32 × FVec F S1x512 .f32 × FVec F S64x512 .f32)
  (s0 : Fin 4 → FVec F S512x512 .f32)
  (X3 : BufTy.Contents (Elt F) arg3.view.ty) (X4 : BufTy.Contents (Elt F) arg4.view.ty)

/-- Before trip `k`. -/
abbrev inv2 (k : ℕ) (acc : FVec F S1x512 .f32 × FVec F S1x512 .f32 × FVec F S64x512 .f32 × FVec F S1x512 .f32 × FVec F S1x512 .f32 × FVec F S64x512 .f32 × FVec F S1x512 .f32 × FVec F S1x512 .f32 × FVec F S64x512 .f32 × FVec F S1x512 .f32 × FVec F S1x512 .f32 × FVec F S64x512 .f32) : sProp 𝕄G :=
  iprop((arg3.view.loc (c : Thread nD τ) ↦[arg3.view.set]{fullShare} X3) ∗ (arg4.view.loc (c : Thread nD τ) ↦[arg4.view.set]{fullShare} X4)
    ∗ (∃ f, (arg10.view.loc (c : Thread nD τ) ↦[arg10.view.set]{fullShare} f)
        ∗ ⌜dnR arg10 f = scAt s0 v93 (arg3.view.read (Elt F) X3) (2 * k)⌝)
    ∗ ⌜acc = tup (stAt s0 (untup init) v93 (arg3.view.read (Elt F) X3) (arg4.view.read (Elt F) X4) (2 * k))⌝)

set_option maxHeartbeats 2000000 in
@[sl_loop, instance_reducible] def loopInv2 : Idealize.ShloMosaic.LoopInv (M := 𝕄G) Idealize.ShloMosaic.frame (wpE (defs₀ (F := F)) 𝒱 (c : Thread nD τ) bd) E
    (k0_t2_loop k0_t1).lb (k0_t2_loop k0_t1).ub (k0_t2_loop k0_t1).st (k0_t2_ok k0_t1) init (k0_t2_body (F := F) i arg2 harg2 arg3 harg3 arg4 harg4 arg5 harg5 arg6 harg6 arg7 harg7 arg8 harg8 arg9 harg9 arg10 harg10 arg11 harg11 v3 k0_t1 arg12 v93 v94 v95 v96 c2_i32 v147 v152 v153) where
  inv := inv2 c arg3 arg4 arg10 v93 init s0 X3 X4
  step k acc := by
    iintro ⟨H3, H4, ⟨%f, H10, %hs⟩, %hacc⟩
    subst hacc
    unfold k0_t2_body
    sl_exec
    sl_step
    isplitl [H3]; · iexact H3
    isplitl [H4]; · iexact H4
    isplitl [H10]
    · iexists _
      isplitl [H10]; · iexact H10
      ipureintro
      have e := read_kt (a := arg3) X3 (2 * (k.val + 1)) (k0_off2_inb k0_t1 k 1) (off2b k0_t1 k)
      refine Slot0.dnR (s := fun jj => sc jj v93 (sq (kt (arg3.view.read (Elt F) X3) (2 * (k.val + 1))))) ?_
      unfold Slot0
      rw [← e]
      sl_open_run
      refine ⟨?_, ?_, ?_, ?_⟩
      · rw [readAt_miss, readAt_miss, readAt_miss, readAt_hit]; rfl
        all_goals decide
      · rw [readAt_miss, readAt_miss, readAt_hit]; rfl
        all_goals decide
      · rw [readAt_miss, readAt_hit]; rfl
        all_goals decide
      · rw [readAt_hit]; rfl
    · ipureintro
      have ek := read_kt (a := arg3) X3 (2 * k.val + 1) (k0_off2_inb k0_t1 k 0) (off2a k0_t1 k)
      have ev := read_vt (a := arg4) X4 (2 * k.val) (k0_off3_inb k0_t1 k) (off3 k0_t1 k)
      have ew := read_vt (a := arg4) X4 (2 * k.val + 1) (k0_off4_inb k0_t1 k) (off4 k0_t1 k)
      show _ = tup fun jj => stepT jj (sqV (vt _ (2 * k.val + 1))) (sc jj v93 (sq (kt _ (2 * k.val + 1))))
        (stepT jj (sqV (vt _ (2 * k.val))) (scAt s0 v93 _ (2 * k.val) jj) (stAt s0 (untup init) v93 _ _ (2 * k.val) jj))
      have h1 : ∀ jj, sc jj v93 (sq (kt (arg3.view.read (Elt F) X3) (2 * k.val + 1)))
          = dn ((![loopInv2.sl.v344 arg3 arg10 k0_t1 v93 X3 k, loopInv2.sl.v364 arg3 arg10 k0_t1 v93 X3 k,
            loopInv2.sl.v384 arg3 arg10 k0_t1 v93 X3 k, loopInv2.sl.v404 arg3 arg10 k0_t1 v93 X3 k] : Fin 4 → FVec F S1x1x512x512 .f32) jj) := by
        have g0 : loopInv2.sl.v344 arg3 arg10 k0_t1 v93 X3 k = up (sc 0 v93 (sq (kt (arg3.view.read (Elt F) X3) (2 * k.val + 1)))) := by
          rw [← ek]
          sl_open_run
          rw [readCov_miss, readCov_miss, readCov_miss, readCov_miss, readCov_miss, readCov_miss, readCov_miss, readCov_hit]
          · rfl
          all_goals decide
        have g1 : loopInv2.sl.v364 arg3 arg10 k0_t1 v93 X3 k = up (sc 1 v93 (sq (kt (arg3.view.read (Elt F) X3) (2 * k.val + 1)))) := by
          rw [← ek]
          sl_open_run
          rw [readCov_miss, readCov_miss, readCov_miss, readCov_miss, readCov_miss, readCov_miss, readCov_hit]
          · rfl
          all_goals decide
        have g2 : loopInv2.sl.v384 arg3 arg10 k0_t1 v93 X3 k = up (sc 2 v93 (sq (kt (arg3.view.read (Elt F) X3) (2 * k.val + 1)))) := by
          rw [← ek]
          sl_open_run
          rw [readCov_miss, readCov_miss, readCov_miss, readCov_miss, readCov_miss, readCov_hit]
          · rfl
          all_goals decide
        have g3 : loopInv2.sl.v404 arg3 arg10 k0_t1 v93 X3 k = up (sc 3 v93 (sq (kt (arg3.view.read (Elt F) X3) (2 * k.val + 1)))) := by
          rw [← ek]
          sl_open_run
          rw [readCov_miss, readCov_miss, readCov_miss, readCov_miss, readCov_hit]
          · rfl
          all_goals decide
        intro jj
        fin_cases jj
        · exact ((congrArg dn g0).trans (dn_up _)).symm
        · exact ((congrArg dn g1).trans (dn_up _)).symm
        · exact ((congrArg dn g2).trans (dn_up _)).symm
        · exact ((congrArg dn g3).trans (dn_up _)).symm
      simp only [h1, ← hs]
      rw [← ev, ← ew]
      rfl

end Loop

end Cert.Proof.Attn

end
-- ==== Proof.Attn.Loop1.lean ====
/-
  The two other loops of a batch's group of heads. The loop over what the unrolled loop leaves never runs: it keeps the carried
  states. The loop over query blocks: before block `k` the output holds the results of the blocks before it.
-/
module

public import proofs.«01_k».proof.Proof.Attn.Loop2

@[expose] public section

noncomputable section

namespace Cert.Proof.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The block's result where a whole tile is left before the diagonal one: what the run computes from the loads is `blkOut`. -/
theorem odd_eq {arg10 : Memref sig .tc .vmem S2x4x512x512 .f32} {fL : BufTy.Contents (Elt F) arg10.view.ty} {s : Fin 4 → FVec F S512x512 .f32}
    {u : Fin 4 → HS F} {q : FVec F S512x512 .bf16} {x : FVec F S8x512x512 .bf16} {v : FVec F S8x256x512 .bf16} {v1 : FVec F S128x512 .bf16}
    {v3 : FVec F S256x128 .bf16} {m n : ℕ} {L1 : Fin 4 → FVec F S1x1x512x512 .f32} {LM : Fin 4 → FVec F S1x128x512 .f32}
    {W W' : FVec F S1x256x512 .bf16} (hL : dnR arg10 fL = scAt s q x m) (hs : s = fun jj => sc jj q (sq (kt x 0))) (hn : n = m + 1)
    (hu : u = fun _ => st0) (h1 : ∀ jj, sc jj q (sq (kt x n)) = dn (L1 jj)) (hM : ∀ jj, scM jj q v1 = dnM (LM jj)) (hw : W = vt v n)
    (hw' : W' = vt v m) :
    outB (fun jj => stepD jj (sqV W) v3 (dn (L1 jj)) (dnM (LM jj)) (stepT jj (sqV W') (dn (rd0 arg10 fL jj)) (stAt s u q x v m jj)))
      = outB fun jj => fin jj q x v v1 v3 n := by
  subst hs hu hw hw' hn
  refine congrArg outB (funext fun jj => ?_)
  have e : dn (rd0 arg10 fL jj) = sc jj q (sq (kt x m)) := by
    refine (congrFun hL jj).trans ?_
    rw [scAt_eq]
  rw [e, stAt_eq, ← h1, ← hM]
  rfl

/-- The same where only the diagonal tile is left. -/
theorem even_eq {arg10 : Memref sig .tc .vmem S2x4x512x512 .f32} {fL : BufTy.Contents (Elt F) arg10.view.ty} {s : Fin 4 → FVec F S512x512 .f32}
    {u : Fin 4 → HS F} {q : FVec F S512x512 .bf16} {x : FVec F S8x512x512 .bf16} {v : FVec F S8x256x512 .bf16} {v1 : FVec F S128x512 .bf16}
    {v3 : FVec F S256x128 .bf16} {m n : ℕ} {LM : Fin 4 → FVec F S1x128x512 .f32}
    {W : FVec F S1x256x512 .bf16} (hL : dnR arg10 fL = scAt s q x m) (hs : s = fun jj => sc jj q (sq (kt x 0))) (hn : n = m)
    (hu : u = fun _ => st0) (hM : ∀ jj, scM jj q v1 = dnM (LM jj)) (hw : W = vt v n) :
    outB (fun jj => stepD jj (sqV W) v3 (dn (rd0 arg10 fL jj)) (dnM (LM jj)) (stAt s u q x v m jj))
      = outB fun jj => fin jj q x v v1 v3 n := by
  subst hs hu hw hn
  refine congrArg outB (funext fun jj => ?_)
  have e : dn (rd0 arg10 fL jj) = sc jj q (sq (kt x n)) := by
    refine (congrFun hL jj).trans ?_
    rw [scAt_eq]
  rw [e, stAt_eq, ← hM]
  rfl

section Loop

variable (𝒱 : Variants) (c : Dev nD) (bd : Option 𝒱.V) (E : Set ℕ) (i : grid0.Coords) (arg2 : Memref sig .tc .vmem S8x512x512 .bf16) (harg2 : arg2.IsWhole) (arg3 : Memref sig .tc .vmem S8x512x512 .bf16) (harg3 : arg3.IsWhole) (arg4 : Memref sig .tc .vmem S8x256x512 .bf16) (harg4 : arg4.IsWhole) (arg5 : Memref sig .tc .vmem S1x512x128 .bf16) (harg5 : arg5.IsWhole) (arg6 : Memref sig .tc .vmem S1x128x512 .bf16) (harg6 : arg6.IsWhole) (arg7 : Memref sig .tc .vmem S1x256x128 .bf16) (harg7 : arg7.IsWhole) (arg8 : Memref sig .tc .vmem S4096x256 .bf16) (harg8 : arg8.IsWhole) (arg9 : Memref sig .tc .vmem S128x256 .bf16) (harg9 : arg9.IsWhole) (arg10 : Memref sig .tc .vmem S2x4x512x512 .f32) (harg10 : arg10.IsWhole) (arg11 : Memref sig .tc .vmem S4x128x512 .f32) (harg11 : arg11.IsWhole) (v1 : FVec F S128x512 .bf16) (v3 : FVec F S256x128 .bf16)

section Three

variable (k0_t1 : Fin k0_t1_loop.trips) (arg12 : BitVec 32) (v93 : FVec F S512x512 .bf16) (v94 : FVec F S1x512 .f32) (v95 : FVec F S1x512 .f32) (v96 : FVec F S64x512 .f32) (c2_i32 : BitVec 32) (v147 : BitVec 32) (v152 : BitVec 32) (v153 : BitVec 1) (v168 : BitVec 32)
  (init : FVec F S1x512 .f32 × FVec F S1x512 .f32 × FVec F S64x512 .f32 × FVec F S1x512 .f32 × FVec F S1x512 .f32 × FVec F S64x512 .f32 × FVec F S1x512 .f32 × FVec F S1x512 .f32 × FVec F S64x512 .f32 × FVec F S1x512 .f32 × FVec F S1x512 .f32 × FVec F S64x512 .f32)

/-- The remainder loop makes no trip. -/
@[sl_loop, instance_reducible] def loopInv3 : Idealize.ShloMosaic.LoopInv (M := 𝕄G) Idealize.ShloMosaic.frame (wpE (defs₀ (F := F)) 𝒱 (c : Thread nD τ) bd) E
    (k0_t3_loop k0_t1).lb (k0_t3_loop k0_t1).ub (k0_t3_loop k0_t1).st (k0_t3_ok k0_t1) init (k0_t3_body (F := F) i arg2 harg2 arg3 harg3 arg4 harg4 arg5 harg5 arg6 harg6 arg7 harg7 arg8 harg8 arg9 harg9 arg10 harg10 arg11 harg11 v3 k0_t1 arg12 v93 v94 v95 v96 c2_i32 v147 v152 v153 v168) where
  inv := fun _ acc => iprop(⌜acc = init⌝)
  step k acc := absurd k.isLt (by have := trips3 k0_t1; show ¬ k.val < (k0_t3_loop k0_t1).trips; omega)

end Three

variable (X2 : BufTy.Contents (Elt F) arg2.view.ty) (X3 : BufTy.Contents (Elt F) arg3.view.ty) (X4 : BufTy.Contents (Elt F) arg4.view.ty)

/-- The output holds the results of the query blocks before `k`. -/
def Done (f : BufTy.Contents (Elt F) arg8.view.ty) (k : ℕ) : Prop :=
  ∀ n : Fin k0_t1_loop.trips, n.val < k →
    arg8.view.readAt (Elt F) (Rect.unit (s := S4096x256) (k0_off12 n) S512x256.size (k0_off12_inb n)).toLoadRect f
      = blkOut (arg2.view.read (Elt F) X2) (arg3.view.read (Elt F) X3) (arg4.view.read (Elt F) X4) v1 v3 n.val

@[simp] theorem done_zero (f : BufTy.Contents (Elt F) arg8.view.ty) : Done arg2 arg3 arg4 arg8 v1 v3 X2 X3 X4 f 0 :=
  fun n h => absurd h (Nat.not_lt_zero _)

variable {arg2 arg3 arg4 arg8 v1 v3 X2 X3 X4} in
theorem Done.succ {f : BufTy.Contents (Elt F) arg8.view.ty} {k : Fin k0_t1_loop.trips} (h : Done arg2 arg3 arg4 arg8 v1 v3 X2 X3 X4 f k.val)
    {w : FVec F S512x256 .bf16} (hw : w = blkOut (arg2.view.read (Elt F) X2) (arg3.view.read (Elt F) X3) (arg4.view.read (Elt F) X4) v1 v3 k.val) :
    Done arg2 arg3 arg4 arg8 v1 v3 X2 X3 X4 (arg8.view.writes (Elt F) f [⟨Rect.unit (s := S4096x256) (k0_off12 k) S512x256.size (k0_off12_inb k), w⟩]) (k.val + 1) := by
  intro n hn
  rcases Nat.lt_succ_iff_lt_or_eq.1 hn with hlt | heq
  · rw [readAt_miss]
    · exact h n hlt
    · refine ⟨0, Or.inl ?_⟩
      rw [off12, off12]
      show 512 * n.val + 512 ≤ 512 * k.val
      omega
  · obtain rfl : n = k := Fin.ext heq
    rw [readAt_hit, hw]

/-- Before query block `k`. -/
abbrev inv1 (k : ℕ) (_ : Unit) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg10.view.loc (c : Thread nD τ) ↦[arg10.view.set]{fullShare} f)) ∗ (∃ f, (arg11.view.loc (c : Thread nD τ) ↦[arg11.view.set]{fullShare} f))
    ∗ (∃ f, (arg8.view.loc (c : Thread nD τ) ↦[arg8.view.set]{fullShare} f) ∗ ⌜Done arg2 arg3 arg4 arg8 v1 v3 X2 X3 X4 f k⌝))

set_option maxHeartbeats 2000000 in
@[sl_loop, instance_reducible] def loopInv1 : Idealize.ShloMosaic.LoopInv (M := 𝕄G) Idealize.ShloMosaic.frame (wpE (defs₀ (F := F)) 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 v1 v3) where
  inv := inv1 c arg2 arg3 arg4 arg8 arg10 arg11 v1 v3 X2 X3 X4
  step k acc := by
    iintro ⟨H2, H3, H4, ⟨%f10, H10⟩, ⟨%f11, H11⟩, ⟨%f8, H8, %h8⟩⟩
    unfold k0_t1_body
    by_cases hc : k0_cond1 k = 1#1
    · sl_exec
      sl_step
      have hk := (cond1 k).1 hc
      have ek := read_kt (a := arg3) X3 0 inb_S8x512x512_S1x512x512_0_0_0 rfl
      have eq := read_kt (a := arg2) X2 k.val (k0_off1_inb k) (off1 k)
      have hq : loopInv1.sl.r arg2 X2 k = sq (kt (arg2.view.read (Elt F) X2) k.val) := by
        rw [← eq]; rfl
      have hu : (untup (k0_pay197, k0_pay198, k0_pay199, k0_pay197, k0_pay198, k0_pay199, k0_pay197, k0_pay198, k0_pay199, k0_pay197, k0_pay198, k0_pay199) : Fin 4 → HS F)
          = fun _ => st0 := by
        funext jj; fin_cases jj <;> rfl
      have ht : Scf.trips (k0_t2_loop k).lb (k0_t2_loop k).ub (k0_t2_loop k).st = k.val / 2 := trips2 k
      have hm : ∀ jj, scM jj (sq (kt (arg2.view.read (Elt F) X2) k.val)) v1
          = dnM ((![loopInv1.sl.v321 arg2 arg11 v1 X2 k, loopInv1.sl.v361 arg2 arg11 v1 X2 k, loopInv1.sl.v401 arg2 arg11 v1 X2 k, loopInv1.sl.v441 arg2 arg11 v1 X2 k] : Fin 4 → FVec F S1x128x512 .f32) jj) := by
        have g0 : loopInv1.sl.v321 arg2 arg11 v1 X2 k = upM (scM 0 (sq (kt (arg2.view.read (Elt F) X2) k.val)) v1) := by
          rw [← eq]
          sl_open_run
          rw [readCov_miss, readCov_miss, readCov_miss, readCov_hit]
          · rfl
          all_goals decide
        have g1 : loopInv1.sl.v361 arg2 arg11 v1 X2 k = upM (scM 1 (sq (kt (arg2.view.read (Elt F) X2) k.val)) v1) := by
          rw [← eq]
          sl_open_run
          rw [readCov_miss, readCov_miss, readCov_hit]
          · rfl
          all_goals decide
        have g2 : loopInv1.sl.v401 arg2 arg11 v1 X2 k = upM (scM 2 (sq (kt (arg2.view.read (Elt F) X2) k.val)) v1) := by
          rw [← eq]
          sl_open_run
          rw [readCov_miss, readCov_hit]
          · rfl
          all_goals decide
        have g3 : loopInv1.sl.v441 arg2 arg11 v1 X2 k = upM (scM 3 (sq (kt (arg2.view.read (Elt F) X2) k.val)) v1) := by
          rw [← eq]
          sl_open_run
          rw [readCov_hit]
          · rfl
          all_goals decide
        intro jj
        fin_cases jj
        · exact ((congrArg dnM g0).trans (dnM_upM _)).symm
        · exact ((congrArg dnM g1).trans (dnM_upM _)).symm
        · exact ((congrArg dnM g2).trans (dnM_upM _)).symm
        · exact ((congrArg dnM g3).trans (dnM_upM _)).symm
      have h1 : ∀ jj, sc jj (sq (kt (arg2.view.read (Elt F) X2) k.val)) (sq (kt (arg3.view.read (Elt F) X3) k.val))
          = dn ((![loopInv1.sl.v314 arg2 arg3 arg10 X2 X3 k hc, loopInv1.sl.v354 arg2 arg3 arg10 X2 X3 k hc, loopInv1.sl.v394 arg2 arg3 arg10 X2 X3 k hc, loopInv1.sl.v434 arg2 arg3 arg10 X2 X3 k hc] : Fin 4 → FVec F S1x1x512x512 .f32) jj) := by
        have e8 := read_kt (a := arg3) X3 k.val (k0_off8_inb k hc) (off8 k)
        have g0 : loopInv1.sl.v314 arg2 arg3 arg10 X2 X3 k hc = up (sc 0 (sq (kt (arg2.view.read (Elt F) X2) k.val)) (sq (kt (arg3.view.read (Elt F) X3) k.val))) := by
          rw [← eq, ← e8]
          sl_open_run
          rw [readCov_miss, readCov_miss, readCov_miss, readCov_hit]
          · rfl
          all_goals decide
        have g1 : loopInv1.sl.v354 arg2 arg3 arg10 X2 X3 k hc = up (sc 1 (sq (kt (arg2.view.read (Elt F) X2) k.val)) (sq (kt (arg3.view.read (Elt F) X3) k.val))) := by
          rw [← eq, ← e8]
          sl_open_run
          rw [readCov_miss, readCov_miss, readCov_hit]
          · rfl
          all_goals decide
        have g2 : loopInv1.sl.v394 arg2 arg3 arg10 X2 X3 k hc = up (sc 2 (sq (kt (arg2.view.read (Elt F) X2) k.val)) (sq (kt (arg3.view.read (Elt F) X3) k.val))) := by
          rw [← eq, ← e8]
          sl_open_run
          rw [readCov_miss, readCov_hit]
          · rfl
          all_goals decide
        have g3 : loopInv1.sl.v434 arg2 arg3 arg10 X2 X3 k hc = up (sc 3 (sq (kt (arg2.view.read (Elt F) X2) k.val)) (sq (kt (arg3.view.read (Elt F) X3) k.val))) := by
          rw [← eq, ← e8]
          sl_open_run
          rw [readCov_hit]
          · rfl
          all_goals decide
        intro jj
        fin_cases jj
        · exact ((congrArg dn g0).trans (dn_up _)).symm
        · exact ((congrArg dn g1).trans (dn_up _)).symm
        · exact ((congrArg dn g2).trans (dn_up _)).symm
        · exact ((congrArg dn g3).trans (dn_up _)).symm
      rw [← hq] at h1 hm
      have hs := hL3
      have ew := read_vt (a := arg4) X4 k.val (k0_off10_inb k hc) (off10 k)
      have ew' := read_vt (a := arg4) X4 (k.val - 1) (k0_off9_inb k hc) (off9 k hk)
      have hr : loopInv1.sl.r_15 c arg2 arg3 arg4 arg10 arg11 v1 v3 X2 X3 X4 k f10 hc fL0
          = blkOut (arg2.view.read (Elt F) X2) (arg3.view.read (Elt F) X3) (arg4.view.read (Elt F) X4) v1 v3 k.val := by
        unfold blkOut
        rw [← hq]
        refine Eq.trans ?_ (odd_eq hL3 ?_ (by rw [ht]; omega) hu h1 hm ew (ew'.trans (by rw [ht]; congr 1; omega)))
        · rfl
        · refine Slot0.dnR (s := fun jj => sc jj (loopInv1.sl.r arg2 X2 k) (sq (kt (arg3.view.read (Elt F) X3) 0))) ?_
          unfold Slot0
          rw [← ek]
          sl_open_run
          refine ⟨?_, ?_, ?_, ?_⟩
          · rw [readAt_miss, readAt_miss, readAt_miss, readAt_hit]; rfl
            all_goals decide
          · rw [readAt_miss, readAt_miss, readAt_hit]; rfl
            all_goals decide
          · rw [readAt_miss, readAt_hit]; rfl
            all_goals decide
          · rw [readAt_hit]; rfl
      isplitl [H2]; · iexact H2
      isplitl [H3]; · iexact H3
      isplitl [H4]; · iexact H4
      isplitl [H10]; · iexists _; iexact H10
      isplitl [H11]; · iexists _; iexact H11
      iexists _
      isplitl [H8]; · iexact H8
      ipureintro
      exact Done.succ h8 hr
    · sl_exec
      sl_step
      have hk := mt (cond1 k).2 hc
      have ek := read_kt (a := arg3) X3 0 inb_S8x512x512_S1x512x512_0_0_0 rfl
      have eq := read_kt (a := arg2) X2 k.val (k0_off1_inb k) (off1 k)
      have hq : loopInv1.sl.r_16 arg2 X2 k = sq (kt (arg2.view.read (Elt F) X2) k.val) := by
        rw [← eq]; rfl
      have hu : (untup (k0_pay197, k0_pay198, k0_pay199, k0_pay197, k0_pay198, k0_pay199, k0_pay197, k0_pay198, k0_pay199, k0_pay197, k0_pay198, k0_pay199) : Fin 4 → HS F)
          = fun _ => st0 := by
        funext jj; fin_cases jj <;> rfl
      have ht : Scf.trips (k0_t2_loop k).lb (k0_t2_loop k).ub (k0_t2_loop k).st = k.val / 2 := trips2 k
      have hm : ∀ jj, scM jj (sq (kt (arg2.view.read (Elt F) X2) k.val)) v1
          = dnM ((![loopInv1.sl.v210_1 arg2 arg11 v1 X2 k, loopInv1.sl.v250_1 arg2 arg11 v1 X2 k, loopInv1.sl.v290_1 arg2 arg11 v1 X2 k, loopInv1.sl.v330 arg2 arg11 v1 X2 k] : Fin 4 → FVec F S1x128x512 .f32) jj) := by
        have g0 : loopInv1.sl.v210_1 arg2 arg11 v1 X2 k = upM (scM 0 (sq (kt (arg2.view.read (Elt F) X2) k.val)) v1) := by
          rw [← eq]
          sl_open_run
          rw [readCov_miss, readCov_miss, readCov_miss, readCov_hit]
          · rfl
          all_goals decide
        have g1 : loopInv1.sl.v250_1 arg2 arg11 v1 X2 k = upM (scM 1 (sq (kt (arg2.view.read (Elt F) X2) k.val)) v1) := by
          rw [← eq]
          sl_open_run
          rw [readCov_miss, readCov_miss, readCov_hit]
          · rfl
          all_goals decide
        have g2 : loopInv1.sl.v290_1 arg2 arg11 v1 X2 k = upM (scM 2 (sq (kt (arg2.view.read (Elt F) X2) k.val)) v1) := by
          rw [← eq]
          sl_open_run
          rw [readCov_miss, readCov_hit]
          · rfl
          all_goals decide
        have g3 : loopInv1.sl.v330 arg2 arg11 v1 X2 k = upM (scM 3 (sq (kt (arg2.view.read (Elt F) X2) k.val)) v1) := by
          rw [← eq]
          sl_open_run
          rw [readCov_hit]
          · rfl
          all_goals decide
        intro jj
        fin_cases jj
        · exact ((congrArg dnM g0).trans (dnM_upM _)).symm
        · exact ((congrArg dnM g1).trans (dnM_upM _)).symm
        · exact ((congrArg dnM g2).trans (dnM_upM _)).symm
        · exact ((congrArg dnM g3).trans (dnM_upM _)).symm
      rw [← hq] at hm
      have ew := read_vt (a := arg4) X4 k.val (k0_off11_inb k hc) (off11 k)
      have hr : loopInv1.sl.r_27 c arg2 arg3 arg4 arg10 arg11 v1 v3 X2 X3 X4 k f10 hc fL0
          = blkOut (arg2.view.read (Elt F) X2) (arg3.view.read (Elt F) X3) (arg4.view.read (Elt F) X4) v1 v3 k.val := by
        unfold blkOut
        rw [← hq]
        refine Eq.trans ?_ (even_eq hL3 ?_ (by rw [ht]; omega) hu hm ew)
        · rfl
        · refine Slot0.dnR (s := fun jj => sc jj (loopInv1.sl.r_16 arg2 X2 k) (sq (kt (arg3.view.read (Elt F) X3) 0))) ?_
          unfold Slot0
          rw [← ek]
          sl_open_run
          refine ⟨?_, ?_, ?_, ?_⟩
          · rw [readAt_miss, readAt_miss, readAt_miss, readAt_hit]; rfl
            all_goals decide
          · rw [readAt_miss, readAt_miss, readAt_hit]; rfl
            all_goals decide
          · rw [readAt_miss, readAt_hit]; rfl
            all_goals decide
          · rw [readAt_hit]; rfl
      isplitl [H2]; · iexact H2
      isplitl [H3]; · iexact H3
      isplitl [H4]; · iexact H4
      isplitl [H10]; · iexists _; iexact H10
      isplitl [H11]; · iexists _; iexact H11
      iexists _
      isplitl [H8]; · iexact H8
      ipureintro
      exact Done.succ h8 hr

end Loop

end Cert.Proof.Attn

end
-- ==== Proof.Attn.Run.lean ====
/-
  The kernel's body on any staging buffers: it leaves the inputs as they were, the output block at the eight query blocks'
  results and the meta block at the meta tokens' result. Then the proof data, the body's obligation and the run.
-/
module

public import proofs.«01_k».proof.Proof.Attn.Loop1
public import proofs.«01_k».proof.Proof.Gen.KernelIdeal.Frame
public import Idealize.ShloMosaic.Lib.Claim

@[expose] public section

noncomputable section

namespace Cert.Proof.Attn

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- A row's place within its block of 512. -/
def inBlk (y : S4096x256.Idx) : S512x256.Idx := fun a =>
  match a with
  | ⟨0, _⟩ => ⟨(y 0).val % 512, Nat.mod_lt _ (by decide)⟩
  | ⟨1, _⟩ => ⟨(y 1).val, (y 1).isLt⟩

/-- A batch's output rows of a group of heads: query block by query block. -/
def outO (xq x : FVec F S8x512x512 .bf16) (v : FVec F S8x256x512 .bf16) (km : FVec F S128x512 .bf16) (vm : FVec F S256x128 .bf16) :
    FVec F S4096x256 .bf16 :=
  fun y => blkOut xq x v km vm ((y 0).val / 512)
    (inBlk y)

/-- The meta block's result. -/
def outM (xq : FVec F S1x512x128 .bf16) (xk : FVec F S1x128x512 .bf16) (xv : FVec F S1x256x128 .bf16) : FVec F S128x256 .bf16 :=
  k0_pay248 (k0_pay241 xk) (k0_pay242 xv) (k0_pay243 xq) (k0_pay244 xk xv xq) (k0_pay245 xk xq) (k0_pay246 xv) (k0_pay247 xk xq)

theorem read_of_done (arg2 arg3 : Memref sig .tc .vmem S8x512x512 .bf16) (arg4 : Memref sig .tc .vmem S8x256x512 .bf16) (arg8 : Memref sig .tc .vmem S4096x256 .bf16)
    (v1 : FVec F S128x512 .bf16) (v3 : FVec F S256x128 .bf16)
    (X2 : BufTy.Contents (Elt F) arg2.view.ty) (X3 : BufTy.Contents (Elt F) arg3.view.ty) (X4 : BufTy.Contents (Elt F) arg4.view.ty)
    (f : BufTy.Contents (Elt F) arg8.view.ty) (h : Done arg2 arg3 arg4 arg8 v1 v3 X2 X3 X4 f 8) :
    arg8.view.read (Elt F) f = outO (arg2.view.read (Elt F) X2) (arg3.view.read (Elt F) X3) (arg4.view.read (Elt F) X4) v1 v3 := by
  funext y
  have hy : (y 0).val < 4096 := (y 0).isLt
  have hn : (y 0).val / 512 < k0_t1_loop.trips := by rw [trips1]; omega
  have := congrFun (h ⟨(y 0).val / 512, hn⟩ (by show (y 0).val / 512 < 8; omega))
    (inBlk y)
  refine Eq.trans (congrArg _ (funext fun a => Fin.ext ?_)) this
  fin_cases a
  · show (y 0).val = k0_off12 ⟨(y 0).val / 512, hn⟩ 0 + 1 * ((y 0).val % 512)
    rw [off12]
    show (y 0).val = 512 * ((y 0).val / 512) + 1 * ((y 0).val % 512)
    omega
  · show (y 1).val = k0_off12 ⟨(y 0).val / 512, hn⟩ 1 + 1 * (y 1).val
    rw [off12]
    show (y 1).val = 0 + 1 * (y 1).val
    omega

set_option maxHeartbeats 2000000 in
/-- The body's triple. -/
theorem sound_kernel (c : Dev nD) (E : Set ℕ) (i : grid0.Coords) (arg2 : Memref sig .tc .vmem S8x512x512 .bf16) (harg2 : arg2.IsWhole) (arg3 : Memref sig .tc .vmem S8x512x512 .bf16) (harg3 : arg3.IsWhole) (arg4 : Memref sig .tc .vmem S8x256x512 .bf16) (harg4 : arg4.IsWhole) (arg5 : Memref sig .tc .vmem S1x512x128 .bf16) (harg5 : arg5.IsWhole) (arg6 : Memref sig .tc .vmem S1x128x512 .bf16) (harg6 : arg6.IsWhole) (arg7 : Memref sig .tc .vmem S1x256x128 .bf16) (harg7 : arg7.IsWhole) (arg8 : Memref sig .tc .vmem S4096x256 .bf16) (harg8 : arg8.IsWhole) (arg9 : Memref sig .tc .vmem S128x256 .bf16) (harg9 : arg9.IsWhole) (arg10 : Memref sig .tc .vmem S2x4x512x512 .f32) (harg10 : arg10.IsWhole) (arg11 : Memref sig .tc .vmem S4x128x512 .f32) (harg11 : arg11.IsWhole)
    (x2 x3 : FVec F S8x512x512 .bf16) (x4 : FVec F S8x256x512 .bf16) (x5 : FVec F S1x512x128 .bf16) (x6 : FVec F S1x128x512 .bf16) (x7 : FVec F S1x256x128 .bf16)
    (K : PUnit → sProp 𝕄G) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare (outO x2 x3 x4 (k0_pay241 x6) (k0_pay242 x7)) ∗ owns (c : Thread nD τ) arg9 fullShare (outM x5 x6 x7)
            ∗ (∃ d, owns (c : Thread nD τ) arg10 fullShare d) ∗ (∃ d, owns (c : Thread nD τ) arg11 fullShare d)) -∗ K ⟨⟩))
      ⊢ wp Idealize.ShloMosaic.frame (wpE (defs₀ (F := F)) Variants.none (c : Thread nD τ) none) E (cc0_attn i arg2 harg2 arg3 harg3 arg4 harg4 arg5 harg5 arg6 harg6 arg7 harg7 arg8 harg8 arg9 harg9 arg10 harg10 arg11 harg11) K := by
  simp only [cc0_attn_eq_skeleton]; unfold cc0_attn_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf2 hf3 hf4 hf5 hf6 hf7
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists fL2; isplitr
    · ipureintro
      refine (read_of_done _ _ _ _ _ _ _ _ _ _ (by first | assumption | (rw [← trips1]; assumption))).trans ?_
      show outO _ _ _ (k0_pay241 _) (k0_pay242 _) = _
      rw [View.readAt_full, View.readAt_full]
    · iexact H8
  isplitl [H9]
  · iexists _; isplitr
    swap; · iexact H9
    ipureintro
    sl_unfold_run_names
    rw [View.read_writes_full]
    have e5 : View.readAt (Elt F) arg5.view (Rect.unit (s := S1x512x128) ![0, 0, 0] ![1, 512, 128] inb_S1x512x128_S1x512x128_0_0_0).toLoadRect f5
        = arg5.view.read (Elt F) f5 := View.readAt_full _ _ _
    have e6 : View.readAt (Elt F) arg6.view (Rect.unit (s := S1x128x512) ![0, 0, 0] ![1, 128, 512] inb_S1x128x512_S1x128x512_0_0_0).toLoadRect f6
        = arg6.view.read (Elt F) f6 := View.readAt_full _ _ _
    have e7 : View.readAt (Elt F) arg7.view (Rect.unit (s := S1x256x128) ![0, 0, 0] ![1, 256, 128] inb_S1x256x128_S1x256x128_0_0_0).toLoadRect f7
        = arg7.view.read (Elt F) f7 := View.readAt_full _ _ _
    rw [e5, e6, e7]
    rfl
  isplitl [H10]
  · iexists _; iexists fL0; isplitr
    · ipureintro; rfl
    · iexact H10
  · iexists _; iexists fL1; isplitr
    · ipureintro; rfl
    · iexact H11

/-! ## The pipeline's proof data -/

section
variable (m : (ℓ : Loc nD τ sig) → ℓ.ty.Contents (Elt F)) (ρ : Dev nD → PrngReg)

/-- The pipeline's proof data on core `c`: each input's buffer at its block, the two outputs' at what the body leaves, and the scratch buffers at
    anything between the points. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => outO (X0_0 m c t) (X0_1 m c t) (X0_2 m c t) (k0_pay241 (iblk m c 4 t)) (k0_pay242 (iblk m c 5 t))
    | ⟨7, _⟩ => outM (iblk m c 3 t) (iblk m c 4 t) (iblk m c 5 t)
  Φ _ := Pipeline.ΦA spec0 c
  q w := Pipeline.shareOf spec0 w
  owed _ := 0

/-- The arrays are what the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outO (X0_0 m c t) (X0_1 m c t) (X0_2 m c t) (k0_pay241 (iblk m c 4 t)) (k0_pay242 (iblk m c 5 t)) := by dsimp only [dats]
theorem after_7 (c : Dev nD) (t : Fin cfg0.N) : (dats m 0 c).after 7 t = outM (iblk m c 3 t) (iblk m c 4 t) (iblk m c 5 t) := by dsimp only [dats]

theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body's obligation -/

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it gives back. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- What stays with the pipeline between the points: the two scratch buffers, at anything, and the generator's register. -/
theorem phi_eq (c : Dev nD) : (Pipeline.ΦA spec0 c : sProp 𝕄G)
    = iprop(((∃ d, owns (c : Thread nD τ) (Memref.whole cc0_scratch0) fullShare d) ∗ (∃ d, owns (c : Thread nD τ) (Memref.whole cc0_scratch1) fullShare d))
        ∗ ∃ r, prngReg c r) := by
  unfold Pipeline.ΦA
  rw [scopedRest0_eq]
  simp only [owns_whole]

/-- The body at any point. -/
theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  simp only [before_0, before_1, before_2, before_3, before_4, before_5]
  rw [show (dats m 0 c).Φ t.succ = Pipeline.ΦA spec0 c from rfl, show (dats m 0 c).Φ t.castSucc = Pipeline.ΦA spec0 c from rfl, phi_eq,
    show (dats m 0 c).owesAt () t.succ = (dats m 0 c).owesAt () t.castSucc from rfl,
    after_0, after_1, after_2, after_3, after_4, after_5, after_6, after_7]
  iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ _ _ _ _ (X0_0 m c t) (X0_1 m c t) (X0_2 m c t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 HR]
  · isplitl [HS0 HS1]
    · isplitl [HS0]; · iexact HS0
      iexact HS1
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The table's row of the body. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends, every array of the pipeline at what the proof data say, every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end

end Cert.Proof.Attn

end
-- ==== Proof.Attn.PointM.lean ====
/-
  The meta block's queries: one head's result as a function of vectors, the printed copies being it at the literal heads,
  read at one query and one channel.
-/
module

public import proofs.«01_k».proof.Proof.Attn.Point
public import proofs.«01_k».proof.Proof.Attn.Run

@[expose] public section

set_option maxRecDepth 16384

noncomputable section

namespace Cert.Proof.Attn

open Idealize.ShloMosaic Idealize.ShloMosaic.TcCoe Cert.KernelIdeal Cert.KernelIdeal.Gen

section
variable {F : FTy → Type} [FloatOps F] [Named F]

/-- The meta block's causal scores, keys by queries. -/
def scMM (jj : Fin 4) (xk : FVec F S1x128x512 .bf16) (xq : FVec F S1x512x128 .bf16) : FVec F S128x128 .f32 :=
  select (cmpi .sle (iota .tc S128x128 32 [0] iota_S128x128_d0_w32) (iota .tc S128x128 32 [1] iota_S128x128_d1_w32))
    (matmul dot_S128x128_S128x128_S128x128_1_0_0_1_n_n none (extractStridedSlice S128x128 ![0, 128 * jj.val] (k0_pay241 xk) (slKm jj))
      (extractStridedSlice S128x128 ![128 * jj.val, 0] (k0_pay243 xq) (slQm jj)) (constant S128x128 .f32 0x00000000#32))
    (broadcast S128x128 (Named.named κ "mask" 0xF149F2CA#32 : F .f32))

/-- Their weights. -/
def pwMM (s : FVec F S128x128 .f32) : FVec F S128x128 .f32 :=
  exp2 (subf s (broadcastTo S128x128 (shapeCast S1x128 (multiReduction .maximumf [0] S128 s 0xFF800000#32 reduces_S128x128_S128 (.inl rfl) rfl) shapeCasts_S128_S1x128)
    broadcasts_S1x128_S128x128))

/-- Values against weights, over the weights' sum. -/
def oMM (jj : Fin 4) (xv : FVec F S1x256x128 .bf16) (p : FVec F S128x128 .f32) : FVec F S64x128 .f32 :=
  divf (matmul dot_S64x128_S128x128_S64x128_1_0_0_1_n_n none (extractStridedSlice S64x128 ![64 * jj.val, 0] (k0_pay242 xv) (slVm jj))
      (truncf .bf16 p bitsLt_bf16_f32) (constant S64x128 .f32 0x00000000#32))
    (broadcastTo S64x128 (shapeCast S1x128 (multiReduction .add [0] S128 p 0x00000000#32 reduces_S128x128_S128 (.inl rfl) rfl) shapeCasts_S128_S1x128)
      broadcasts_S1x128_S64x128)

/-- A head's result, channels by queries. -/
def hMM (xq : FVec F S1x512x128 .bf16) (xk : FVec F S1x128x512 .bf16) (xv : FVec F S1x256x128 .bf16) (jj : Fin 4) : FVec F S64x128 .f32 :=
  oMM jj xv (pwMM (scMM jj xk xq))

theorem outM_eq (xq : FVec F S1x512x128 .bf16) (xk : FVec F S1x128x512 .bf16) (xv : FVec F S1x256x128 .bf16) :
    outM xq xk xv = truncf .bf16 (transpose S128x256 [1, 0] (concatenate S256x128 0 [⟨S64x128, hMM xq xk xv 0⟩, ⟨S64x128, hMM xq xk xv 1⟩,
      ⟨S64x128, hMM xq xk xv 2⟩, ⟨S64x128, hMM xq xk xv 3⟩] concatenates_S64x128_S64x128_S64x128_S64x128_S256x128_d0) transposes_S256x128_p1_0_S128x256) bitsLt_bf16_f32 := rfl

end

theorem scMM_at (jj : Fin 4) (xk : FVec Ideal S1x128x512 .bf16) (xq : FVec Ideal S1x512x128 .bf16) (y c : Fin 128) :
    scMM jj xk xq (ix2 y c) = if y.val ≤ c.val then ∑ e : Fin 128, xq (ix3 0 (rowL jj e) c) * xk (ix3 0 y (rowL jj e)) else ⊥ := by
  pointwise [scMM, k0_pay241, k0_pay243]
  rw [select_sle _ _ (by omega) (by omega), mask_at]
  by_cases h : y.val ≤ c.val
  · rw [if_pos h, if_pos h]
    exact Finset.sum_congr rfl fun d _ => mul_comm _ _
  · rw [if_neg h, if_neg h]

theorem pwMM_at (s : FVec Ideal S128x128 .f32) (y c : Fin 128) :
    pwMM s (ix2 y c) = wt (s (ix2 y c) - Finset.univ.fold max ⊥ fun k : Fin 128 => s (ix2 k c)) := by
  pointwise [pwMM]
  rfl

theorem oMM_at (jj : Fin 4) (xv : FVec Ideal S1x256x128 .bf16) (p : FVec Ideal S128x128 .f32) (d : Fin 64) (c : Fin 128) :
    oMM jj xv p (ix2 d c) = Ideal.div (∑ k : Fin 128, xv (ix3 0 (rowLV jj d) k) * p (ix2 k c)) (∑ k : Fin 128, p (ix2 k c)) := by
  pointwise [oMM, k0_pay242]
  rfl

/-- A meta query's result: attention over all keys, of whatever scores and values the blocks hold. -/
theorem outM_at (xq : FVec Ideal S1x512x128 .bf16) (xk : FVec Ideal S1x128x512 .bf16) (xv : FVec Ideal S1x256x128 .bf16)
    (c : Fin 128) (jj : Fin 4) (d : Fin 64) (t w : Fin 4224 → EReal)
    (hE : ∀ k : Fin 128, t ⟨k.val, by omega⟩ = if k.val ≤ c.val then ∑ e : Fin 128, xq (ix3 0 (rowL jj e) c) * xk (ix3 0 k (rowL jj e)) else ⊥)
    (hV : ∀ k : Fin 128, w ⟨k.val, by omega⟩ = xv (ix3 0 (rowLV jj d) k))
    (hB : ∀ y : Fin 4224, 128 ≤ y.val → t y = ⊥)
    (ht : ∀ y, t y ≠ ⊤) (y0 : Fin 4224) (hy : t y0 ≠ ⊥) :
    outM xq xk xv (ix2 c (rowLV jj d)) = soft t w := by
  have e : outM xq xk xv (ix2 c (rowLV jj d)) = hMM xq xk xv jj (ix2 d c) := by
    rw [outM_eq]
    pointwise []
    exact four_pieces (fun i e => hMM xq xk xv i (ix2 e c)) _ jj d rfl
  rw [e]
  unfold hMM
  rw [oMM_at]
  simp only [pwMM_at]
  obtain ⟨a1, a2, a3⟩ := meta_sums t w _ (fun k => scMM jj xk xq (ix2 k c)) (fun k => xv (ix3 0 (rowLV jj d) k)) rfl
    (fun k => by rw [hE, scMM_at]) hV hB
  rw [a2, a3]
  exact div_eq_soft t w _ a1 ht y0 hy

end Cert.Proof.Attn

end
-- ==== Proof.Attn.Blocks.lean ====
/-
  The blocks a grid point works on, read at coordinates of the three prepared arrays. Point `t` takes batch `t / 2` and the
  group `t % 2` of four heads.
-/
module

public import proofs.«01_k».proof.Proof.Attn.PointM
public import Idealize.ShloMosaic.Lib.Pipeline.ValueKit

@[expose] public section

set_option maxRecDepth 16384

noncomputable section

namespace Cert.Proof.Attn

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The prepared queries, keys and values. -/
abbrev aQ (c : Dev nD) : FVec Ideal SQ .bf16 := m ((c.tc : Thread nD τ).loc main_arg0)
abbrev aK (c : Dev nD) : FVec Ideal SK .bf16 := m ((c.tc : Thread nD τ).loc main_arg1)
abbrev aV (c : Dev nD) : FVec Ideal SV .bf16 := m ((c.tc : Thread nD τ).loc main_arg2)

theorem idx : ∀ t : Fin cfg0.N, win0_0.index t = ![t.val / 2, t.val % 2, 0] ∧ win0_1.index t = ![t.val / 2, 0, t.val % 2]
    ∧ win0_2.index t = ![t.val / 2, t.val % 2, 0] ∧ win0_3.index t = ![64 + t.val / 2 / 4, t.val % 2, t.val / 2 % 4]
    ∧ win0_4.index t = ![64 + t.val / 2 / 4, t.val / 2 % 4, t.val % 2] ∧ win0_5.index t = ![64 + t.val / 2 / 4, t.val % 2, t.val / 2 % 4]
    ∧ win0_6.index t = ![t.val / 2, t.val % 2] ∧ win0_7.index t = ![t.val / 2, t.val % 2] :=
  (by decide +kernel : ∀ t : Fin grid0.N, _)

/-- The point's batch. -/
def bOf (t : Fin cfg0.N) : Fin 8 := ⟨t.val / 2, by have : t.val < 16 := t.isLt; omega⟩
/-- The head that a point's `jj` is. -/
def hOf (t : Fin cfg0.N) (jj : Fin 4) : Fin 8 := ⟨4 * (t.val % 2) + jj.val, by omega⟩

theorem q_at (c : Dev nD) (t : Fin cfg0.N) (n : Fin 8) (jj : Fin 4) (e : Fin 128) (x : Fin 512) (p : Fin 4224) (hp : p.val = 128 + (512 * n.val + x.val)) :
    (X0_0 m c t : FVec Ideal S8x512x512 .bf16) (ix3 n (rowL jj e) x) = aQ m c (ix3 (tileOf (bOf t) p) (rowQ (hOf t jj) e) (laneOf (bOf t) p)) := by
  unfold X0_0 Pipeline.Window.fill
  rw [dif_pos (moved0_0 t _)]
  unfold tileOf laneOf rowQ rowL bOf hOf
  have h1 : ¬ p.val < 128 := by omega
  simp only [if_neg h1, dif_neg h1]
  blk_ext [iblk, V, idx t]

theorem k_at (c : Dev nD) (t : Fin cfg0.N) (n : Fin 8) (jj : Fin 4) (e : Fin 128) (x : Fin 512) (p : Fin 4224) (hp : p.val = 128 + (512 * n.val + x.val)) :
    (X0_1 m c t : FVec Ideal S8x512x512 .bf16) (ix3 n x (rowL jj e)) = aK m c (ix3 (tileOf (bOf t) p) (laneOf (bOf t) p) (rowQ (hOf t jj) e)) := by
  unfold X0_1 Pipeline.Window.fill
  rw [dif_pos (moved0_1 t _)]
  unfold tileOf laneOf rowQ rowL bOf hOf
  have h1 : ¬ p.val < 128 := by omega
  simp only [if_neg h1, dif_neg h1]
  blk_ext [iblk, V, idx t]

theorem v_at (c : Dev nD) (t : Fin cfg0.N) (n : Fin 8) (jj : Fin 4) (d : Fin 64) (x : Fin 512) (p : Fin 4224) (hp : p.val = 128 + (512 * n.val + x.val)) :
    (X0_2 m c t : FVec Ideal S8x256x512 .bf16) (ix3 n (rowLV jj d) x) = aV m c (ix3 (tileOf (bOf t) p) (rowV (hOf t jj) d) (laneOf (bOf t) p)) := by
  unfold X0_2 Pipeline.Window.fill
  rw [dif_pos (moved0_2 t _)]
  unfold tileOf laneOf rowV rowLV bOf hOf
  have h1 : ¬ p.val < 128 := by omega
  simp only [if_neg h1, dif_neg h1]
  blk_ext [iblk, V, idx t]

theorem qm_at (c : Dev nD) (t : Fin cfg0.N) (jj : Fin 4) (e : Fin 128) (x : Fin 128) (p : Fin 4224) (hp : p.val = x.val) :
    (iblk m c 3 t : FVec Ideal S1x512x128 .bf16) (ix3 0 (rowL jj e) x) = aQ m c (ix3 (tileOf (bOf t) p) (rowQ (hOf t jj) e) (laneOf (bOf t) p)) := by
  unfold tileOf laneOf rowQ rowL bOf hOf
  have h1 : p.val < 128 := by omega
  simp only [if_pos h1, dif_pos h1]
  blk_ext [iblk, V, idx t]

theorem km_at (c : Dev nD) (t : Fin cfg0.N) (jj : Fin 4) (e : Fin 128) (x : Fin 128) (p : Fin 4224) (hp : p.val = x.val) :
    (iblk m c 4 t : FVec Ideal S1x128x512 .bf16) (ix3 0 x (rowL jj e)) = aK m c (ix3 (tileOf (bOf t) p) (laneOf (bOf t) p) (rowQ (hOf t jj) e)) := by
  unfold tileOf laneOf rowQ rowL bOf hOf
  have h1 : p.val < 128 := by omega
  simp only [if_pos h1, dif_pos h1]
  blk_ext [iblk, V, idx t]

theorem vm_at (c : Dev nD) (t : Fin cfg0.N) (jj : Fin 4) (d : Fin 64) (x : Fin 128) (p : Fin 4224) (hp : p.val = x.val) :
    (iblk m c 5 t : FVec Ideal S1x256x128 .bf16) (ix3 0 (rowLV jj d) x) = aV m c (ix3 (tileOf (bOf t) p) (rowV (hOf t jj) d) (laneOf (bOf t) p)) := by
  unfold tileOf laneOf rowV rowLV bOf hOf
  have h1 : p.val < 128 := by omega
  simp only [if_pos h1, dif_pos h1]
  blk_ext [iblk, V, idx t]

end Cert.Proof.Attn

end
-- ==== Proof.Attn.Final.lean ====
/-
  The kernel's two result arrays after the run: attention of Spec.lean at every row, where the prepared queries and keys are
  finite (scores are then finite sums of products of real numbers, so no weight's denominator vanishes).
-/
module

public import proofs.«01_k».proof.Proof.Attn.Blocks

@[expose] public section

set_option maxRecDepth 16384

noncomputable section

namespace Cert.Proof.Attn

open Idealize.ShloMosaic Idealize.ShloMosaic.TcCoe Idealize.SL.Sem Cert.KernelIdeal Cert.KernelIdeal.Gen
open Idealize.ShloMosaic.Pipeline (Dat)

/-- Every entry is a real number. -/
def Fin' {s : Shape} (A : FVec Ideal s .bf16) : Prop := ∀ i, ∃ r : ℝ, A i = (r : EReal)

theorem dotQK_real (A0 : FVec Ideal SQ .bf16) (A1 : FVec Ideal SK .bf16) (h0 : Fin' A0) (h1 : Fin' A1) (b h : Fin 8) (x y : Fin 4224) :
    ∃ r : ℝ, dotQK A0 A1 b h x y = (r : EReal) := by
  choose f hf using h0
  choose g hg using h1
  refine ⟨∑ d : Fin 128, f (ix3 (tileOf b x) (rowQ h d) (laneOf b x)) * g (ix3 (tileOf b y) (laneOf b y) (rowQ h d)), ?_⟩
  unfold dotQK
  rw [coe_sum]
  exact Finset.sum_congr rfl fun d _ => by rw [hf, hg, EReal.coe_mul]

theorem score_ne_top (A0 : FVec Ideal SQ .bf16) (A1 : FVec Ideal SK .bf16) (h0 : Fin' A0) (h1 : Fin' A1) (b h : Fin 8) (x y : Fin 4224) :
    score A0 A1 b h x y ≠ ⊤ := by
  unfold score
  split
  · obtain ⟨r, hr⟩ := dotQK_real A0 A1 h0 h1 b h x y
    rw [hr]; exact EReal.coe_ne_top r
  · exact bot_ne_top

theorem score_self (A0 : FVec Ideal SQ .bf16) (A1 : FVec Ideal SK .bf16) (h0 : Fin' A0) (h1 : Fin' A1) (b h : Fin 8) (x : Fin 4224) :
    score A0 A1 b h x x ≠ ⊥ := by
  unfold score
  rw [if_pos le_rfl]
  obtain ⟨r, hr⟩ := dotQK_real A0 A1 h0 h1 b h x x
  rw [hr]; exact EReal.coe_ne_bot r

variable (m : (ℓ : Loc nD τ sig) → Buf (Elt Ideal) ℓ)

/-- What the first result's array holds. -/
def G6 (c : Dev nD) : FVec Ideal S32768x512 .bf16 := fun i =>
  att (aQ m c) (aK m c) (aV m c) ⟨(i 0).val / 4096, by have : (i 0).val < 32768 := (i 0).isLt; omega⟩
    ⟨(i 1).val / 64, by have : (i 1).val < 512 := (i 1).isLt; omega⟩ ⟨128 + (i 0).val % 4096, by omega⟩ ⟨(i 1).val % 64, by omega⟩

/-- What the second one's does. -/
def G7 (c : Dev nD) : FVec Ideal S1024x512 .bf16 := fun i =>
  att (aQ m c) (aK m c) (aV m c) ⟨(i 0).val / 128, by have : (i 0).val < 1024 := (i 0).isLt; omega⟩
    ⟨(i 1).val / 64, by have : (i 1).val < 512 := (i 1).isLt; omega⟩ ⟨(i 0).val % 128, by omega⟩ ⟨(i 1).val % 64, by omega⟩

/-- A real query of a point, at a block's place. -/
theorem real_at (c : Dev nD) (h0 : Fin' (aQ m c)) (h1 : Fin' (aK m c)) (t : Fin cfg0.N) (n : Fin 8) (x : Fin 512) (jj : Fin 4) (d : Fin 64)
    (p : Fin 4224) (hp : p.val = 128 + (512 * n.val + x.val)) :
    blkOut (X0_0 m c t) (X0_1 m c t) (X0_2 m c t) (k0_pay241 (iblk m c 4 t)) (k0_pay242 (iblk m c 5 t)) n.val (ix2 x (rowLV jj d))
      = att (aQ m c) (aK m c) (aV m c) (bOf t) (hOf t jj) p d := by
  have km : ∀ k e, (k0_pay241 (iblk m c 4 t) : FVec Ideal S128x512 .bf16) (ix2 k e) = (iblk m c 4 t : FVec Ideal S1x128x512 .bf16) (ix3 0 k e) := fun k e => by
    pointwise [k0_pay241]
  have vm : ∀ k e, (k0_pay242 (iblk m c 5 t) : FVec Ideal S256x128 .bf16) (ix2 k e) = (iblk m c 5 t : FVec Ideal S1x256x128 .bf16) (ix3 0 k e) := fun k e => by
    pointwise [k0_pay242]
  refine blkOut_at _ _ _ _ _ n x jj d _ _ (fun k => ?_) (fun k => ?_) (fun j k => ?_) (fun j k => ?_)
    (score_ne_top _ _ h0 h1 _ _ _) p (score_self _ _ h0 h1 _ _ _)
  · unfold score
    rw [if_pos (by show k.val ≤ p.val; omega)]
    refine Finset.sum_congr rfl fun e _ => ?_
    rw [q_at m c t n jj e x p hp, km, km_at m c t jj e k ⟨k.val, by omega⟩ rfl]
  · unfold valOf
    rw [vm, vm_at m c t jj d k ⟨k.val, by omega⟩ rfl]
  · unfold score
    by_cases h : 512 * j.val + k.val ≤ 512 * n.val + x.val
    · rw [if_pos h, if_pos (by show 128 + (512 * j.val + k.val) ≤ p.val; omega)]
      refine Finset.sum_congr rfl fun e _ => ?_
      rw [q_at m c t n jj e x p hp, k_at m c t j jj e k ⟨128 + (512 * j.val + k.val), by omega⟩ rfl]
    · rw [if_neg h, if_neg (by show ¬ 128 + (512 * j.val + k.val) ≤ p.val; omega)]
  · unfold valOf
    rw [v_at m c t j jj d k ⟨128 + (512 * j.val + k.val), by omega⟩ rfl]

/-- A meta query of a point, at the block's place. -/
theorem meta_at (c : Dev nD) (h0 : Fin' (aQ m c)) (h1 : Fin' (aK m c)) (t : Fin cfg0.N) (x : Fin 128) (jj : Fin 4) (d : Fin 64)
    (p : Fin 4224) (hp : p.val = x.val) :
    outM (F := Ideal) (iblk m c 3 t) (iblk m c 4 t) (iblk m c 5 t) (ix2 x (rowLV jj d)) = att (aQ m c) (aK m c) (aV m c) (bOf t) (hOf t jj) p d := by
  refine outM_at (iblk m c 3 t) (iblk m c 4 t) (iblk m c 5 t) x jj d _ _ (fun k => ?_) (fun k => ?_) (fun y hy => ?_) (score_ne_top _ _ h0 h1 _ _ _) p (score_self _ _ h0 h1 _ _ _)
  · unfold score
    by_cases h : k.val ≤ x.val
    · rw [if_pos h, if_pos (by show k.val ≤ p.val; omega)]
      refine Finset.sum_congr rfl fun e _ => ?_
      rw [qm_at m c t jj e x p hp, km_at m c t jj e k ⟨k.val, by omega⟩ rfl]
    · rw [if_neg h, if_neg (by show ¬ k.val ≤ p.val; omega)]
  · unfold valOf
    rw [vm_at m c t jj d k ⟨k.val, by omega⟩ rfl]
  · unfold score
    rw [if_neg (by show ¬ y.val ≤ p.val; omega)]

theorem att_congr (A0 : FVec Ideal SQ .bf16) (A1 : FVec Ideal SK .bf16) (A2 : FVec Ideal SV .bf16) {b b' h h' : Fin 8} {x x' : Fin 4224} {d d' : Fin 64}
    (hb : b.val = b'.val) (hh : h.val = h'.val) (hx : x.val = x'.val) (hd : d.val = d'.val) : att A0 A1 A2 b h x d = att A0 A1 A2 b' h' x' d' := by
  rw [Fin.ext hb, Fin.ext hh, Fin.ext hx, Fin.ext hd]

/-- The first result's array after the run. -/
theorem final6 (c : Dev nD) (h0 : Fin' (aQ m c)) (h1 : Fin' (aK m c)) : (dats m 0 c).arrAt 6 (cfgs 0).N = G6 m c := by
  refine (dats m 0 c).arrAt_eq_of_covers 6 _ (by decide +kernel) fun t _ y => ?_
  blk_simp
  rw [after_6]
  have y0 : (y 0).val < 4096 := (y 0).isLt
  have y1 : (y 1).val < 256 := (y 1).isLt
  have ht : t.val < 16 := t.isLt
  have e0 : (((win0_6.blk t).view.emb y) 0).val = t.val / 2 * 4096 + (y 0).val := by blk_simp [idx t]
  have e1 : (((win0_6.blk t).view.emb y) 1).val = t.val % 2 * 256 + (y 1).val := by blk_simp [idx t]
  have e : inBlk y = (ix2 ⟨(y 0).val % 512, by omega⟩ (rowLV ⟨(y 1).val / 64, by omega⟩ ⟨(y 1).val % 64, by omega⟩) : S512x256.Idx) := by
    funext a
    refine Fin.ext ?_
    fin_cases a
    · rfl
    · show (y 1).val = 64 * ((y 1).val / 64) + (y 1).val % 64; omega
  show blkOut _ _ _ _ _ ((y 0).val / 512) (inBlk y) = _
  rw [e]
  refine (real_at m c h0 h1 t ⟨(y 0).val / 512, by omega⟩ _ _ _ ⟨128 + (y 0).val, by omega⟩ (by
    show 128 + (y 0).val = 128 + (512 * ((y 0).val / 512) + (y 0).val % 512); omega)).trans ?_
  unfold G6
  refine att_congr _ _ _ ?_ ?_ ?_ ?_
  · show t.val / 2 = (((win0_6.blk t).view.emb y) 0).val / 4096; rw [e0]; omega
  · show 4 * (t.val % 2) + (y 1).val / 64 = (((win0_6.blk t).view.emb y) 1).val / 64; rw [e1]; omega
  · show 128 + (y 0).val = 128 + (((win0_6.blk t).view.emb y) 0).val % 4096; rw [e0]; omega
  · show (y 1).val % 64 = (((win0_6.blk t).view.emb y) 1).val % 64; rw [e1]; omega

/-- The second one's. -/
theorem final7 (c : Dev nD) (h0 : Fin' (aQ m c)) (h1 : Fin' (aK m c)) : (dats m 0 c).arrAt 7 (cfgs 0).N = G7 m c := by
  refine (dats m 0 c).arrAt_eq_of_covers 7 _ (by decide +kernel) fun t _ y => ?_
  blk_simp
  rw [after_7]
  have y0 : (y 0).val < 128 := (y 0).isLt
  have y1 : (y 1).val < 256 := (y 1).isLt
  have ht : t.val < 16 := t.isLt
  have e0 : (((win0_7.blk t).view.emb y) 0).val = t.val / 2 * 128 + (y 0).val := by blk_simp [idx t]
  have e1 : (((win0_7.blk t).view.emb y) 1).val = t.val % 2 * 256 + (y 1).val := by blk_simp [idx t]
  have e : y = (ix2 ⟨(y 0).val, y0⟩ (rowLV ⟨(y 1).val / 64, by omega⟩ ⟨(y 1).val % 64, by omega⟩) : S128x256.Idx) := by
    funext a
    refine Fin.ext ?_
    fin_cases a
    · rfl
    · show (y 1).val = 64 * ((y 1).val / 64) + (y 1).val % 64; omega
  refine (congrArg (outM (F := Ideal) (iblk m c 3 t) (iblk m c 4 t) (iblk m c 5 t)) e).trans ((meta_at m c h0 h1 t _ _ _ ⟨(y 0).val, by omega⟩ rfl).trans ?_)
  unfold G7
  refine att_congr _ _ _ ?_ ?_ ?_ ?_
  · show t.val / 2 = (((win0_7.blk t).view.emb y) 0).val / 128; rw [e0]; omega
  · show 4 * (t.val % 2) + (y 1).val / 64 = (((win0_7.blk t).view.emb y) 1).val / 64; rw [e1]; omega
  · show (y 0).val = (((win0_7.blk t).view.emb y) 0).val % 128; rw [e0]; omega
  · show (y 1).val % 64 = (((win0_7.blk t).view.emb y) 1).val % 64; rw [e1]; omega

end Cert.Proof.Attn

end
-- ==== Proof.Attn.Ref.lean ====
/-
  The reference's two results, read at an index: attention of Spec.lean at that row's position.
-/
module

public import proofs.«01_k».proof.Proof.Attn.Spec
public import proofs.«01_k».proof.Proof.Gen.ReferenceIdeal.Run

@[expose] public section

set_option maxRecDepth 16384

noncomputable section

namespace Cert.Proof.Attn

open Idealize.ShloMosaic Idealize.ShloMosaic.TcCoe Idealize.SL.Sem Cert.ReferenceIdeal Cert.ReferenceIdeal.Gen

/-- The queries by batch, head, position and lane. -/
def rq (A : FVec Ideal S66x1024x512 .bf16) : FVec Ideal S8x8x4224x128 .bf16 :=
  concatenate S8x8x4224x128 2 [⟨S8x8x128x128, (shapeCast _ (transpose S2x4x8x128x128 [0, 3, 1, 4, 2] (shapeCast _ (extractStridedSlice S2x1024x512 ![64, 0, 0] A slices_S66x1024x512_S2x1024x512_64_0_0) shapeCasts_S2x1024x512_S2x8x128x4x128) transposes_S2x8x128x4x128_S2x4x8x128x128_0_3_1_4_2) shapeCasts_S2x4x8x128x128_S8x8x128x128)⟩, ⟨S8x8x4096x128, (shapeCast _ (transpose S8x8x8x512x128 [0, 2, 1, 4, 3] (shapeCast _ (extractStridedSlice S64x1024x512 ![0, 0, 0] A slices_S66x1024x512_S64x1024x512_0_0_0) shapeCasts_S64x1024x512_S8x8x8x128x512) transposes_S8x8x8x128x512_S8x8x8x512x128_0_2_1_4_3) shapeCasts_S8x8x8x512x128_S8x8x4096x128)⟩] concatenates_S8x8x128x128_S8x8x4096x128_S8x8x4224x128_d2

/-- The keys, likewise. -/
def rk (A : FVec Ideal S66x512x1024 .bf16) : FVec Ideal S8x8x4224x128 .bf16 :=
  concatenate S8x8x4224x128 2 [⟨S8x8x128x128, (transpose S8x8x128x128 [0, 2, 1, 3] (shapeCast _ (extractStridedSlice S2x512x1024 ![64, 0, 0] A slices_S66x512x1024_S2x512x1024_64_0_0) shapeCasts_S2x512x1024_S8x128x8x128) transposes_S8x128x8x128_S8x8x128x128_0_2_1_3)⟩, ⟨S8x8x4096x128, (shapeCast _ (transpose S8x8x8x512x128 [0, 3, 1, 2, 4] (shapeCast _ (extractStridedSlice S64x512x1024 ![0, 0, 0] A slices_S66x512x1024_S64x512x1024_0_0_0) shapeCasts_S64x512x1024_S8x8x512x8x128) transposes_S8x8x512x8x128_S8x8x8x512x128_0_3_1_2_4) shapeCasts_S8x8x8x512x128_S8x8x4096x128)⟩] concatenates_S8x8x128x128_S8x8x4096x128_S8x8x4224x128_d2

/-- The values, likewise. -/
def rv (A : FVec Ideal S66x512x512 .bf16) : FVec Ideal S8x8x4224x64 .bf16 :=
  concatenate S8x8x4224x64 2 [⟨S8x8x128x64, (shapeCast _ (transpose S2x4x8x128x64 [0, 3, 1, 4, 2] (shapeCast _ (extractStridedSlice S2x512x512 ![64, 0, 0] A slices_S66x512x512_S2x512x512_64_0_0) shapeCasts_S2x512x512_S2x8x64x4x128) transposes_S2x8x64x4x128_S2x4x8x128x64_0_3_1_4_2) shapeCasts_S2x4x8x128x64_S8x8x128x64)⟩, ⟨S8x8x4096x64, (shapeCast _ (transpose S8x8x8x512x64 [0, 2, 1, 4, 3] (shapeCast _ (extractStridedSlice S64x512x512 ![0, 0, 0] A slices_S66x512x512_S64x512x512_0_0_0) shapeCasts_S64x512x512_S8x8x8x64x512) transposes_S8x8x8x64x512_S8x8x8x512x64_0_2_1_4_3) shapeCasts_S8x8x8x512x64_S8x8x4096x64)⟩] concatenates_S8x8x128x64_S8x8x4096x64_S8x8x4224x64_d2

/-- The masked scores. -/
def rs (Q K : FVec Ideal S8x8x4224x128 .bf16) : FVec Ideal S8x8x4224x4224 .f32 :=
  select (broadcastInDim S8x8x4224x4224 ![2, 3] bcast_S4224x4224_S8x8x4224x4224_2_3 (cmpi .sle (iotaInDim S4224x4224 32 1) (iotaInDim S4224x4224 32 0))) (Host.dotGeneral dot_S8x8x4224x128_S8x8x4224x128_S8x8x4224x4224_3_3_2_2_01_01 none Q K) (broadcastInDim S8x8x4224x4224 ![] bcast_S_S8x8x4224x4224 (id (constant S_ .f32 0xFF800000#32)))

/-- The weights before they are normalized. -/
def rp (S : FVec Ideal S8x8x4224x4224 .f32) : FVec Ideal S8x8x4224x4224 .f32 :=
  Host.powf (broadcastInDim S8x8x4224x4224 ![] bcast_S_S8x8x4224x4224 (constant S_ .f32 0x40000000#32)) (subf S (broadcastInDim S8x8x4224x4224 ![0, 1, 2, 3] bcast_S8x8x4224x1_S8x8x4224x4224_0_1_2_3 (broadcastInDim S8x8x4224x1 ![0, 1, 2] bcast_S8x8x4224_S8x8x4224x1_0_1_2 (Host.reduce FloatOps.maximumf S (constant S_ .f32 0xFF800000#32) reducesTo_S8x8x4224x4224_S8x8x4224_d3 h_S_))))

/-- Values against normalized weights. -/
def ro (PP : FVec Ideal S8x8x4224x4224 .f32) (W : FVec Ideal S8x8x4224x64 .bf16) : FVec Ideal S8x8x4224x64 .f32 :=
  Host.dotGeneral dot_S8x8x4224x4224_S8x8x4224x64_S8x8x4224x64_3_2_2_3_01_01 none (truncf .bf16 (Host.divf PP (broadcastInDim S8x8x4224x4224 ![0, 1, 2, 3] bcast_S8x8x4224x1_S8x8x4224x4224_0_1_2_3 (broadcastInDim S8x8x4224x1 ![0, 1, 2] bcast_S8x8x4224_S8x8x4224x1_0_1_2 (Host.reduceAdd PP (constant S_ .f32 0x00000000#32) reducesTo_S8x8x4224x4224_S8x8x4224_d3 h_S_)))) bitsLt_bf16_f32) W

/-- Heads side by side. -/
def rf (O : FVec Ideal S8x8x4224x64 .f32) : FVec Ideal S8x4224x512 .bf16 :=
  truncf .bf16 (shapeCast _ (transpose S8x4224x8x64 [0, 2, 1, 3] O transposes_S8x8x4224x64_S8x4224x8x64_0_2_1_3) shapeCasts_S8x4224x8x64_S8x4224x512) bitsLt_bf16_f32

theorem rq_at (A : FVec Ideal S66x1024x512 .bf16) (b h : Fin 8) (x : Fin 4224) (d : Fin 128) :
    rq A (ix4 b h x d) = A (ix3 (tileOf b x) (rowQ h d) (laneOf b x)) := by
  pointwise [rq]
  unfold tileOf laneOf rowQ
  by_cases hx : x.val < 128
  · simp only [dif_pos hx, if_pos hx]
    exact congrArg A ((ix3_inj ..).2 ⟨rfl, Fin.ext (by show h.val * 128 + d.val = 128 * h.val + d.val; omega), Fin.ext (by show b.val % 4 * 128 + x.val = 128 * (b.val % 4) + x.val; omega)⟩)
  · simp only [dif_neg hx, if_neg hx]
    exact congrArg A ((ix3_inj ..).2 ⟨Fin.ext (by show b.val * 8 + (x.val - 128) / 512 = 8 * b.val + (x.val - 128) / 512; omega), Fin.ext (by show h.val * 128 + d.val = 128 * h.val + d.val; omega), rfl⟩)

theorem rk_at (A : FVec Ideal S66x512x1024 .bf16) (b h : Fin 8) (x : Fin 4224) (d : Fin 128) :
    rk A (ix4 b h x d) = A (ix3 (tileOf b x) (laneOf b x) (rowQ h d)) := by
  pointwise [rk]
  unfold tileOf laneOf rowQ
  by_cases hx : x.val < 128
  · simp only [dif_pos hx, if_pos hx]
    exact congrArg A ((ix3_inj ..).2 ⟨rfl, Fin.ext (by show b.val % 4 * 128 + x.val = 128 * (b.val % 4) + x.val; omega), Fin.ext (by show h.val * 128 + d.val = 128 * h.val + d.val; omega)⟩)
  · simp only [dif_neg hx, if_neg hx]
    exact congrArg A ((ix3_inj ..).2 ⟨Fin.ext (by show b.val * 8 + (x.val - 128) / 512 = 8 * b.val + (x.val - 128) / 512; omega), rfl, Fin.ext (by show h.val * 128 + d.val = 128 * h.val + d.val; omega)⟩)

theorem rv_at (A : FVec Ideal S66x512x512 .bf16) (b h : Fin 8) (x : Fin 4224) (d : Fin 64) :
    rv A (ix4 b h x d) = A (ix3 (tileOf b x) (rowV h d) (laneOf b x)) := by
  pointwise [rv]
  unfold tileOf laneOf rowV
  by_cases hx : x.val < 128
  · simp only [dif_pos hx, if_pos hx]
    exact congrArg A ((ix3_inj ..).2 ⟨rfl, Fin.ext (by show h.val * 64 + d.val = 64 * h.val + d.val; omega), Fin.ext (by show b.val % 4 * 128 + x.val = 128 * (b.val % 4) + x.val; omega)⟩)
  · simp only [dif_neg hx, if_neg hx]
    exact congrArg A ((ix3_inj ..).2 ⟨Fin.ext (by show b.val * 8 + (x.val - 128) / 512 = 8 * b.val + (x.val - 128) / 512; omega), Fin.ext (by show h.val * 64 + d.val = 64 * h.val + d.val; omega), rfl⟩)

theorem rs_at (Q K : FVec Ideal S8x8x4224x128 .bf16) (b h : Fin 8) (x y : Fin 4224) :
    rs Q K (ix4 b h x y) = if y.val ≤ x.val then ∑ d : Fin 128, Q (ix4 b h x d) * K (ix4 b h y d) else ⊥ := by
  pointwise [rs, id_eq]
  rw [select_sle _ _ (by omega) (by omega), ofBits_bot]

theorem rp_at (S : FVec Ideal S8x8x4224x4224 .f32) (b h : Fin 8) (x y : Fin 4224) :
    rp S (ix4 b h x y) = wt (S (ix4 b h x y) - Finset.univ.fold max ⊥ fun z : Fin 4224 => S (ix4 b h x z)) := by
  pointwise [rp]
  rw [pow_two, ofBits_bot]

theorem ro_at (P : FVec Ideal S8x8x4224x4224 .f32) (W : FVec Ideal S8x8x4224x64 .bf16) (b h : Fin 8) (x : Fin 4224) (d : Fin 64) :
    ro P W (ix4 b h x d) = ∑ y : Fin 4224, Ideal.div (P (ix4 b h x y)) (∑ z : Fin 4224, P (ix4 b h x z)) * W (ix4 b h y d) := by
  pointwise [ro]

theorem rf_at (O : FVec Ideal S8x8x4224x64 .f32) (b : Fin 8) (x : Fin 4224) (c : Fin 512) :
    rf O (ix3 b x c) = O (ix4 b ⟨c.val / 64, by omega⟩ x ⟨c.val % 64, by omega⟩) := by
  pointwise [rf]

/-- All of it, of the three arrays. -/
def rAll (A0 : FVec Ideal S66x1024x512 .bf16) (A1 : FVec Ideal S66x512x1024 .bf16) (A2 : FVec Ideal S66x512x512 .bf16) : FVec Ideal S8x4224x512 .bf16 :=
  rf (ro (rp (rs (rq A0) (rk A1))) (rv A2))

theorem rAll_at (A0 : FVec Ideal S66x1024x512 .bf16) (A1 : FVec Ideal S66x512x1024 .bf16) (A2 : FVec Ideal S66x512x512 .bf16) (b : Fin 8) (x : Fin 4224) (c : Fin 512) :
    rAll A0 A1 A2 (ix3 b x c) = att A0 A1 A2 b ⟨c.val / 64, by omega⟩ x ⟨c.val % 64, by omega⟩ := by
  unfold rAll att soft
  have e : ∀ (h : Fin 8) (y : Fin 4224), rs (rq A0) (rk A1) (ix4 b h x y) = score A0 A1 b h x y := fun h y => by
    rw [rs_at]; simp only [rq_at, rk_at]; rfl
  rw [rf_at, ro_at]
  simp only [rp_at, e, rv_at]
  rfl

/-- The first result, over the real queries. -/
theorem res0_at (m : (ℓ : Loc nD τ sig) → Buf (Elt Ideal) ℓ) (c : Dev nD) (r : Fin 32768) (l : Fin 512) :
    (Value.res_out0 (F := Ideal) m c : FVec Ideal S32768x512 .bf16) (ix2 r l)
      = att (m ((c.tc : Thread nD τ).loc main_arg0)) (m ((c.tc : Thread nD τ).loc main_arg1)) (m ((c.tc : Thread nD τ).loc main_arg2))
          ⟨r.val / 4096, by omega⟩ ⟨l.val / 64, by omega⟩ ⟨128 + r.val % 4096, by omega⟩ ⟨l.val % 64, by omega⟩ := by
  have e : (Value.res_out0 (F := Ideal) m c : FVec Ideal S32768x512 .bf16)
      = shapeCast _ (extractStridedSlice S8x4096x512 ![0, 128, 0] (rAll (m ((c.tc : Thread nD τ).loc main_arg0)) (m ((c.tc : Thread nD τ).loc main_arg1)) (m ((c.tc : Thread nD τ).loc main_arg2))) slices_S8x4224x512_S8x4096x512_0_128_0) shapeCasts_S8x4096x512_S32768x512 := rfl
  rw [e]
  pointwise []
  exact rAll_at _ _ _ _ _ _

/-- The second, over the meta queries. -/
theorem res1_at (m : (ℓ : Loc nD τ sig) → Buf (Elt Ideal) ℓ) (c : Dev nD) (r : Fin 1024) (l : Fin 512) :
    (Value.res_out1 (F := Ideal) m c : FVec Ideal S1024x512 .bf16) (ix2 r l)
      = att (m ((c.tc : Thread nD τ).loc main_arg0)) (m ((c.tc : Thread nD τ).loc main_arg1)) (m ((c.tc : Thread nD τ).loc main_arg2))
          ⟨r.val / 128, by omega⟩ ⟨l.val / 64, by omega⟩ ⟨r.val % 128, by omega⟩ ⟨l.val % 64, by omega⟩ := by
  have e : (Value.res_out1 (F := Ideal) m c : FVec Ideal S1024x512 .bf16)
      = shapeCast _ (extractStridedSlice S8x128x512 ![0, 0, 0] (rAll (m ((c.tc : Thread nD τ).loc main_arg0)) (m ((c.tc : Thread nD τ).loc main_arg1)) (m ((c.tc : Thread nD τ).loc main_arg2))) slices_S8x4224x512_S8x128x512_0_0_0) shapeCasts_S8x128x512_S1024x512 := rfl
  rw [e]
  pointwise []
  exact rAll_at _ _ _ _ _ _

end Cert.Proof.Attn

end
-- ==== Proof.Attn.Frames.lean ====
/-
  The two kernels' frames, both from the one run of Run.lean: the printed kernel is the ideal one's text at words, the named constant read as the word
  that it names.
-/
module

public import proofs.«01_k».proof.Defs
public import proofs.«01_k».proof.Proof.Attn.Run
public import proofs.«01_k».proof.Proof.Gen.Kernel
public import proofs.«01_k».proof.Proof.Gen.ReferenceIdeal.Run

@[expose] public section

noncomputable section

namespace Cert.Proof.Attn

open Idealize.ShloMosaic Idealize.SL.Sem

/-- At words a named constant is the word itself. -/
local instance wordNamed : Named Bits where
  named _ _ {φ} bits := FloatOps.ofBits φ bits

/-- The ideal kernel's frame. -/
theorem frame_ideal : Cert.quiescent_KernelIdeal (hKernelIdeal := Cert.KernelIdeal.Gen.facts) := fun m ρ _ => frame m ρ

/-- The two bodies' tables agree. -/
theorem body_eq : Cert.KernelIdeal.defs₀ (F := Bits) = Cert.Kernel.defs₀ (F := Bits) := by
  unfold Cert.KernelIdeal.defs₀ Cert.Kernel.defs₀
  refine congrArg Defs.onTc (funext fun l => funext fun a => ?_)
  match l, a with
  | 0, (t, s) => rfl
  | ⟨n + 1, h⟩, a => exact absurd h (by omega)

/-- And the two programs' tables of procedures. -/
theorem defs_eq : Cert.KernelIdeal.defs (F := Bits) = Cert.Kernel.defs (F := Bits) := by
  unfold Cert.KernelIdeal.defs Cert.Kernel.defs
  exact congrArg _ body_eq

/-- The printed kernel's frame. -/
theorem frame_kernel : Cert.quiescent_Kernel (hKernel := Cert.Kernel.Gen.facts) := fun m ρ _ => by
  rw [← defs_eq]
  exact frame (F := Bits) m ρ

/-- The named constant of the ideal kernel is the mask's −∞. -/
theorem preserves : Cert.preserves_Kernel_KernelIdeal :=
  IdealRules.named_const.statement Cert.KernelIdeal.κ "mask" .f32 0xF149F2CA#32 ⊥ rfl

/-- The reference's frame: it runs, and it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof.Attn

end
-- ==== Proof.Attn.Algebraic.lean ====
/-
  The value claim: under the precondition that every prepared query and key is finite, the kernel's two results are the
  reference's. Also the two frames restated under that precondition, and the side conditions of the predicate itself.
-/
module

public import proofs.«01_k».proof.Defs
public import proofs.«01_k».proof.Proof.Attn.Final
public import proofs.«01_k».proof.Proof.Attn.Ref
public import proofs.«01_k».proof.Proof.Attn.Frames
public import Idealize.ShloMosaic.Lib.Claim

@[expose] public section

set_option maxRecDepth 16384

noncomputable section

namespace Cert.Proof.Attn

open Idealize.ShloMosaic Idealize.ShloMosaic.TcCoe Idealize.SL.Sem

/-- The predicate's operations are well formed. -/
theorem finite_facts : Cert.Pre_finite.Facts := ⟨by decide, by decide, by decide⟩

/-- A number whose size is below infinity is real. -/
theorem real_of_lt (x : Ideal .bf16) (h : FloatOps.absf x < Ideal.ofBits .bf16 0x7F80#16) : ∃ r : ℝ, x = (r : EReal) := by
  have e : Ideal.ofBits .bf16 0x7F80#16 = ⊤ := rfl
  rw [e] at h
  have h' : max (x : EReal) (-x) < ⊤ := h
  revert h'
  clear h
  induction x using EReal.rec with
  | bot => intro h; exact absurd h (by simp)
  | top => intro h; exact absurd h (by simp)
  | coe r => intro _; exact ⟨r, rfl⟩

section
open Cert.Pre_finite

/-- What the predicate says of a query's entry and of a key's. -/
theorem finite_at [Cert.Pre_finite.Facts] (A0 : FVec Ideal SQ .bf16) (A1 : FVec Ideal SK .bf16) (A2 : FVec Ideal SV .bf16)
    (h : Cert.Pre_finite.fn (F := Ideal) A0 A1 A2 = fun _ => 1#1) (i : Fin 66) (r : Fin 1024) (l : Fin 512) :
    (∃ x : ℝ, A0 (ix3 i r l) = (x : EReal)) ∧ ∃ x : ℝ, A1 (ix3 i l r) = (x : EReal) := by
  have h' := congrFun h (ix3 i r l : S66x1024x512.Idx)
  pointwise [Cert.Pre_finite.fn] at h'
  rw [show ∀ p q : Bool, IntOp.andi (BitVec.ofBool p) (BitVec.ofBool q) = BitVec.ofBool (p && q) from WordCmp.andi_ofBool] at h'
  rw [WordCmp.ofBool_eq_one_iff, Bool.and_eq_true, decide_eq_true_eq, decide_eq_true_eq] at h'
  exact ⟨real_of_lt _ h'.1, real_of_lt _ h'.2⟩

theorem finite_q [Cert.Pre_finite.Facts] (A0 : FVec Ideal SQ .bf16) (A1 : FVec Ideal SK .bf16) (A2 : FVec Ideal SV .bf16)
    (h : Cert.Pre_finite.fn (F := Ideal) A0 A1 A2 = fun _ => 1#1) : Fin' A0 := fun i => by
  rw [eq_ix3 i]; exact (finite_at A0 A1 A2 h _ _ _).1

theorem finite_k [Cert.Pre_finite.Facts] (A0 : FVec Ideal SQ .bf16) (A1 : FVec Ideal SK .bf16) (A2 : FVec Ideal SV .bf16)
    (h : Cert.Pre_finite.fn (F := Ideal) A0 A1 A2 = fun _ => 1#1) : Fin' A1 := fun i => by
  rw [eq_ix3 i]; exact (finite_at A0 A1 A2 h _ _ _).2
end

/-- The reference's results are the kernel's arrays, of equal arguments. -/
theorem ref_eq (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (c : Dev KernelIdeal.nD) (e0 : m' ((c.tc : Thread ReferenceIdeal.nD ReferenceIdeal.τ).loc ReferenceIdeal.main_arg0) = aQ m c)
    (e1 : m' ((c.tc : Thread ReferenceIdeal.nD ReferenceIdeal.τ).loc ReferenceIdeal.main_arg1) = aK m c)
    (e2 : m' ((c.tc : Thread ReferenceIdeal.nD ReferenceIdeal.τ).loc ReferenceIdeal.main_arg2) = aV m c) :
    ReferenceIdeal.Value.res_out0 (F := Ideal) m' c = G6 m c ∧ ReferenceIdeal.Value.res_out1 (F := Ideal) m' c = G7 m c := by
  refine ⟨funext fun i => ?_, funext fun i => ?_⟩
  · have h := res0_at m' c (i 0) (i 1)
    rw [e0, e1, e2] at h
    exact (congrArg (ReferenceIdeal.Value.res_out0 (F := Ideal) m' c) (eq_ix2 i)).trans h
  · have h := res1_at m' c (i 0) (i 1)
    rw [e0, e1, e2] at h
    exact (congrArg (ReferenceIdeal.Value.res_out1 (F := Ideal) m' c) (eq_ix2 i)).trans h

theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hagree
  haveI := finite_facts
  refine ⟨fun c => G6 m c, fun c => G7 m c, ?_, ?_⟩
  · refine θ_run_mono (θ_run_and (run_main m g) (frame m g)) fun r hr c => ?_
    have hq : Fin' (aQ m c) := finite_q _ _ _ (hpre c)
    have hk : Fin' (aK m c) := finite_k _ _ _ (hpre c)
    exact ⟨((hr.1.1 c).1 6).trans (final6 m c hq hk), ((hr.1.1 c).1 7).trans (final7 m c hq hk), hr.2.1 c⟩
  · refine θ_run_mono (Cert.ReferenceIdeal.Value.run m' g') fun r hr c => ?_
    obtain ⟨a0, a1, a2⟩ := hagree c
    obtain ⟨b0, b1⟩ := ref_eq m m' c a0 a1 a2
    exact ⟨(hr c).1.trans b0, (hr c).2.1.trans b1, (hr c).2.2⟩

/-- The ideal kernel's frame under the precondition. -/
theorem frame_ideal_finite : Cert.quiescent_KernelIdeal_pre_finite (hKernelIdeal := Cert.KernelIdeal.Gen.facts) (hPre_finite := finite_facts) :=
  fun m g _ => frame_ideal m g trivial

/-- The reference's. -/
theorem frame_reference_finite : Cert.quiescent_ReferenceIdeal_pre_finite (hReferenceIdeal := Cert.ReferenceIdeal.Gen.facts) (hPre_finite := finite_facts) :=
  fun m g _ => frame_reference m g trivial

end Cert.Proof.Attn

end
-- ==== Proof.Moe.Words.lean ====
/-
  The words of the experts' kernel: the chunks' places and trip counts as plain numbers, and the check the kernel makes of them.
-/
module

public import proofs.«01_k».proof.Proof.Gen.Kernel2Ideal.Launch
public import proofs.«01_k».proof.Proof.Gen.Kernel2Ideal.Loops
public import Idealize.ShloMosaic.Lib.Claim
public import Idealize.ShloMosaic.Lib.VecWindow
public import Idealize.ShloMosaic.Lib.LoopRemainder
public import Idealize.ShloMosaic.Lib.Affine
public import Idealize.ShloMosaic.Lib.WordArith.Masks
public import Idealize.ShloMosaic.Lib.Exec
public import Idealize.ShloMosaic.Lib.Tactic
public import Idealize.ShloMosaic.Lib.Tactic.Stretches
public import Idealize.ShloMosaic.Lib.Pipeline.Kit
public import Idealize.ShloMosaic.Lib.Pipeline.Value

@[expose] public section

noncomputable section

namespace Cert.Proof.Moe

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

/-- How many chunks of 128 rows `n` rows take. -/
def up (n : ℕ) : ℕ := (n + 127) / 128

/-- The first row of group `g`'s chunks, from the counts of groups 0, 1 and 2. -/
def base (g n0 n1 n2 : ℕ) : ℕ :=
  128 * ((if 0 < g then up n0 else 0) + (if 1 < g then up n1 else 0) + (if 2 < g then up n2 else 0))

theorem up_word (v : BitVec 32) (h : v.toNat ≤ 1024) : (Scalar.shrui (Scalar.addi v 127#32) 7#32).toNat = up v.toNat := by
  have e : (Scalar.shrui (Scalar.addi v 127#32) 7#32) = (v + 127#32) >>> (7#32) := rfl
  rw [e, BitVec.ushiftRight_eq', BitVec.toNat_ushiftRight, BitVec.toNat_add, Nat.shiftRight_eq_div_pow]
  unfold up
  rw [show ((127#32 : BitVec 32).toNat) = 127 from rfl, show (2 : ℕ) ^ (7#32 : BitVec 32).toNat = 128 from rfl]
  omega

theorem up_le (n : ℕ) (h : n ≤ 1024) : up n ≤ 8 := by unfold up; omega

/-- A step's choice between a word and zero. -/
theorem sel_word (g k : ℕ) (hg : g < 4) (hk : k < 3) (a : BitVec 32) :
    (Scalar.select (Scalar.cmpi .sgt (BitVec.ofNat 32 g) (BitVec.ofNat 32 k)) a 0#32).toNat = if k < g then a.toNat else 0 := by
  have : Scalar.cmpi .sgt (BitVec.ofNat 32 g) (BitVec.ofNat 32 k) = if k < g then 1#1 else 0#1 := by
    have : ∀ g : Fin 4, ∀ k : Fin 3, Scalar.cmpi .sgt (BitVec.ofNat 32 g.val) (BitVec.ofNat 32 k.val) = if k.val < g.val then 1#1 else 0#1 := by decide
    exact this ⟨g, hg⟩ ⟨k, hk⟩
  rw [this]
  split <;> rfl

theorem add_word {a b : BitVec 32} {x y : ℕ} (ha : a.toNat = x) (hb : b.toNat = y) (h : x + y < 2 ^ 32) : (Scalar.addi a b).toNat = x + y := by
  show (a + b).toNat = _
  rw [BitVec.toNat_add, ha, hb]; exact Nat.mod_eq_of_lt h

theorem mul_word {a : BitVec 32} {x : ℕ} (ha : a.toNat = x) (h : x * 128 < 2 ^ 32) : (Scalar.muli a 128#32).toNat = x * 128 := by
  show (a * 128#32).toNat = _
  rw [BitVec.toNat_mul, ha]; exact Nat.mod_eq_of_lt h

/-- The chunk loop's trips. -/
theorem trips_t1 (v : BitVec 32) (h : v.toNat ≤ 1024) : (k0_t1_loop v).trips = up v.toNat := by
  have h1 := up_word v h
  have h2 := up_le _ h
  unfold k0_t1_loop
  show Scf.trips 0#32 (Scalar.addi 0#32 (Scalar.muli (Scalar.divsi (Scalar.subi (Scalar.shrui (Scalar.addi v 127#32) 7#32) 0#32) 1#32) 1#32)) 1#32 = _
  rw [Scalar.muli_divsi_one]
  have e : Scalar.addi 0#32 (Scalar.subi (Scalar.shrui (Scalar.addi v 127#32) 7#32) 0#32) = Scalar.shrui (Scalar.addi v 127#32) 7#32 := by
    show 0#32 + (_ - 0#32) = _
    rw [BitVec.sub_zero, BitVec.zero_add]
  rw [e]
  unfold Scf.trips
  rw [show ((1#32 : BitVec 32).toInt) = 1 from rfl, show ((0#32 : BitVec 32).toInt) = 0 from rfl,
    BitVec.toInt_eq_toNat_of_lt (by rw [h1]; omega), h1]
  omega

/-- The counts of a tile's four groups are at most its tokens. -/
structure Few (n0 n1 n2 n : ℕ) : Prop where
  h0 : n0 ≤ 1024
  h1 : n1 ≤ 1024
  h2 : n2 ≤ 1024
  h : n ≤ 1024

theorem iv_word (n : ℕ) (k : Fin n) (h : k.val < 8) : (Scf.iv 0#32 1#32 k).toNat = k.val := WordArith.toNat_iv_zero_one _ (by omega)

/-- A trip's first row. -/
theorem row_word (i : grid0.Coords) (v7 v17 v27 v37 : BitVec 32) (h : Few v7.toNat v17.toNat v27.toNat v37.toNat) (k : Fin (k0_t1_loop v37).trips) :
    (k0_mult1 i v7 v17 v27 v37 k).toNat = base (i 1).val v7.toNat v17.toNat v27.toNat + 128 * k.val := by
  have hg : (i 1).val < 4 := (i 1).isLt
  have hk : k.val < 8 := by have := k.isLt; have := trips_t1 v37 h.h; have := up_le _ h.h; omega
  have u0 := up_word v7 h.h0
  have u1 := up_word v17 h.h1
  have u2 := up_word v27 h.h2
  have l0 := up_le _ h.h0
  have l1 := up_le _ h.h1
  have l2 := up_le _ h.h2
  have s0 := sel_word (i 1).val 0 hg (by omega) (Scalar.shrui (Scalar.addi v7 127#32) 7#32)
  have s1 := sel_word (i 1).val 1 hg (by omega) (Scalar.shrui (Scalar.addi v17 127#32) 7#32)
  have s2 := sel_word (i 1).val 2 hg (by omega) (Scalar.shrui (Scalar.addi v27 127#32) 7#32)
  rw [u0] at s0; rw [u1] at s1; rw [u2] at s2
  have b0 : (if 0 < (i 1).val then up v7.toNat else 0) ≤ 8 := by split <;> omega
  have b1 : (if 1 < (i 1).val then up v17.toNat else 0) ≤ 8 := by split <;> omega
  have b2 : (if 2 < (i 1).val then up v27.toNat else 0) ≤ 8 := by split <;> omega
  unfold base
  show (Scalar.addi (Scalar.addi (Scalar.addi (Scalar.addi 0#32 (Scalar.muli (Scalar.select (Scalar.cmpi .sgt (BitVec.ofNat 32 (i 1).val) (BitVec.ofNat 32 0)) (Scalar.shrui (Scalar.addi v7 127#32) 7#32) 0#32) 128#32))
    (Scalar.muli (Scalar.select (Scalar.cmpi .sgt (BitVec.ofNat 32 (i 1).val) (BitVec.ofNat 32 1)) (Scalar.shrui (Scalar.addi v17 127#32) 7#32) 0#32) 128#32))
    (Scalar.muli (Scalar.select (Scalar.cmpi .sgt (BitVec.ofNat 32 (i 1).val) (BitVec.ofNat 32 2)) (Scalar.shrui (Scalar.addi v27 127#32) 7#32) 0#32) 128#32))
    (Scalar.muli (Scf.iv 0#32 1#32 k) 128#32)).toNat = _
  generalize (if 0 < (i 1).val then up v7.toNat else 0) = c0 at *
  generalize (if 1 < (i 1).val then up v17.toNat else 0) = c1 at *
  generalize (if 2 < (i 1).val then up v27.toNat else 0) = c2 at *
  have z : (0#32 : BitVec 32).toNat = 0 := rfl
  have := add_word (add_word (add_word (add_word z (mul_word s0 (by omega)) (by omega)) (mul_word s1 (by omega)) (by omega))
    (mul_word s2 (by omega)) (by omega)) (mul_word (iv_word _ k hk) (by omega)) (by omega)
  rw [this]
  omega

theorem off4_eq (i : grid0.Coords) (v7 v17 v27 v37 : BitVec 32) (h : Few v7.toNat v17.toNat v27.toNat v37.toNat) (k : Fin (k0_t1_loop v37).trips) :
    k0_off4 i v7 v17 v27 v37 k = ![base (i 1).val v7.toNat v17.toNat v27.toNat + 128 * k.val, 0] := by
  show ![(k0_mult1 i v7 v17 v27 v37 k).toNat, 0] = _
  rw [row_word i v7 v17 v27 v37 h k]

theorem off5_eq (i : grid0.Coords) (v7 v17 v27 v37 : BitVec 32) (h : Few v7.toNat v17.toNat v27.toNat v37.toNat) (k : Fin (k0_t1_loop v37).trips) :
    k0_off5 i v7 v17 v27 v37 k = ![base (i 1).val v7.toNat v17.toNat v27.toNat + 128 * k.val, 0] := by
  show ![(k0_mult1 i v7 v17 v27 v37 k).toNat, 0] = _
  rw [row_word i v7 v17 v27 v37 h k]

/-- The last trip of every group fits the 1536 rows. -/
def Fits (g n0 n1 n2 n : ℕ) : Prop := ∀ k, k < up n → base g n0 n1 n2 + 128 * k + 128 ≤ 1536

/-- The kernel's check of the words it reads. -/
theorem chk (i : grid0.Coords) (v7 v17 v27 v37 : BitVec 32) (h : Few v7.toNat v17.toNat v27.toNat v37.toNat)
    (hf : Fits (i 1).val v7.toNat v17.toNat v27.toNat v37.toNat) : k0_chk1 i v7 v17 v27 v37 := by
  have hrow : ∀ k : Fin (k0_t1_loop v37).trips, base (i 1).val v7.toNat v17.toNat v27.toNat + 128 * k.val + 128 ≤ 1536 :=
    fun k => hf k.val (lt_of_lt_of_eq k.isLt (trips_t1 v37 h.h))
  have no : ∀ k : Fin (k0_t2_loop v37).trips, False := fun k => Scf.rem_no_trip 0#32 _ k
  have ok : Scf.OK 0#32 (Scalar.shrui (Scalar.addi v37 127#32) 7#32) 1#32 := by
    have h1 := up_word v37 h.h
    have h2 := up_le _ h.h
    have := Affine.word_range (Scalar.shrui (Scalar.addi v37 127#32) 7#32)
    exact Affine.ok (Affine.ofNat 0 ⟨rfl, by decide⟩) (Affine.word _) (Affine.ofNat 1 ⟨rfl, by decide⟩) ⟨by decide, by omega⟩
  refine ⟨?_, fun k => ?_, fun k a => ?_, fun k a => ?_, fun k hinb => ?_, Scf.rem_ok 0#32 _, fun k => (no k).elim, fun k => (no k).elim, fun k => (no k).elim, fun k => (no k).elim⟩
  · show Scf.OK 0#32 (Scalar.addi 0#32 (Scalar.muli (Scalar.divsi (Scalar.subi (Scalar.shrui (Scalar.addi v37 127#32) 7#32) 0#32) 1#32) 1#32)) 1#32
    rw [Scalar.muli_divsi_one]
    have e : Scalar.addi 0#32 (Scalar.subi (Scalar.shrui (Scalar.addi v37 127#32) 7#32) 0#32) = Scalar.shrui (Scalar.addi v37 127#32) 7#32 := by
      show 0#32 + (_ - 0#32) = _
      rw [BitVec.sub_zero, BitVec.zero_add]
    rw [e]; exact ok
  · rw [row_word i v7 v17 v27 v37 h k]; unfold base; omega
  · rw [off4_eq i v7 v17 v27 v37 h k]
    have := hrow k
    fin_cases a
    · exact this
    · show 0 + 1024 ≤ 1024; omega
  · rw [off5_eq i v7 v17 v27 v37 h k]
    have := hrow k
    fin_cases a
    · exact this
    · show 0 + 128 ≤ 128; omega
  · refine Or.inr ⟨by decide, rfl, Or.inl ⟨?_, ?_⟩⟩
    · show 2 ∣ k0_off4 i v7 v17 v27 v37 k 0
      rw [off4_eq i v7 v17 v27 v37 h k]
      show 2 ∣ base _ _ _ _ + 128 * k.val
      unfold base; omega
    · show 2 ∣ 128; decide

end Cert.Proof.Moe

end
-- ==== Proof.Moe.Step.lean ====
/-
  A chunk of 128 rows of the experts' kernel, and what a step's chunks leave in the result rows.
-/
module

public import proofs.«01_k».proof.Proof.Moe.Words
public import proofs.«01_k».proof.Proof.Gen.Kernel2Ideal.Launch
public import proofs.«01_k».proof.Proof.Gen.Kernel2Ideal.Loops
public import Idealize.ShloMosaic.Lib.Claim
public import Idealize.ShloMosaic.Lib.VecWindow
public import Idealize.ShloMosaic.Lib.ValueIdxCore
public import Idealize.ShloMosaic.Lib.Exec
public import Idealize.ShloMosaic.Lib.Tactic
public import Idealize.ShloMosaic.Lib.Tactic.Stretches
public import Idealize.ShloMosaic.Lib.Pipeline.Kit
public import Idealize.ShloMosaic.Lib.Pipeline.Value

@[expose] public section

noncomputable section

namespace Cert.Proof.Moe

open Idealize.ShloMosaic Idealize.ShloMosaic.TcCoe Idealize.ShloMosaic.Tactic Cert.Kernel2Ideal Cert.Kernel2Ideal.Gen
open Idealize.ShloMosaic.ValueIdx
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One of the four experts' up or gate weights of a group. -/
def slab (w : FVec F S4x1024x256 .bf16) (e : ℕ) (h : ∀ a, (![e, 0, 0] : Fin 3 → ℕ) a + S1x1024x256.size a ≤ S4x1024x256.size a) :
    FVec F S1x1024x256 .bf16 := VecWindow.window w ![e, 0, 0] S1x1024x256.size h

/-- What a chunk stores, of its rows of the tokens and of the combine weights. -/
def chunkV (arg1 : BitVec 32) (v33 : IVec S128x128 32) (x : FVec F S128x1024 .bf16) (cw : FVec F S128x128 .f32)
    (wg wu : FVec F S4x1024x256 .bf16) (wd : FVec F S4x256x1024 .bf16) : FVec F S128x1024 .bf16 :=
  k0_pay1 arg1 x cw (k0_pay16 arg1 v33 x cw (slab wg 0 inb_S4x1024x256_S1x1024x256_0_0_0) (slab wu 0 inb_S4x1024x256_S1x1024x256_0_0_0))
    (k0_pay18 arg1 v33 cw (k0_pay17 x (slab wg 1 inb_S4x1024x256_S1x1024x256_1_0_0) (slab wu 1 inb_S4x1024x256_S1x1024x256_1_0_0)))
    (k0_pay19 arg1 v33 x cw (slab wg 2 inb_S4x1024x256_S1x1024x256_2_0_0) (slab wu 2 inb_S4x1024x256_S1x1024x256_2_0_0))
    (k0_pay20 x (slab wg 3 inb_S4x1024x256_S1x1024x256_3_0_0)) (k0_pay21 (slab wu 3 inb_S4x1024x256_S1x1024x256_3_0_0))
    (constant S128x256 .f32 0x00000000#32) wd

/-- The 128 rows of the tokens from row `r` on. -/
def rowsX (x : FVec F S1536x1024 .bf16) (r : ℕ) : FVec F S128x1024 .bf16 :=
  fun y => x (ix2 ⟨min (r + (y 0).val) 1535, by omega⟩ ⟨(y 1).val, (y 1).isLt⟩)

/-- The 128 rows of the combine weights from row `r` on. -/
def rowsC (x : FVec F S1536x128 .f32) (r : ℕ) : FVec F S128x128 .f32 :=
  fun y => x (ix2 ⟨min (r + (y 0).val) 1535, by omega⟩ ⟨(y 1).val, (y 1).isLt⟩)

/-- The result rows after `k` chunks that store `V 0`, `V 1`, … from row `b` on. -/
def ysN (V : ℕ → FVec F S128x1024 .bf16) (b : ℕ) (y0 : FVec F S1536x1024 .bf16) : ℕ → FVec F S1536x1024 .bf16
  | 0 => y0
  | k + 1 => fun y => if b + 128 * k ≤ (y 0).val ∧ (y 0).val < b + 128 * k + 128
      then V k (ix2 ⟨((y 0).val - (b + 128 * k)) % 128, Nat.mod_lt _ (by decide)⟩ ⟨(y 1).val, (y 1).isLt⟩) else ysN V b y0 k y

/-- One trip's store. -/
theorem trip_list (𝒱 : Variants) (c : Dev nD) (bd : Option 𝒱.V) (i : grid0.Coords) (arg2 : Memref sig .tc .smem S128 .i32) (harg2 : arg2.IsWhole) (arg3 : Memref sig .tc .vmem S1024x1024 .f32) (harg3 : arg3.IsWhole) (arg4 : Memref sig .tc .vmem S16x1024 .f32) (harg4 : arg4.IsWhole) (arg5 : Memref sig .tc .vmem S1x1024 .i32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1536x1024 .bf16) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .bf16) (harg15 : arg15.IsWhole) (arg1 : BitVec 32) (v7 : Elt F .i32) (v17 : Elt F .i32) (v27 : Elt F .i32) (v32 : BitVec 32) (v33 : IVec S128x128 32) (v37 : Elt F .i32) (k0_hw1 : k0_chk1 i v7 v17 v27 v37) (X_arg6 : BufTy.Contents (Elt F) arg6.view.ty) (X_arg7 : BufTy.Contents (Elt F) arg7.view.ty) (X_arg8 : BufTy.Contents (Elt F) arg8.view.ty) (X_arg13 : BufTy.Contents (Elt F) arg13.view.ty) (X_arg14 : BufTy.Contents (Elt F) arg14.view.ty) (k : Fin (k0_t1_loop v37).trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v7 v17 v27 v32 v33 v37 k0_hw1 X_arg6 X_arg7 X_arg8 X_arg13 X_arg14 k).1
      = [⟨Rect.unit (s := S1536x1024) (k0_off4 i v7 v17 v27 v37 k) S128x1024.size (k0_off4_inb i v7 v17 v27 v37 k0_hw1 k),
          chunkV arg1 v33
            (arg13.view.readAt (Elt F) (Rect.unit (s := S1536x1024) (k0_off4 i v7 v17 v27 v37 k) S128x1024.size (k0_off4_inb i v7 v17 v27 v37 k0_hw1 k)).toLoadRect X_arg13)
            (arg14.view.readAt (Elt F) (Rect.unit (s := S1536x128) (k0_off5 i v7 v17 v27 v37 k) S128x128.size (k0_off5_inb i v7 v17 v27 v37 k0_hw1 k)).toLoadRect X_arg14)
            (arg6.view.read (Elt F) X_arg6) (arg7.view.read (Elt F) X_arg7) (arg8.view.read (Elt F) X_arg8)⟩] := by
  unfold trip_k0_t1
  have e8 : View.readAt (Elt F) arg8.view (Rect.unit (s := S4x256x1024) ![0, 0, 0] S4x256x1024.size inb_S4x256x1024_S4x256x1024_0_0_0).toLoadRect X_arg8
        = arg8.view.read (Elt F) X_arg8 := View.readAt_full _ _ _
  rw [← e8]
  rfl

theorem read_rowsX {a : Memref sig .tc .vmem S1536x1024 .bf16} (X : BufTy.Contents (Elt F) a.view.ty) {off : Fin 2 → ℕ} (r : ℕ)
    (inb : ∀ b, off b + S128x1024.size b ≤ S1536x1024.size b) (h : off = ![r, 0]) :
    a.view.readAt (Elt F) (Rect.unit (s := S1536x1024) off S128x1024.size inb).toLoadRect X = rowsX (a.view.read (Elt F) X) r := by
  subst h
  have hr : r + 128 ≤ 1536 := inb 0
  funext y
  refine congrArg (a.view.read (Elt F) X) (funext fun b => Fin.ext ?_)
  have hy : (y 0).val < 128 := (y 0).isLt
  fin_cases b
  · show r + 1 * (y 0).val = min (r + (y 0).val) 1535
    omega
  · show 0 + 1 * (y 1).val = (y 1).val
    omega

theorem read_rowsC {a : Memref sig .tc .vmem S1536x128 .f32} (X : BufTy.Contents (Elt F) a.view.ty) {off : Fin 2 → ℕ} (r : ℕ)
    (inb : ∀ b, off b + S128x128.size b ≤ S1536x128.size b) (h : off = ![r, 0]) :
    a.view.readAt (Elt F) (Rect.unit (s := S1536x128) off S128x128.size inb).toLoadRect X = rowsC (a.view.read (Elt F) X) r := by
  subst h
  have hr : r + 128 ≤ 1536 := inb 0
  funext y
  refine congrArg (a.view.read (Elt F) X) (funext fun b => Fin.ext ?_)
  have hy : (y 0).val < 128 := (y 0).isLt
  fin_cases b
  · show r + 1 * (y 0).val = min (r + (y 0).val) 1535
    omega
  · show 0 + 1 * (y 1).val = (y 1).val
    omega

/-- What the chunks of the first `k` trips leave. -/
theorem read_pb (𝒱 : Variants) (c : Dev nD) (bd : Option 𝒱.V) (i : grid0.Coords) (arg2 : Memref sig .tc .smem S128 .i32) (harg2 : arg2.IsWhole) (arg3 : Memref sig .tc .vmem S1024x1024 .f32) (harg3 : arg3.IsWhole) (arg4 : Memref sig .tc .vmem S16x1024 .f32) (harg4 : arg4.IsWhole) (arg5 : Memref sig .tc .vmem S1x1024 .i32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1536x1024 .bf16) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .bf16) (harg15 : arg15.IsWhole) (arg1 : BitVec 32) (v7 : Elt F .i32) (v17 : Elt F .i32) (v27 : Elt F .i32) (v32 : BitVec 32) (v33 : IVec S128x128 32) (v37 : Elt F .i32) (k0_hw1 : k0_chk1 i v7 v17 v27 v37) (X_arg6 : BufTy.Contents (Elt F) arg6.view.ty) (X_arg7 : BufTy.Contents (Elt F) arg7.view.ty) (X_arg8 : BufTy.Contents (Elt F) arg8.view.ty) (X_arg13 : BufTy.Contents (Elt F) arg13.view.ty) (X_arg14 : BufTy.Contents (Elt F) arg14.view.ty) (f15 : BufTy.Contents (Elt F) arg15.view.ty)
    (h : Few v7.toNat v17.toNat v27.toNat v37.toNat) (k : ℕ) (hk : k ≤ (k0_t1_loop v37).trips) :
    arg15.view.read (Elt F) (arg15.view.writes (Elt F) f15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v7 v17 v27 v32 v33 v37 k0_hw1 X_arg6 X_arg7 X_arg8 X_arg13 X_arg14 k))
      = ysN (fun k => chunkV arg1 v33 (rowsX (arg13.view.read (Elt F) X_arg13) (base (i 1).val v7.toNat v17.toNat v27.toNat + 128 * k))
            (rowsC (arg14.view.read (Elt F) X_arg14) (base (i 1).val v7.toNat v17.toNat v27.toNat + 128 * k))
            (arg6.view.read (Elt F) X_arg6) (arg7.view.read (Elt F) X_arg7) (arg8.view.read (Elt F) X_arg8))
          (base (i 1).val v7.toNat v17.toNat v27.toNat) (arg15.view.read (Elt F) f15) k := by
  induction k with
  | zero => rfl
  | succ k ih =>
    have hk' : k < (k0_t1_loop v37).trips := hk
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v7 v17 v27 v32 v33 v37 k0_hw1 X_arg6 X_arg7 X_arg8 X_arg13 X_arg14 ⟨k, hk'⟩
    refine (congrArg (fun L => arg15.view.read (Elt F) (arg15.view.writes (Elt F) f15 L)) e).trans ?_
    have ho := off4_eq i v7 v17 v27 v37 h ⟨k, hk'⟩
    rw [tripL_k0_t1, trip_list, read_rowsX _ _ _ ho, read_rowsC _ _ _ (off5_eq i v7 v17 v27 v37 h ⟨k, hk'⟩)]
    rw [ysN]
    funext y
    show arg15.view.read (Elt F) (arg15.view.writes (Elt F) f15 (_ :: _)) y = _
    split
    · rename_i hy
      refine View.read_writes_cons_unit_of_mem _ _ _ _ _ y _ ho fun a => ?_
      fin_cases a
      · show (y 0).val = base (i 1).val v7.toNat v17.toNat v27.toNat + 128 * k + (((y 0).val - (base (i 1).val v7.toNat v17.toNat v27.toNat + 128 * k)) % 128)
        omega
      · show (y 1).val = 0 + (y 1).val
        omega
    · rename_i hy
      refine (View.read_writes_cons_unit_of_not_mem _ _ _ _ _ y ho 0 ?_).trans (congrFun (ih hk'.le) y)
      show (y 0).val < base (i 1).val v7.toNat v17.toNat v27.toNat + 128 * k ∨ base (i 1).val v7.toNat v17.toNat v27.toNat + 128 * k + 128 ≤ (y 0).val
      omega

/-- What the loop leaves. -/
theorem read_all {𝒱 : Variants} {c : Dev nD} {bd : Option 𝒱.V} {i : grid0.Coords} {arg2 : Memref sig .tc .smem S128 .i32} {harg2 : arg2.IsWhole} {arg3 : Memref sig .tc .vmem S1024x1024 .f32} {harg3 : arg3.IsWhole} {arg4 : Memref sig .tc .vmem S16x1024 .f32} {harg4 : arg4.IsWhole} {arg5 : Memref sig .tc .vmem S1x1024 .i32} {harg5 : arg5.IsWhole} {arg6 : Memref sig .tc .vmem S4x1024x256 .bf16} {harg6 : arg6.IsWhole} {arg7 : Memref sig .tc .vmem S4x1024x256 .bf16} {harg7 : arg7.IsWhole} {arg8 : Memref sig .tc .vmem S4x256x1024 .bf16} {harg8 : arg8.IsWhole} {arg9 : Memref sig .tc .vmem S1x1024 .f32} {harg9 : arg9.IsWhole} {arg10 : Memref sig .tc .vmem S1x1024 .f32} {harg10 : arg10.IsWhole} {arg11 : Memref sig .tc .vmem S1024x1024 .f32} {harg11 : arg11.IsWhole} {arg12 : Memref sig .tc .vmem S1536x1024 .bf16} {harg12 : arg12.IsWhole} {arg13 : Memref sig .tc .vmem S1536x1024 .bf16} {harg13 : arg13.IsWhole} {arg14 : Memref sig .tc .vmem S1536x128 .f32} {harg14 : arg14.IsWhole} {arg15 : Memref sig .tc .vmem S1536x1024 .bf16} {harg15 : arg15.IsWhole} {arg1 : BitVec 32} {v7 : Elt F .i32} {v17 : Elt F .i32} {v27 : Elt F .i32} {v32 : BitVec 32} {v33 : IVec S128x128 32} {v37 : Elt F .i32} {k0_hw1 : k0_chk1 i v7 v17 v27 v37} {X_arg6 : BufTy.Contents (Elt F) arg6.view.ty} {X_arg7 : BufTy.Contents (Elt F) arg7.view.ty} {X_arg8 : BufTy.Contents (Elt F) arg8.view.ty} {X_arg13 : BufTy.Contents (Elt F) arg13.view.ty} {X_arg14 : BufTy.Contents (Elt F) arg14.view.ty} (f15 : BufTy.Contents (Elt F) arg15.view.ty)
    (h : Few v7.toNat v17.toNat v27.toNat v37.toNat) :
    arg15.view.read (Elt F) (arg15.view.writes (Elt F) f15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg1 v7 v17 v27 v32 v33 v37 k0_hw1 X_arg6 X_arg7 X_arg8 X_arg13 X_arg14 (k0_t1_loop v37).trips))
      = ysN (fun k => chunkV arg1 v33 (rowsX (arg13.view.read (Elt F) X_arg13) (base (i 1).val v7.toNat v17.toNat v27.toNat + 128 * k))
            (rowsC (arg14.view.read (Elt F) X_arg14) (base (i 1).val v7.toNat v17.toNat v27.toNat + 128 * k))
            (arg6.view.read (Elt F) X_arg6) (arg7.view.read (Elt F) X_arg7) (arg8.view.read (Elt F) X_arg8))
          (base (i 1).val v7.toNat v17.toNat v27.toNat) (arg15.view.read (Elt F) f15) (up v37.toNat) := by
  rw [read_pb (h := h) (hk := le_rfl), trips_t1 _ h.h]

end Cert.Proof.Moe

end
-- ==== Proof.Moe.Body.lean ====
/-
  The body of the experts' kernel on any staging buffers: a tile's first step, a middle step, its last step.
-/
module

public import proofs.«01_k».proof.Proof.Moe.Step
public import proofs.«01_k».proof.Proof.Gen.Kernel2Ideal.Launch
public import proofs.«01_k».proof.Proof.Gen.Kernel2Ideal.Loops
public import Idealize.ShloMosaic.Lib.Claim
public import Idealize.ShloMosaic.Lib.VecWindow
public import Idealize.ShloMosaic.Lib.ValueIdxCore
public import Idealize.ShloMosaic.Lib.Exec
public import Idealize.ShloMosaic.Lib.Tactic
public import Idealize.ShloMosaic.Lib.Tactic.Stretches
public import Idealize.ShloMosaic.Lib.Pipeline.Kit
public import Idealize.ShloMosaic.Lib.Pipeline.Value

@[expose] public section

noncomputable section

namespace Cert.Proof.Moe

open Idealize.ShloMosaic Idealize.ShloMosaic.TcCoe Idealize.ShloMosaic.Tactic Cert.Kernel2Ideal Cert.Kernel2Ideal.Gen
open Idealize.ShloMosaic.ValueIdx
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The table's word at the place an offset names. -/
def word (x : Vec F S128 .i32) (off : Fin 1 → ℕ) (h : ∀ a, off a + S1.size a ≤ S128.size a) : Elt F .i32 :=
  x fun a => ⟨off a, lt_of_lt_of_le (Nat.lt_add_of_pos_right (by fin_cases a; exact Nat.one_pos)) (h a)⟩

/-- The lanes' numbers. -/
abbrev lanes : IVec S128x128 32 := iota .tc S128x128 32 [1] iota_S128x128_d1_w32

/-- A step's result rows: group `g`'s chunks over the rows `y0`, from the counts of the groups before it and its own. -/
def stepY (g n0 n1 n2 n : ℕ) (xs : FVec F S1536x1024 .bf16) (cs : FVec F S1536x128 .f32) (wg wu : FVec F S4x1024x256 .bf16)
    (wd : FVec F S4x256x1024 .bf16) (y0 : FVec F S1536x1024 .bf16) : FVec F S1536x1024 .bf16 :=
  ysN (fun k => chunkV (BitVec.ofNat 32 g) lanes (rowsX xs (base g n0 n1 n2 + 128 * k)) (rowsC cs (base g n0 n1 n2 + 128 * k)) wg wu wd)
    (base g n0 n1 n2) y0 (up n)

/-- The step's result rows, from the table. -/
def stepT (i : grid0.Coords) (x2 : Vec F S128 .i32) (xs : FVec F S1536x1024 .bf16) (cs : FVec F S1536x128 .f32)
    (wg wu : FVec F S4x1024x256 .bf16) (wd : FVec F S4x256x1024 .bf16) (y0 : FVec F S1536x1024 .bf16) : FVec F S1536x1024 .bf16 :=
  stepY (i 1).val (BitVec.toNat (word x2 (k0_off2 i 0#32) (k0_off2_inb i 0))) (BitVec.toNat (word x2 (k0_off2 i 1#32) (k0_off2_inb i 1)))
    (BitVec.toNat (word x2 (k0_off2 i 2#32) (k0_off2_inb i 2))) (BitVec.toNat (word x2 (k0_off3 i) (k0_off3_inb i))) xs cs wg wu wd y0

/-- The table allows the step: its counts are few, and its chunks fit the rows. -/
structure Allowed (i : grid0.Coords) (x2 : Vec F S128 .i32) : Prop where
  few : Few (BitVec.toNat (word x2 (k0_off2 i 0#32) (k0_off2_inb i 0))) (BitVec.toNat (word x2 (k0_off2 i 1#32) (k0_off2_inb i 1)))
    (BitVec.toNat (word x2 (k0_off2 i 2#32) (k0_off2_inb i 2))) (BitVec.toNat (word x2 (k0_off3 i) (k0_off3_inb i)))
  fits : Fits (i 1).val (BitVec.toNat (word x2 (k0_off2 i 0#32) (k0_off2_inb i 0))) (BitVec.toNat (word x2 (k0_off2 i 1#32) (k0_off2_inb i 1)))
    (BitVec.toNat (word x2 (k0_off2 i 2#32) (k0_off2_inb i 2))) (BitVec.toNat (word x2 (k0_off3 i) (k0_off3_inb i)))

/-- A tile's running counts of each group over its tokens. -/
def cum (x5 : Vec F S1x1024 .i32) : IVec S8x1024 32 :=
  k0_pay7 (iota .tc S8x1024 32 [1] iota_S8x1024_d1_w32) (k0_pay5 (F := F) x5) k0_pay6

/-- The row a token of groups 0, 1 or 2 goes to. -/
def slotA (i : grid0.Coords) (x2 : Vec F S128 .i32) (x5 : Vec F S1x1024 .i32) : IVec S1x1024 32 :=
  k0_pay9 (F := F) (k0_pay4 (F := F) x5) (cum x5) (k0_pay8 (iota .tc S8x1024 32 [1] iota_S8x1024_d1_w32) (k0_pay4 (F := F) x5) (k0_pay5 (F := F) x5) k0_pay6)
    (word x2 (k0_off2 i 0#32) (k0_off2_inb i 0)) (word x2 (k0_off2 i 1#32) (k0_off2_inb i 1))

/-- The row a token of group 3 goes to. -/
def slotB (i : grid0.Coords) (x2 : Vec F S128 .i32) (x5 : Vec F S1x1024 .i32) : IVec S1x1024 32 :=
  k0_pay10 (F := F) (k0_pay4 (F := F) x5) (cum x5)
    (word x2 (k0_off2 i 0#32) (k0_off2_inb i 0)) (word x2 (k0_off2 i 1#32) (k0_off2_inb i 1)) (word x2 (k0_off2 i 2#32) (k0_off2_inb i 2))

set_option maxHeartbeats 4000000 in
/-- A middle step: group `g`'s chunks. -/
theorem sound_mid (c : Dev nD) (E : Set ℕ) (i : grid0.Coords) (arg2 : Memref sig .tc .smem S128 .i32) (harg2 : arg2.IsWhole) (arg3 : Memref sig .tc .vmem S1024x1024 .f32) (harg3 : arg3.IsWhole) (arg4 : Memref sig .tc .vmem S16x1024 .f32) (harg4 : arg4.IsWhole) (arg5 : Memref sig .tc .vmem S1x1024 .i32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1536x1024 .bf16) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .bf16) (harg15 : arg15.IsWhole)
    (x2 : Vec F S128 .i32) (x6 : FVec F S4x1024x256 .bf16) (x7 : FVec F S4x1024x256 .bf16) (x8 : FVec F S4x256x1024 .bf16) (x13 : FVec F S1536x1024 .bf16) (x14 : FVec F S1536x128 .f32) (x15 : FVec F S1536x1024 .bf16)
    (h1 : ¬ k0_cond1 i = 1#1) (h2 : ¬ k0_cond2 i = 1#1)
    (ha : Allowed i x2) (K : PUnit → sProp 𝕄G) :
    iprop(owns (c : Thread nD τ) arg2 fullShare.right (x2) ∗ owns (c : Thread nD τ) arg6 fullShare (x6) ∗ owns (c : Thread nD τ) arg7 fullShare (x7) ∗ owns (c : Thread nD τ) arg8 fullShare (x8) ∗ owns (c : Thread nD τ) arg13 fullShare (x13) ∗ owns (c : Thread nD τ) arg14 fullShare (x14) ∗ owns (c : Thread nD τ) arg15 fullShare (x15)
        ∗ (iprop(owns (c : Thread nD τ) arg2 fullShare.right (x2) ∗ owns (c : Thread nD τ) arg6 fullShare (x6) ∗ owns (c : Thread nD τ) arg7 fullShare (x7) ∗ owns (c : Thread nD τ) arg8 fullShare (x8) ∗ owns (c : Thread nD τ) arg13 fullShare (x13) ∗ owns (c : Thread nD τ) arg14 fullShare (x14) ∗ owns (c : Thread nD τ) arg15 fullShare (stepT i x2 x13 x14 x6 x7 x8 x15)) -∗ K ⟨⟩))
      ⊢ wp Idealize.ShloMosaic.frame (wpE (defs₀ (F := F)) Variants.none (c : Thread nD τ) none) E (cc0_moe_ln2 i arg2 harg2 arg3 harg3 arg4 harg4 arg5 harg5 arg6 harg6 arg7 harg7 arg8 harg8 arg9 harg9 arg10 harg10 arg11 harg11 arg12 harg12 arg13 harg13 arg14 harg14 arg15 harg15) K := by
  have hw : k0_chk1 i (word x2 (k0_off2 i 0#32) (k0_off2_inb i 0)) (word x2 (k0_off2 i 1#32) (k0_off2_inb i 1)) (word x2 (k0_off2 i 2#32) (k0_off2_inb i 2)) (word x2 (k0_off3 i) (k0_off3_inb i)) := chk _ _ _ _ _ ha.few ha.fits
  simp only [cc0_moe_ln2_eq_skeleton]; unfold cc0_moe_ln2_skel
  unfold owns
  iintro ⟨⟨%f2, %hf2, H2⟩, ⟨%f6, %hf6, H6⟩, ⟨%f7, %hf7, H7⟩, ⟨%f8, %hf8, H8⟩, ⟨%f13, %hf13, H13⟩, ⟨%f14, %hf14, H14⟩, ⟨%f15, %hf15, H15⟩, Hk⟩
  subst hf2 hf6 hf7 hf8 hf13 hf14 hf15
  sl_exec
  sl_step
  iapply Hk
  isplitl [H2]
  · iexists f2; isplitr
    · ipureintro; rfl
    · iexact H2
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H13]
  · iexists f13; isplitr
    · ipureintro; rfl
    · iexact H13
  isplitl [H14]
  · iexists f14; isplitr
    · ipureintro; rfl
    · iexact H14
  · iexists _; isplitr
    swap; · iexact H15
    ipureintro
    exact read_all _ ha.few

end Cert.Proof.Moe

end
-- ==== Proof.Moe.First.lean ====
/-
  The body of the experts' kernel at a tile's first and at its last step.
-/
module

public import proofs.«01_k».proof.Proof.Moe.Body
public import proofs.«01_k».proof.Proof.Gen.Kernel2Ideal.Launch
public import proofs.«01_k».proof.Proof.Gen.Kernel2Ideal.Loops
public import Idealize.ShloMosaic.Lib.Claim
public import Idealize.ShloMosaic.Lib.VecWindow
public import Idealize.ShloMosaic.Lib.ValueIdxCore
public import Idealize.ShloMosaic.Lib.Exec
public import Idealize.ShloMosaic.Lib.Tactic
public import Idealize.ShloMosaic.Lib.Tactic.Stretches
public import Idealize.ShloMosaic.Lib.Pipeline.Kit
public import Idealize.ShloMosaic.Lib.Pipeline.Value

@[expose] public section

noncomputable section

namespace Cert.Proof.Moe

open Idealize.ShloMosaic Idealize.ShloMosaic.TcCoe Idealize.ShloMosaic.Tactic Cert.Kernel2Ideal Cert.Kernel2Ideal.Gen
open Idealize.ShloMosaic.ValueIdx
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem stepT_congr {i : grid0.Coords} {x2 : Vec F S128 .i32} {xs xs' : FVec F S1536x1024 .bf16} {cs cs' : FVec F S1536x128 .f32}
    {wg wu : FVec F S4x1024x256 .bf16} {wd : FVec F S4x256x1024 .bf16} {y0 y0' : FVec F S1536x1024 .bf16} (h1 : xs = xs') (h2 : cs = cs') (h3 : y0 = y0') :
    stepT i x2 xs cs wg wu wd y0 = stepT i x2 xs' cs' wg wu wd y0' := by subst h1 h2 h3; rfl

/-- The one-hot rows of a tile: row `s` holds one at the token whose row is `s`. -/
def tileP (i : grid0.Coords) (x2 : Vec F S128 .i32) (x5 : Vec F S1x1024 .i32) : FVec F S1536x1024 .bf16 :=
  k0_pay12 (slotA i x2 x5) (slotB i x2 x5)

/-- The tokens' rows, sorted. -/
def tileX (i : grid0.Coords) (x2 : Vec F S128 .i32) (x5 : Vec F S1x1024 .i32) (x3 : FVec F S1024x1024 .f32) : FVec F S1536x1024 .bf16 :=
  k0_pay13 (slotA i x2 x5) (slotB i x2 x5) x3

/-- The tokens' combine weights, sorted. -/
def tileC (i : grid0.Coords) (x2 : Vec F S128 .i32) (x5 : Vec F S1x1024 .i32) (x4 : FVec F S16x1024 .f32) : FVec F S1536x128 .f32 :=
  k0_pay14 (slotA i x2 x5) (slotB i x2 x5) x4

set_option maxHeartbeats 4000000 in
/-- A tile's first step: the tokens are sorted into rows, then group 0's chunks. -/
theorem sound_first (c : Dev nD) (E : Set ℕ) (i : grid0.Coords) (arg2 : Memref sig .tc .smem S128 .i32) (harg2 : arg2.IsWhole) (arg3 : Memref sig .tc .vmem S1024x1024 .f32) (harg3 : arg3.IsWhole) (arg4 : Memref sig .tc .vmem S16x1024 .f32) (harg4 : arg4.IsWhole) (arg5 : Memref sig .tc .vmem S1x1024 .i32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1536x1024 .bf16) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .bf16) (harg15 : arg15.IsWhole)
    (x2 : Vec F S128 .i32) (x3 : FVec F S1024x1024 .f32) (x4 : FVec F S16x1024 .f32) (x5 : Vec F S1x1024 .i32) (x6 : FVec F S4x1024x256 .bf16) (x7 : FVec F S4x1024x256 .bf16) (x8 : FVec F S4x256x1024 .bf16)
    (h1 : k0_cond1 i = 1#1) (h2 : ¬ k0_cond2 i = 1#1)
    (ha : Allowed i x2) (K : PUnit → sProp 𝕄G) :
    iprop(owns (c : Thread nD τ) arg2 fullShare.right (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare.right (x2) ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg12 fullShare (tileP i x2 x5) ∗ owns (c : Thread nD τ) arg13 fullShare (tileX i x2 x5 x3) ∗ owns (c : Thread nD τ) arg14 fullShare (tileC i x2 x5 x4) ∗ owns (c : Thread nD τ) arg15 fullShare (stepT i x2 (tileX i x2 x5 x3) (tileC i x2 x5 x4) x6 x7 x8 k0_pay15)) -∗ K ⟨⟩))
      ⊢ wp Idealize.ShloMosaic.frame (wpE (defs₀ (F := F)) Variants.none (c : Thread nD τ) none) E (cc0_moe_ln2 i arg2 harg2 arg3 harg3 arg4 harg4 arg5 harg5 arg6 harg6 arg7 harg7 arg8 harg8 arg9 harg9 arg10 harg10 arg11 harg11 arg12 harg12 arg13 harg13 arg14 harg14 arg15 harg15) K := by
  have hw : k0_chk1 i (word x2 (k0_off2 i 0#32) (k0_off2_inb i 0)) (word x2 (k0_off2 i 1#32) (k0_off2_inb i 1)) (word x2 (k0_off2 i 2#32) (k0_off2_inb i 2)) (word x2 (k0_off3 i) (k0_off3_inb i)) := chk _ _ _ _ _ ha.few ha.fits
  simp only [cc0_moe_ln2_eq_skeleton]; unfold cc0_moe_ln2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d12, %f12, -, H12⟩, ⟨%d13, %f13, -, H13⟩, ⟨%d14, %f14, -, H14⟩, ⟨%d15, %f15, -, H15⟩, Hk⟩
  subst hf2 hf3 hf4 hf5 hf6 hf7 hf8
  sl_exec
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H12]
  · iexists _; isplitr
    swap; · iexact H12
    ipureintro
    have e5 : View.readAt (Elt F) arg5.view (Rect.unit (s := S1x1024) ![0, 0] S1x1024.size inb_S1x1024_S1x1024_0_0).toLoadRect f5 = arg5.view.read (Elt F) f5 := View.readAt_full _ _ _
    sl_unfold_run_names
    rw [View.read_writes_full, e5]
    rfl
  isplitl [H13]
  · iexists _; isplitr
    swap; · iexact H13
    ipureintro
    have e5 : View.readAt (Elt F) arg5.view (Rect.unit (s := S1x1024) ![0, 0] S1x1024.size inb_S1x1024_S1x1024_0_0).toLoadRect f5 = arg5.view.read (Elt F) f5 := View.readAt_full _ _ _
    have e3 : View.readAt (Elt F) arg3.view (Rect.unit (s := S1024x1024) ![0, 0] S1024x1024.size inb_S1024x1024_S1024x1024_0_0).toLoadRect f3 = arg3.view.read (Elt F) f3 := View.readAt_full _ _ _
    sl_unfold_run_names
    rw [View.read_writes_full, e5, e3]
    rfl
  isplitl [H14]
  · iexists _; isplitr
    swap; · iexact H14
    ipureintro
    have e5 : View.readAt (Elt F) arg5.view (Rect.unit (s := S1x1024) ![0, 0] S1x1024.size inb_S1x1024_S1x1024_0_0).toLoadRect f5 = arg5.view.read (Elt F) f5 := View.readAt_full _ _ _
    have e4 : View.readAt (Elt F) arg4.view (Rect.unit (s := S16x1024) ![0, 0] S16x1024.size inb_S16x1024_S16x1024_0_0).toLoadRect f4 = arg4.view.read (Elt F) f4 := View.readAt_full _ _ _
    sl_unfold_run_names
    rw [View.read_writes_full, e5, e4]
    rfl
  · iexists _; isplitr
    swap; · iexact H15
    ipureintro
    refine (congrArg (arg15.view.read (Elt F)) (View.writes_append ..)).trans ((read_all _ ha.few).trans (stepT_congr ?_ ?_ ?_))
    · have e5 : View.readAt (Elt F) arg5.view (Rect.unit (s := S1x1024) ![0, 0] S1x1024.size inb_S1x1024_S1x1024_0_0).toLoadRect f5 = arg5.view.read (Elt F) f5 := View.readAt_full _ _ _
      have e3 : View.readAt (Elt F) arg3.view (Rect.unit (s := S1024x1024) ![0, 0] S1024x1024.size inb_S1024x1024_S1024x1024_0_0).toLoadRect f3 = arg3.view.read (Elt F) f3 := View.readAt_full _ _ _
      sl_unfold_run_names
      rw [View.read_writes_full, e5, e3]
      rfl
    · have e5 : View.readAt (Elt F) arg5.view (Rect.unit (s := S1x1024) ![0, 0] S1x1024.size inb_S1x1024_S1x1024_0_0).toLoadRect f5 = arg5.view.read (Elt F) f5 := View.readAt_full _ _ _
      have e4 : View.readAt (Elt F) arg4.view (Rect.unit (s := S16x1024) ![0, 0] S16x1024.size inb_S16x1024_S16x1024_0_0).toLoadRect f4 = arg4.view.read (Elt F) f4 := View.readAt_full _ _ _
      sl_unfold_run_names
      rw [View.read_writes_full, e5, e4]
      rfl
    · sl_unfold_run_names
      exact View.read_writes_full _ _ _ _ _

end Cert.Proof.Moe

end
-- ==== Proof.Moe.Last.lean ====
/-
  The body of the experts' kernel at a tile's last step.
-/
module

public import proofs.«01_k».proof.Proof.Moe.Body
public import proofs.«01_k».proof.Proof.Gen.Kernel2Ideal.Launch
public import proofs.«01_k».proof.Proof.Gen.Kernel2Ideal.Loops
public import Idealize.ShloMosaic.Lib.Claim
public import Idealize.ShloMosaic.Lib.VecWindow
public import Idealize.ShloMosaic.Lib.ValueIdxCore
public import Idealize.ShloMosaic.Lib.Exec
public import Idealize.ShloMosaic.Lib.Tactic
public import Idealize.ShloMosaic.Lib.Tactic.Stretches
public import Idealize.ShloMosaic.Lib.Pipeline.Kit
public import Idealize.ShloMosaic.Lib.Pipeline.Value

@[expose] public section

noncomputable section

namespace Cert.Proof.Moe

open Idealize.ShloMosaic Idealize.ShloMosaic.TcCoe Idealize.ShloMosaic.Tactic Cert.Kernel2Ideal Cert.Kernel2Ideal.Gen
open Idealize.ShloMosaic.ValueIdx
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option maxHeartbeats 4000000 in
/-- A tile's last step: group 3's chunks, then each token's row back, and the layer norm. -/
theorem sound_last (c : Dev nD) (E : Set ℕ) (i : grid0.Coords) (arg2 : Memref sig .tc .smem S128 .i32) (harg2 : arg2.IsWhole) (arg3 : Memref sig .tc .vmem S1024x1024 .f32) (harg3 : arg3.IsWhole) (arg4 : Memref sig .tc .vmem S16x1024 .f32) (harg4 : arg4.IsWhole) (arg5 : Memref sig .tc .vmem S1x1024 .i32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1536x1024 .bf16) (harg12 : arg12.IsWhole) (arg13 : Memref sig .tc .vmem S1536x1024 .bf16) (harg13 : arg13.IsWhole) (arg14 : Memref sig .tc .vmem S1536x128 .f32) (harg14 : arg14.IsWhole) (arg15 : Memref sig .tc .vmem S1536x1024 .bf16) (harg15 : arg15.IsWhole)
    (x2 : Vec F S128 .i32) (x3 : FVec F S1024x1024 .f32) (x6 : FVec F S4x1024x256 .bf16) (x7 : FVec F S4x1024x256 .bf16) (x8 : FVec F S4x256x1024 .bf16) (x9 : FVec F S1x1024 .f32) (x10 : FVec F S1x1024 .f32) (x12 : FVec F S1536x1024 .bf16) (x13 : FVec F S1536x1024 .bf16) (x14 : FVec F S1536x128 .f32) (x15 : FVec F S1536x1024 .bf16)
    (h1 : ¬ k0_cond1 i = 1#1) (h2 : k0_cond2 i = 1#1)
    (ha : Allowed i x2) (K : PUnit → sProp 𝕄G) :
    iprop(owns (c : Thread nD τ) arg2 fullShare.right (x2) ∗ owns (c : Thread nD τ) arg3 fullShare (x3) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg12 fullShare (x12) ∗ owns (c : Thread nD τ) arg13 fullShare (x13) ∗ owns (c : Thread nD τ) arg14 fullShare (x14) ∗ owns (c : Thread nD τ) arg15 fullShare (x15) ∗ (∃ d, owns (c : Thread nD τ) arg11 fullShare d)
        ∗ (iprop(owns (c : Thread nD τ) arg2 fullShare.right (x2) ∗ owns (c : Thread nD τ) arg3 fullShare (x3) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (x10) ∗ owns (c : Thread nD τ) arg12 fullShare (x12) ∗ owns (c : Thread nD τ) arg13 fullShare (x13) ∗ owns (c : Thread nD τ) arg14 fullShare (x14) ∗ owns (c : Thread nD τ) arg15 fullShare (stepT i x2 x13 x14 x6 x7 x8 x15) ∗ owns (c : Thread nD τ) arg11 fullShare (k0_pay3 x12 (stepT i x2 x13 x14 x6 x7 x8 x15) x3 x9 x10)) -∗ K ⟨⟩))
      ⊢ wp Idealize.ShloMosaic.frame (wpE (defs₀ (F := F)) Variants.none (c : Thread nD τ) none) E (cc0_moe_ln2 i arg2 harg2 arg3 harg3 arg4 harg4 arg5 harg5 arg6 harg6 arg7 harg7 arg8 harg8 arg9 harg9 arg10 harg10 arg11 harg11 arg12 harg12 arg13 harg13 arg14 harg14 arg15 harg15) K := by
  have hw : k0_chk1 i (word x2 (k0_off2 i 0#32) (k0_off2_inb i 0)) (word x2 (k0_off2 i 1#32) (k0_off2_inb i 1)) (word x2 (k0_off2 i 2#32) (k0_off2_inb i 2)) (word x2 (k0_off3 i) (k0_off3_inb i)) := chk _ _ _ _ _ ha.few ha.fits
  simp only [cc0_moe_ln2_eq_skeleton]; unfold cc0_moe_ln2_skel
  unfold owns
  iintro ⟨⟨%f2, %hf2, H2⟩, ⟨%f3, %hf3, H3⟩, ⟨%f6, %hf6, H6⟩, ⟨%f7, %hf7, H7⟩, ⟨%f8, %hf8, H8⟩, ⟨%f9, %hf9, H9⟩, ⟨%f10, %hf10, H10⟩, ⟨%f12, %hf12, H12⟩, ⟨%f13, %hf13, H13⟩, ⟨%f14, %hf14, H14⟩, ⟨%f15, %hf15, H15⟩, ⟨%d11, %f11, -, H11⟩, Hk⟩
  subst hf2 hf3 hf6 hf7 hf8 hf9 hf10 hf12 hf13 hf14 hf15
  sl_exec
  sl_step
  iapply Hk
  isplitl [H2]
  · iexists f2; isplitr
    · ipureintro; rfl
    · iexact H2
  isplitl [H3]
  · iexists f3; isplitr
    · ipureintro; rfl
    · iexact H3
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H12]
  · iexists f12; isplitr
    · ipureintro; rfl
    · iexact H12
  isplitl [H13]
  · iexists f13; isplitr
    · ipureintro; rfl
    · iexact H13
  isplitl [H14]
  · iexists f14; isplitr
    · ipureintro; rfl
    · iexact H14
  isplitl [H15]
  · iexists _; isplitr
    swap; · iexact H15
    ipureintro
    exact read_all _ ha.few
  · iexists _; isplitr
    swap; · iexact H11
    ipureintro
    have e3 : View.readAt (Elt F) arg3.view (Rect.unit (s := S1024x1024) ![0, 0] S1024x1024.size inb_S1024x1024_S1024x1024_0_0).toLoadRect f3 = arg3.view.read (Elt F) f3 := View.readAt_full _ _ _
    have e9 : View.readAt (Elt F) arg9.view (Rect.unit (s := S1x1024) ![0, 0] S1x1024.size inb_S1x1024_S1x1024_0_0).toLoadRect f9 = arg9.view.read (Elt F) f9 := View.readAt_full _ _ _
    have e10 : View.readAt (Elt F) arg10.view (Rect.unit (s := S1x1024) ![0, 0] S1x1024.size inb_S1x1024_S1x1024_0_0).toLoadRect f10 = arg10.view.read (Elt F) f10 := View.readAt_full _ _ _
    have e12 : View.readAt (Elt F) arg12.view (Rect.unit (s := S1536x1024) ![0, 0] S1536x1024.size inb_S1536x1024_S1536x1024_0_0).toLoadRect f12 = arg12.view.read (Elt F) f12 := View.readAt_full _ _ _
    rw [View.read_writes_full, e3, e9, e10, e12]
    refine congrArg (fun y => k0_pay3 _ y _ _ _) ?_
    sl_unfold_run_names
    exact (View.readAt_full _ _ _).trans (read_all _ ha.few)

end Cert.Proof.Moe

end
-- ==== Proof.Moe.Run.lean ====
/-
  The experts' call as a pipeline: what its buffers hold between the points, the body's obligation, and the run.
-/
module

public import proofs.«01_k».proof.Proof.Moe.First
public import proofs.«01_k».proof.Proof.Moe.Last
public import Idealize.ShloMosaic.Lib.Pipeline.FrameBody
public import proofs.«01_k».proof.Proof.Gen.Kernel2Ideal.Launch
public import proofs.«01_k».proof.Proof.Gen.Kernel2Ideal.Loops
public import Idealize.ShloMosaic.Lib.Claim
public import Idealize.ShloMosaic.Lib.VecWindow
public import Idealize.ShloMosaic.Lib.ValueIdxCore
public import Idealize.ShloMosaic.Lib.Exec
public import Idealize.ShloMosaic.Lib.Tactic
public import Idealize.ShloMosaic.Lib.Tactic.Stretches
public import Idealize.ShloMosaic.Lib.Pipeline.Kit
public import Idealize.ShloMosaic.Lib.Pipeline.Value

@[expose] public section

noncomputable section

namespace Cert.Proof.Moe

open Idealize.ShloMosaic Idealize.ShloMosaic.TcCoe Idealize.ShloMosaic.Tactic Cert.Kernel2Ideal Cert.Kernel2Ideal.Gen
open Idealize.ShloMosaic.ValueIdx
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The buffers when the call begins: after the host's operations. -/
abbrev V (c : Dev nD) (b : Ref sig .tc) : Buf (Elt F) ((c : Thread nD τ).loc b) := StableHlo.after hostOps0 (fun b => m (c, b)) b

/-- The table of counts. -/
def tbl : Vec F S128 .i32 := V m 0 main_v16

/-- The table, as the pipeline's contents. -/
def adm0 : (pcfg0 (F := F)).Adm := ⟨fun k => V m 0 (pre0.ref k), trivial⟩

section
variable (W : (b : Ref sig .tc) → Buf (Elt F) ((0 : Dev nD).tc.loc (τ := τ) b))
theorem ref_zero : W (pre0.ref 0) = W main_v16 := rfl
end

theorem adm0_zero : (adm0 m).1 0 = tbl m := by
  have e := ref_zero (F := F) (fun b => V m 0 b)
  unfold adm0 tbl
  dsimp only
  exact e

/-- The one pipeline's. -/
def adm : (p : Fin 1) → (pcfgs (F := F) p).Adm := fun | 0 => adm0 m | ⟨_ + 1, h⟩ => absurd h (Nat.not_lt.2 (Nat.le_add_left _ _))

/-- The pipeline at the table. -/
abbrev cf : Pipeline.Cfg sig Λ₀ := cfg0 (adm0 m)

/-- A window's block at a point. -/
def iblk (c : Dev nD) (w : Fin (cf m).W) (t : Fin (cf m).N) : (((cf m).win w).xblock ((cf m).grid.coords t)).Idx → Elt F ((cf m).win w).elt :=
  (((cf m).win w).blk t).view.read (Elt F) (V m c (Pipeline.arrRef spec0 w))

/-- The point of a number. -/
def pt (j : ℕ) : Fin grid0.N := ⟨j % 128, by rw [N_0]; exact Nat.mod_lt _ (by decide)⟩

/-- The first point of a number's tile. -/
def hd (j : ℕ) : Fin grid0.N := pt (j - j % 4)

/-- A tile's one-hot rows, its tokens' rows and its combine weights. -/
def pAt (c : Dev nD) (j : ℕ) : FVec F S1536x1024 .bf16 := tileP (grid0.coords (hd j)) (tbl m) (iblk m c 2 (hd j))
def xAt (c : Dev nD) (j : ℕ) : FVec F S1536x1024 .bf16 := tileX (grid0.coords (hd j)) (tbl m) (iblk m c 2 (hd j)) (iblk m c 0 (hd j))
def cAt (c : Dev nD) (j : ℕ) : FVec F S1536x128 .f32 := tileC (grid0.coords (hd j)) (tbl m) (iblk m c 2 (hd j)) (iblk m c 1 (hd j))

/-- One step on the result rows. -/
def stepAt (c : Dev nD) (j : ℕ) (y0 : FVec F S1536x1024 .bf16) : FVec F S1536x1024 .bf16 :=
  stepT (grid0.coords (pt j)) (tbl m) (xAt m c j) (cAt m c j) (iblk m c 3 (pt j)) (iblk m c 4 (pt j)) (iblk m c 5 (pt j)) y0

/-- The result rows before the point of a number: the groups' of its tile so far. -/
def yBef (c : Dev nD) : ℕ → FVec F S1536x1024 .bf16
  | 0 => k0_pay15
  | j + 1 => if (j + 1) % 4 = 0 then k0_pay15 else stepAt m c j (yBef c j)

/-- And after it. -/
def yAt (c : Dev nD) (j : ℕ) : FVec F S1536x1024 .bf16 := stepAt m c j (yBef m c j)

/-- The output block a point leaves. -/
def oAt (c : Dev nD) (t : Fin grid0.N) : FVec F S1024x1024 .f32 :=
  k0_pay3 (pAt m c t.val) (yAt m c t.val) (iblk m c 0 t) (iblk m c 6 t) (iblk m c 7 t)

/-- What is held between the points: at a tile's start the scratch at anything, within a tile at the tile's. -/
def Φ' (c : Dev nD) (j : ℕ) : sProp 𝕄G :=
  if j % 4 = 0 then iprop(Pipeline.ΦA spec0 c ∗ Pipeline.ΦT pre0 (adm0 m).1 c)
  else iprop(owns (c : Thread nD τ) (Memref.whole main_v16) fullShare.right (tbl m)
    ∗ owns (c : Thread nD τ) (Memref.whole cc0_scratch0) fullShare (pAt m c j) ∗ owns (c : Thread nD τ) (Memref.whole cc0_scratch1) fullShare (xAt m c j)
    ∗ owns (c : Thread nD τ) (Memref.whole cc0_scratch2) fullShare (cAt m c j) ∗ owns (c : Thread nD τ) (Memref.whole cc0_scratch3) fullShare (yBef m c j)
    ∗ ∃ r, prngReg c r)

/-- The pipeline's proof data. -/
def dat (c : Dev nD) : Dat τ (Elt F) Unit ℕ (UR sig nD τ) ℕ (cf m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oAt m c t
  Φ k := Φ' m c k.val
  q _ := fullShare
  owed _ := 0

/-- For the one pipeline. -/
def dats : (p : Fin 1) → (c : Dev nD) → Dat τ (Elt F) Unit ℕ (UR sig nD τ) ℕ (Pipeline.pin (pcfgs (F := F)) (adm m) p) c :=
  fun | 0 => fun c => dat m c | ⟨_ + 1, h⟩ => absurd h (Nat.not_lt.2 (Nat.le_add_left _ _))

theorem A_eq (c : Dev nD) (w : Fin (cf m).W) : (dat m c).A w = V m c (Pipeline.arrRef spec0 w) := rfl

theorem after_0 (c : Dev nD) (t : Fin (cf m).N) : (dat m c).after 0 t = iblk m c 0 t := rfl
theorem after_1 (c : Dev nD) (t : Fin (cf m).N) : (dat m c).after 1 t = iblk m c 1 t := rfl
theorem after_2 (c : Dev nD) (t : Fin (cf m).N) : (dat m c).after 2 t = iblk m c 2 t := rfl
theorem after_3 (c : Dev nD) (t : Fin (cf m).N) : (dat m c).after 3 t = iblk m c 3 t := rfl
theorem after_4 (c : Dev nD) (t : Fin (cf m).N) : (dat m c).after 4 t = iblk m c 4 t := rfl
theorem after_5 (c : Dev nD) (t : Fin (cf m).N) : (dat m c).after 5 t = iblk m c 5 t := rfl
theorem after_6 (c : Dev nD) (t : Fin (cf m).N) : (dat m c).after 6 t = iblk m c 6 t := rfl
theorem after_7 (c : Dev nD) (t : Fin (cf m).N) : (dat m c).after 7 t = iblk m c 7 t := rfl
theorem after_8 (c : Dev nD) (t : Fin (cf m).N) : (dat m c).after 8 t = oAt m c t := rfl

theorem before_0 (c : Dev nD) (t : Fin (cf m).N) (d) : (dat m c).before 0 t d = iblk m c 0 t :=
  ((dat m c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cf m).N) (d) : (dat m c).before 1 t d = iblk m c 1 t :=
  ((dat m c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cf m).N) (d) : (dat m c).before 2 t d = iblk m c 2 t :=
  ((dat m c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cf m).N) (d) : (dat m c).before 3 t d = iblk m c 3 t :=
  ((dat m c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cf m).N) (d) : (dat m c).before 4 t d = iblk m c 4 t :=
  ((dat m c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cf m).N) (d) : (dat m c).before 5 t d = iblk m c 5 t :=
  ((dat m c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cf m).N) (d) : (dat m c).before 6 t d = iblk m c 6 t :=
  ((dat m c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin (cf m).N) (d) : (dat m c).before 7 t d = iblk m c 7 t :=
  ((dat m c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-! ## The points -/

theorem pt_val (t : Fin grid0.N) : pt t.val = t := Fin.ext (Nat.mod_eq_of_lt (lt_of_lt_of_eq t.isLt N_0))

theorem hd_start (t : Fin grid0.N) (h : t.val % 4 = 0) : hd t.val = t := by unfold hd; rw [h]; exact pt_val t

theorem hd_next (j : ℕ) (h : (j + 1) % 4 ≠ 0) : hd (j + 1) = hd j := by unfold hd; congr 1; omega

theorem cond1_iff : ∀ t : Fin grid0.N, k0_cond1 (grid0.coords t) = 1#1 ↔ t.val % 4 = 0 := by decide +kernel
theorem cond2_iff : ∀ t : Fin grid0.N, k0_cond2 (grid0.coords t) = 1#1 ↔ t.val % 4 = 3 := by decide +kernel

theorem flush_8' : ∀ t : Fin grid0.N, t.val % 4 ≠ 3 → Pipeline.Window.flushOf grid0 true cc0_transform_8 t = false := by decide +kernel

theorem flush_8 (t : Fin (cf m).N) (h : t.val % 4 ≠ 3) : ((cf m).win 8).flush t = false := flush_8' t h

theorem idle_8 (t : Fin (cf m).N) (h : t.val % 4 ≠ 3) : (cf m).idle 8 ((cf m).grid.coords t) = true := by
  show (!(k0_cond2 (grid0.coords t) == 1#1)) = true
  have := mt (cond2_iff t).mp h
  simp [this]

theorem live_8 (t : Fin (cf m).N) (h : t.val % 4 = 3) : (cf m).idle 8 ((cf m).grid.coords t) = false := by
  show (!(k0_cond2 (grid0.coords t) == 1#1)) = false
  have := (cond2_iff t).mpr h
  simp [this]

/-! ## The body's obligation -/

theorem yBef_start (c : Dev nD) (j : ℕ) (h : j % 4 = 0) : yBef m c j = k0_pay15 := by
  cases j with
  | zero => rfl
  | succ j => show (if (j + 1) % 4 = 0 then _ else _) = _; rw [if_pos h]

theorem yBef_succ (c : Dev nD) (j : ℕ) (h : (j + 1) % 4 ≠ 0) : yBef m c (j + 1) = yAt m c j := by
  show (if (j + 1) % 4 = 0 then _ else _) = _; rw [if_neg h]; rfl

/-- What the call holds besides its windows at a tile's start. -/
theorem phi_start (c : Dev nD) (j : ℕ) (h : j % 4 = 0) : Φ' m c j
    = iprop((((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
        ∗ ∃ r, prngReg c r) ∗ owns (c : Thread nD τ) (Memref.whole main_v16) fullShare.right (tbl m)) := by
  unfold Φ'
  rw [if_pos h]
  unfold Pipeline.ΦA Pipeline.ΦT Pipeline.prefHeld
  rw [scopedRest0_eq, show (Finset.univ : Finset (Fin 1)) = {0} from rfl, bigSep_singleton]
  simp only [owns_whole]
  rw [show (adm0 m).1 (0 : Fin 1) = tbl m from adm0_zero m]
  rfl

/-- And within a tile. -/
theorem phi_mid (c : Dev nD) (j : ℕ) (h : j % 4 ≠ 0) : Φ' m c j
    = iprop(owns (c : Thread nD τ) (Memref.whole main_v16) fullShare.right (tbl m)
    ∗ owns (c : Thread nD τ) (Memref.whole cc0_scratch0) fullShare (pAt m c j) ∗ owns (c : Thread nD τ) (Memref.whole cc0_scratch1) fullShare (xAt m c j)
    ∗ owns (c : Thread nD τ) (Memref.whole cc0_scratch2) fullShare (cAt m c j) ∗ owns (c : Thread nD τ) (Memref.whole cc0_scratch3) fullShare (yBef m c j)
    ∗ ∃ r, prngReg c r) := by
  unfold Φ'
  rw [if_neg h]

/-! Each window's current staging buffer. -/

abbrev st0 (t : Fin (cf m).N) : Memref sig .tc .vmem S1024x1024 .f32 := spec0_0.stage ((cf m).slots t 0)
abbrev st1 (t : Fin (cf m).N) : Memref sig .tc .vmem S16x1024 .f32 := spec0_1.stage ((cf m).slots t 1)
abbrev st2 (t : Fin (cf m).N) : Memref sig .tc .vmem S1x1024 .i32 := spec0_2.stage ((cf m).slots t 2)
abbrev st3 (t : Fin (cf m).N) : Memref sig .tc .vmem S4x1024x256 .bf16 := spec0_3.stage ((cf m).slots t 3)
abbrev st4 (t : Fin (cf m).N) : Memref sig .tc .vmem S4x1024x256 .bf16 := spec0_4.stage ((cf m).slots t 4)
abbrev st5 (t : Fin (cf m).N) : Memref sig .tc .vmem S4x256x1024 .bf16 := spec0_5.stage ((cf m).slots t 5)
abbrev st6 (t : Fin (cf m).N) : Memref sig .tc .vmem S1x1024 .f32 := spec0_6.stage ((cf m).slots t 6)
abbrev st7 (t : Fin (cf m).N) : Memref sig .tc .vmem S1x1024 .f32 := spec0_7.stage ((cf m).slots t 7)
abbrev st8 (t : Fin (cf m).N) : Memref sig .tc .vmem S1024x1024 .f32 := spec0_8.stage ((cf m).slots t 8)

/-- The body at a point. -/
abbrev bodyAt (t : Fin (cf m).N) := cc0_moe_ln2 (F := F) (grid0.coords t) (Memref.whole main_v16) (Memref.isWhole_whole _) (spec0_0.stage ((cf m).slots t 0)) (hstage0_0 (((cf m).slots t 0).cast nbuf0_0)) (spec0_1.stage ((cf m).slots t 1)) (hstage0_1 (((cf m).slots t 1).cast nbuf0_1)) (spec0_2.stage ((cf m).slots t 2)) (hstage0_2 (((cf m).slots t 2).cast nbuf0_2)) (spec0_3.stage ((cf m).slots t 3)) (hstage0_3 (((cf m).slots t 3).cast nbuf0_3)) (spec0_4.stage ((cf m).slots t 4)) (hstage0_4 (((cf m).slots t 4).cast nbuf0_4)) (spec0_5.stage ((cf m).slots t 5)) (hstage0_5 (((cf m).slots t 5).cast nbuf0_5)) (spec0_6.stage ((cf m).slots t 6)) (hstage0_6 (((cf m).slots t 6).cast nbuf0_6)) (spec0_7.stage ((cf m).slots t 7)) (hstage0_7 (((cf m).slots t 7).cast nbuf0_7)) (spec0_8.stage ((cf m).slots t 8)) (hstage0_8 (((cf m).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)

theorem defs₀_row (t : Fin (cf m).N) : defs₀ (F := F) .tc (cf m).body ((cf m).bodyArgs t ((cf m).slots t)) = bodyAt m t := by
  unfold defs₀; rw [Defs.onTc_tc]

/-- What the body is called with at point `t`, -/
def bodyPre (c : Dev nD) (t : Fin (cf m).N) : sProp 𝕄G :=
  iprop(Φ' m c t.val ∗ (dat m c).owesAt () t.castSucc
    ∗ (∃ d, owns (c : Thread nD τ) (st0 m t) fullShare ((dat m c).before 0 t d))
    ∗ (∃ d, owns (c : Thread nD τ) (st1 m t) fullShare ((dat m c).before 1 t d))
    ∗ (∃ d, owns (c : Thread nD τ) (st2 m t) fullShare ((dat m c).before 2 t d))
    ∗ (∃ d, owns (c : Thread nD τ) (st3 m t) fullShare ((dat m c).before 3 t d))
    ∗ (∃ d, owns (c : Thread nD τ) (st4 m t) fullShare ((dat m c).before 4 t d))
    ∗ (∃ d, owns (c : Thread nD τ) (st5 m t) fullShare ((dat m c).before 5 t d))
    ∗ (∃ d, owns (c : Thread nD τ) (st6 m t) fullShare ((dat m c).before 6 t d))
    ∗ (∃ d, owns (c : Thread nD τ) (st7 m t) fullShare ((dat m c).before 7 t d))
    ∗ (∃ d, owns (c : Thread nD τ) (st8 m t) fullShare ((dat m c).before 8 t d)))

/-- and what it gives back, the output's buffer apart. -/
def bodyPost (c : Dev nD) (t : Fin (cf m).N) (R : sProp 𝕄G) : sProp 𝕄G :=
  iprop(Φ' m c (t.val + 1) ∗ (dat m c).owesAt () t.castSucc
    ∗ owns (c : Thread nD τ) (st0 m t) fullShare ((dat m c).after 0 t)
    ∗ owns (c : Thread nD τ) (st1 m t) fullShare ((dat m c).after 1 t)
    ∗ owns (c : Thread nD τ) (st2 m t) fullShare ((dat m c).after 2 t)
    ∗ owns (c : Thread nD τ) (st3 m t) fullShare ((dat m c).after 3 t)
    ∗ owns (c : Thread nD τ) (st4 m t) fullShare ((dat m c).after 4 t)
    ∗ owns (c : Thread nD τ) (st5 m t) fullShare ((dat m c).after 5 t)
    ∗ owns (c : Thread nD τ) (st6 m t) fullShare ((dat m c).after 6 t)
    ∗ owns (c : Thread nD τ) (st7 m t) fullShare ((dat m c).after 7 t)
    ∗ R)

/-- The body at a tile's first point. -/
theorem body_first (c : Dev nD) (t : Fin (cf m).N) (h : t.val % 4 = 0) (ha : Allowed (grid0.coords t) (tbl m)) :
    bodyPre m c t ⊢ wp Idealize.ShloMosaic.frame (wpE (defs₀ (F := F)) Variants.none (c : Thread nD τ) none) Set.univ (bodyAt m t)
      (fun _ => bodyPost m c t iprop(∃ d, owns (c : Thread nD τ) (st8 m t) fullShare ((dat m c).before 8 t d))) := by
  unfold bodyPre bodyPost
  simp only [before_0, before_1, before_2, before_3, before_4, before_5, before_6, before_7, after_0, after_1, after_2, after_3, after_4, after_5, after_6, after_7]
  rw [phi_start m c _ h, phi_mid m c _ (by omega)]
  have e0 : pAt m c (t.val + 1) = tileP (grid0.coords t) (tbl m) (iblk m c 2 t) := by unfold pAt; rw [hd_next _ (by omega), hd_start t h]
  have e1 : xAt m c (t.val + 1) = tileX (grid0.coords t) (tbl m) (iblk m c 2 t) (iblk m c 0 t) := by unfold xAt; rw [hd_next _ (by omega), hd_start t h]
  have e2 : cAt m c (t.val + 1) = tileC (grid0.coords t) (tbl m) (iblk m c 2 t) (iblk m c 1 t) := by unfold cAt; rw [hd_next _ (by omega), hd_start t h]
  have e3 : yBef m c (t.val + 1) = stepT (grid0.coords t) (tbl m) (tileX (grid0.coords t) (tbl m) (iblk m c 2 t) (iblk m c 0 t)) (tileC (grid0.coords t) (tbl m) (iblk m c 2 t) (iblk m c 1 t)) (iblk m c 3 t) (iblk m c 4 t) (iblk m c 5 t) k0_pay15 := by
    rw [yBef_succ m c _ (by omega)]; unfold yAt stepAt; rw [yBef_start m c _ h, pt_val]; unfold xAt cAt; rw [hd_start t h]
  rw [e0, e1, e2, e3]
  iintro ⟨⟨⟨⟨HS0, HS1, HS2, HS3⟩, HR⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_first c Set.univ (grid0.coords t) _ _ _ _ _ _ _ _ _ _ _ _ _ _ _ _ _ _ _ _ _ _ _ _ _ _ _ _ (tbl m) (iblk m c 0 t) (iblk m c 1 t) (iblk m c 2 t) (iblk m c 3 t) (iblk m c 4 t) (iblk m c 5 t) ((cond1_iff t).mpr h) (mt (cond2_iff t).mp (by omega)) ha _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨HT, H0, H1, H2, H3, H4, H5, HS0, HS1, HS2, HS3⟩
  isplitl [HT HS0 HS1 HS2 HS3 HR]
  · isplitl [HT]; · iexact HT
    isplitl [HS0]; · iexact HS0
    isplitl [HS1]; · iexact HS1
    isplitl [HS2]; · iexact HS2
    isplitl [HS3]; · iexact HS3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The body at a tile's middle points. -/
theorem body_mid (c : Dev nD) (t : Fin (cf m).N) (h : t.val % 4 ≠ 0) (h' : t.val % 4 ≠ 3) (ha : Allowed (grid0.coords t) (tbl m)) :
    bodyPre m c t ⊢ wp Idealize.ShloMosaic.frame (wpE (defs₀ (F := F)) Variants.none (c : Thread nD τ) none) Set.univ (bodyAt m t)
      (fun _ => bodyPost m c t iprop(∃ d, owns (c : Thread nD τ) (st8 m t) fullShare ((dat m c).before 8 t d))) := by
  unfold bodyPre bodyPost
  simp only [before_0, before_1, before_2, before_3, before_4, before_5, before_6, before_7, after_0, after_1, after_2, after_3, after_4, after_5, after_6, after_7]
  rw [phi_mid m c _ h, phi_mid m c _ (by omega)]
  have e0 : pAt m c (t.val + 1) = pAt m c t.val := by unfold pAt; rw [hd_next _ (by omega)]
  have e1 : xAt m c (t.val + 1) = xAt m c t.val := by unfold xAt; rw [hd_next _ (by omega)]
  have e2 : cAt m c (t.val + 1) = cAt m c t.val := by unfold cAt; rw [hd_next _ (by omega)]
  have e3 : yBef m c (t.val + 1) = stepT (grid0.coords t) (tbl m) (xAt m c t.val) (cAt m c t.val) (iblk m c 3 t) (iblk m c 4 t) (iblk m c 5 t) (yBef m c t.val) := by
    rw [yBef_succ m c _ (by omega)]; unfold yAt stepAt; rw [pt_val]
  rw [e0, e1, e2, e3]
  iintro ⟨⟨HT, HS0, HS1, HS2, HS3, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_mid c Set.univ (grid0.coords t) _ _ _ _ _ _ _ _ _ _ _ _ _ _ _ _ _ _ _ _ _ _ _ _ _ _ _ _ (tbl m) (iblk m c 3 t) (iblk m c 4 t) (iblk m c 5 t) (xAt m c t.val) (cAt m c t.val) (yBef m c t.val) (mt (cond1_iff t).mp h) (mt (cond2_iff t).mp h') ha _)
  isplitl [HT]; · iexact HT
  isplitl [H3]; · iexact H3
  isplitl [H4]; · iexact H4
  isplitl [H5]; · iexact H5
  isplitl [HS1]; · iexact HS1
  isplitl [HS2]; · iexact HS2
  isplitl [HS3]; · iexact HS3
  iintro ⟨HT, H3, H4, H5, HS1, HS2, HS3⟩
  isplitl [HT HS0 HS1 HS2 HS3 HR]
  · isplitl [HT]; · iexact HT
    isplitl [HS0]; · iexact HS0
    isplitl [HS1]; · iexact HS1
    isplitl [HS2]; · iexact HS2
    isplitl [HS3]; · iexact HS3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- The body at a tile's last point. -/
theorem body_last (c : Dev nD) (t : Fin (cf m).N) (h : t.val % 4 = 3) (ha : Allowed (grid0.coords t) (tbl m)) :
    bodyPre m c t ⊢ wp Idealize.ShloMosaic.frame (wpE (defs₀ (F := F)) Variants.none (c : Thread nD τ) none) Set.univ (bodyAt m t)
      (fun _ => bodyPost m c t (owns (c : Thread nD τ) (st8 m t) fullShare ((dat m c).after 8 t))) := by
  unfold bodyPre bodyPost
  simp only [before_0, before_1, before_2, before_3, before_4, before_5, before_6, before_7, after_0, after_1, after_2, after_3, after_4, after_5, after_6, after_7]
  rw [phi_mid m c _ (by omega), phi_start m c _ (by omega)]
  have e8 : (dat m c).after 8 t = k0_pay3 (pAt m c t.val) (stepT (grid0.coords t) (tbl m) (xAt m c t.val) (cAt m c t.val) (iblk m c 3 t) (iblk m c 4 t) (iblk m c 5 t) (yBef m c t.val)) (iblk m c 0 t) (iblk m c 6 t) (iblk m c 7 t) := by
    rw [after_8]; unfold oAt yAt stepAt; rw [pt_val]
  rw [e8]
  iintro ⟨⟨HT, HS0, HS1, HS2, HS3, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_last c Set.univ (grid0.coords t) _ _ _ _ _ _ _ _ _ _ _ _ _ _ _ _ _ _ _ _ _ _ _ _ _ _ _ _ (tbl m) (iblk m c 0 t) (iblk m c 3 t) (iblk m c 4 t) (iblk m c 5 t) (iblk m c 6 t) (iblk m c 7 t) (pAt m c t.val) (xAt m c t.val) (cAt m c t.val) (yBef m c t.val) (mt (cond1_iff t).mp (by omega)) ((cond2_iff t).mpr h) ha _)
  isplitl [HT]; · iexact HT
  isplitl [H0]; · iexact H0
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [H8]; · iexists _; iexact H8
  iintro ⟨HT, H0, H3, H4, H5, H6, H7, HS0, HS1, HS2, HS3, H8⟩
  isplitl [HT HS0 HS1 HS2 HS3 HR]
  · isplitr [HT]
    · isplitr [HR]
      · isplitl [HS0]; · iexists _; iexact HS0
        isplitl [HS1]; · iexists _; iexact HS1
        isplitl [HS2]; · iexists _; iexact HS2
        iexists _; iexact HS3
      · iexact HR
    · iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- What is left of the output's buffer: as it was found, except at a tile's last point. -/
def left8 (c : Dev nD) (t : Fin (cf m).N) : sProp 𝕄G :=
  match (cf m).idle 8 ((cf m).grid.coords t) with
  | true => match ((cf m).win 8).flush t with
    | false => iprop(∃ d, owns (c : Thread nD τ) (st8 m t) fullShare ((dat m c).before 8 t d))
    | true => owns (c : Thread nD τ) (st8 m t) fullShare ((dat m c).after 8 t)
  | false => owns (c : Thread nD τ) (st8 m t) fullShare ((dat m c).after 8 t)

theorem left8_idle (c : Dev nD) (t : Fin (cf m).N) (h : t.val % 4 ≠ 3) :
    left8 m c t = iprop(∃ d, owns (c : Thread nD τ) (st8 m t) fullShare ((dat m c).before 8 t d)) := by
  unfold left8; rw [idle_8 m t h, flush_8 m t h]

theorem left8_last (c : Dev nD) (t : Fin (cf m).N) (h : t.val % 4 = 3) :
    left8 m c t = owns (c : Thread nD τ) (st8 m t) fullShare ((dat m c).after 8 t) := by
  unfold left8; rw [live_8 m t h]

/-- The body at any point the table allows. -/
theorem body_any (c : Dev nD) (t : Fin (cf m).N) (ha : Allowed (grid0.coords t) (tbl m)) :
    bodyPre m c t ⊢ wp Idealize.ShloMosaic.frame (wpE (defs₀ (F := F)) Variants.none (c : Thread nD τ) none) Set.univ (bodyAt m t)
      (fun _ => bodyPost m c t (left8 m c t)) := by
  by_cases h0 : t.val % 4 = 0
  · rw [left8_idle m c t (by omega)]; exact body_first m c t h0 ha
  · by_cases h3 : t.val % 4 = 3
    · rw [left8_last m c t h3]; exact body_last m c t h3 ha
    · rw [left8_idle m c t h3]; exact body_mid m c t h0 h3 ha

/-- The body's obligation at every point, the table allowing each. -/
theorem body_obligation (c : Dev nD) (hA : ∀ t : Fin grid0.N, Allowed (grid0.coords t) (tbl m)) : BodyObligation (dat m c) (defs₀ (F := F)) Variants.none () Set.univ := fun t => by
  rw [bigSep_W0, bigSep_W0, defs₀_row]
  exact triple_restated (body_any m c t (hA t)) rfl .rfl fun _ => .rfl

/-! ## The run -/

theorem fresh0 : (hostOps0 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl⟩

theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub fresh0 main_chain

set_option backward.isDefEq.respectTransparency.types false in
/-- Every execution ends, every array of the pipeline at what the proof data say, every counter at zero. -/
theorem run_main (hA : ∀ t : Fin grid0.N, Allowed (grid0.coords t) (tbl m)) : θ_run defs (onTc (τ := τ) (main (F := F))) (s₀ m ρ)
    (fun r => (Pipeline.FramePost (Pipeline.pin pcfgs (adm m)) (dats m) 0 (V m)) r ∧ r.2.sem = fun _ => 0) :=
  Pipeline.θ_run_frameP_track (Q' := _) pcfgs (adm m) (dats m) (0 : Fin 1) launch0 defs₀ Variants.none m ρ main
    (hbody := fun c => (body_obligation m c hA).loose) (hshare := fun c w => by
      show (dat m c).share w = fullShare
      unfold Dat.share; split <;> rfl)
    (howed := fun _ _ => rfl) (V := V m) (hmain := hmain m) (hA := A_eq m)
    (hpf := fun c k => by
      obtain rfl : c = 0 := Subsingleton.elim _ _
      rfl)
    (hin := fun c => by
      show _ ⊢ Φ' m c 0
      unfold Φ'; rw [if_pos (Nat.zero_mod 4)]; exact .rfl)
    (hout := fun c => by
      show Φ' m c (Fin.last (cf m).N).val ⊢ Pipeline.ΦA spec0 c
      unfold Φ'; rw [if_pos (by show grid0.N % 4 = 0; rw [N_0])]; iintro ⟨H, -⟩; iexact H)
    (hQ' := fun _ h => h)

end Cert.Proof.Moe

end
-- ==== Proof.Moe.Counts.lean ====
module

public import proofs.«01_k».proof.Proof.Moe.Run
public import Idealize.ShloMosaic.Lib.Pipeline.FrameBody
public import proofs.«01_k».proof.Proof.Gen.Kernel2Ideal.Launch
public import proofs.«01_k».proof.Proof.Gen.Kernel2Ideal.Loops
public import Idealize.ShloMosaic.Lib.Claim
public import Idealize.ShloMosaic.Lib.Pointwise
public import Idealize.ShloMosaic.Lib.WordCmp
public import Idealize.ShloMosaic.Lib.VecWindow
public import Idealize.ShloMosaic.Lib.ValueIdxCore
public import Idealize.ShloMosaic.Lib.Exec
public import Idealize.ShloMosaic.Lib.Tactic
public import Idealize.ShloMosaic.Lib.Tactic.Stretches
public import Idealize.ShloMosaic.Lib.Pipeline.Kit
public import Idealize.ShloMosaic.Lib.Pipeline.Value

@[expose] public section

noncomputable section

namespace Cert.Proof.Moe

open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ)

/-- The chosen groups, as launched. -/
abbrev gidA (c : Dev nD) : Vec F S1x33792 .i32 := m ((c : Thread nD τ).loc main_arg2)

/-- The table as the host computes it. -/
theorem tbl_eq : tbl m = shapeCast S128 (Host.reduce IntOp.addi
    (extui 32 (cmpi .eq
      (broadcastInDim S32x1024x4 ![0, 1, 2] bcast_S32x1024x1_S32x1024x4_0_1_2 (broadcastInDim S32x1024x1 ![0, 1] bcast_S32x1024_S32x1024x1_0_1
        (shapeCast S32x1024 (shapeCast S32768 (extractStridedSlice S1x32768 ![0, 0] (gidA m 0) slices_S1x33792_S1x32768_0_0) shapeCasts_S1x32768_S32768) shapeCasts_S32768_S32x1024)))
      (broadcastInDim S32x1024x4 ![0, 1, 2] bcast_S1x1x4_S32x1024x4_0_1_2 (broadcastInDim S1x1x4 ![2] bcast_S4_S1x1x4_2 (iotaInDim S4 32 0)))) natLt_1_32)
    (constantI S_ 32 0#32) reducesTo_S32x1024x4_S32x4_d1 h_S_) shapeCasts_S32x4_S128 := by
  unfold tbl V hostOps0
  after_results_simp <;> rfl

/-! The call's operands: the arguments as launched, or cast. -/

theorem V_arg0 (c : Dev nD) : V m c main_arg0 = m ((c : Thread nD τ).loc main_arg0) := by
  unfold V hostOps0; after_results_simp <;> rfl
theorem V_arg1 (c : Dev nD) : V m c main_arg1 = m ((c : Thread nD τ).loc main_arg1) := by
  unfold V hostOps0; after_results_simp <;> rfl
theorem V_arg2 (c : Dev nD) : V m c main_arg2 = m ((c : Thread nD τ).loc main_arg2) := by
  unfold V hostOps0; after_results_simp <;> rfl
theorem V_arg3 (c : Dev nD) : V m c main_arg3 = m ((c : Thread nD τ).loc main_arg3) := by
  unfold V hostOps0; after_results_simp <;> rfl
theorem V_arg4 (c : Dev nD) : V m c main_arg4 = m ((c : Thread nD τ).loc main_arg4) := by
  unfold V hostOps0; after_results_simp <;> rfl
theorem V_arg5 (c : Dev nD) : V m c main_arg5 = m ((c : Thread nD τ).loc main_arg5) := by
  unfold V hostOps0; after_results_simp <;> rfl
theorem V_arg6 (c : Dev nD) : V m c main_arg6 = m ((c : Thread nD τ).loc main_arg6) := by
  unfold V hostOps0; after_results_simp <;> rfl
theorem V_arg7 (c : Dev nD) : V m c main_arg7 = m ((c : Thread nD τ).loc main_arg7) := by
  unfold V hostOps0; after_results_simp <;> rfl
theorem V_v0 (c : Dev nD) : V m c main_v0 = truncf .bf16 (m ((c : Thread nD τ).loc main_arg3)) bitsLt_bf16_f32 := by
  unfold V hostOps0; after_results_simp <;> rfl
theorem V_v1 (c : Dev nD) : V m c main_v1 = truncf .bf16 (m ((c : Thread nD τ).loc main_arg4)) bitsLt_bf16_f32 := by
  unfold V hostOps0; after_results_simp <;> rfl
theorem V_v2 (c : Dev nD) : V m c main_v2 = truncf .bf16 (m ((c : Thread nD τ).loc main_arg5)) bitsLt_bf16_f32 := by
  unfold V hostOps0; after_results_simp <;> rfl
theorem V_v3 (c : Dev nD) : V m c main_v3 = shapeCast S1x1024 (m ((c : Thread nD τ).loc main_arg6)) shapeCasts_S1024_S1x1024 := by
  unfold V hostOps0; after_results_simp <;> rfl
theorem V_v4 (c : Dev nD) : V m c main_v4 = shapeCast S1x1024 (m ((c : Thread nD τ).loc main_arg7)) shapeCasts_S1024_S1x1024 := by
  unfold V hostOps0; after_results_simp <;> rfl

/-- How many of a tile's tokens chose a group, the tokens' groups given. -/
def cnt (γ : Fin 1024 → BitVec 32) (g : ℕ) : ℕ := (Finset.univ.filter fun j => γ j = BitVec.ofNat 32 g).card

/-- A tile's tokens' groups. -/
def grp (c : Dev nD) (i : Fin 32) (j : Fin 1024) : BitVec 32 := gidA m c (ix2 0 ⟨1024 * i.val + j.val, by omega⟩)

/-- Summing truth values as words counts. -/
theorem fold_count {ι : Type} [DecidableEq ι] (p : ι → Bool) (s : Finset ι) :
    Finset.fold IntOp.addi (0#32) (fun x => BitVec.setWidth 32 (BitVec.ofBool (p x))) s = BitVec.ofNat 32 (s.filter fun x => p x = true).card := by
  induction s using Finset.induction_on with
  | empty => rfl
  | insert a s ha ih =>
    rw [Finset.fold_insert ha, ih, Finset.filter_insert]
    cases h : p a with
    | false => simp [IntOp.addi]
    | true =>
      rw [if_pos rfl, Finset.card_insert_of_notMem (by simp [ha]), BitVec.ofNat_add]
      simp only [IntOp.addi]
      rw [BitVec.add_comm]; rfl

/-- The table's word of tile `i` and group `g` is the count. -/
theorem tbl_word (i : Fin 32) (g : Fin 4) : tbl m (ix1 ⟨4 * i.val + g.val, by omega⟩) = BitVec.ofNat 32 (cnt (grp m 0 i) g.val) := by
  rw [tbl_eq]
  pointwise
  have e : ∀ x : Fin 1024, IntOp.cmpi CmpIPredicate.eq (grp m 0 i x) (BitVec.ofNat 32 g.val) = BitVec.ofBool (decide (grp m 0 i x = BitVec.ofNat 32 g.val)) := by
    intro x; unfold IntOp.cmpi; simp only [beq_eq_decide]
  refine Eq.trans (Finset.fold_congr fun x _ => congrArg (BitVec.setWidth 32) (Eq.trans ?_ (e x))) ((fold_count _ _).trans ?_)
  · refine congrArg₂ _ (congrArg _ (congrArg _ (Fin.ext ?_))) (congrArg _ ?_)
    · show i.val * 1024 + x.val = 1024 * i.val + x.val; omega
    · rfl
  · unfold cnt; simp only [decide_eq_true_eq]

theorem cnt_le (γ : Fin 1024 → BitVec 32) (g : ℕ) : cnt γ g ≤ 1024 := (Finset.card_le_univ _).trans (by simp)

/-- The four groups' counts sum to at most the tile. -/
theorem cnt_sum (γ : Fin 1024 → BitVec 32) : cnt γ 0 + cnt γ 1 + cnt γ 2 + cnt γ 3 ≤ 1024 := by
  unfold cnt
  rw [← Finset.card_union_of_disjoint, ← Finset.card_union_of_disjoint, ← Finset.card_union_of_disjoint]
  · exact (Finset.card_le_univ _).trans (by simp)
  all_goals
    rw [Finset.disjoint_left]
    intro x hx hy
    simp only [Finset.mem_union, Finset.mem_filter, Finset.mem_univ, true_and] at hx hy
    rw [hy] at hx
    revert hx
    decide

theorem off2_val : ∀ (t : Fin grid0.N), ∀ w : Fin 3, k0_off2 (grid0.coords t) (BitVec.ofNat 32 w.val) 0 = 4 * (t.val / 4) + w.val := by decide +kernel
theorem off3_val : ∀ (t : Fin grid0.N), k0_off3 (grid0.coords t) 0 = 4 * (t.val / 4) + t.val % 4 := by decide +kernel
theorem coord1 : ∀ (t : Fin grid0.N), ((grid0.coords t) 1).val = t.val % 4 := by decide +kernel
theorem coord0 : ∀ (t : Fin grid0.N), ((grid0.coords t) 0).val = t.val / 4 := by decide +kernel

/-- A point's tile. -/
def tile (t : Fin grid0.N) : Fin 32 := ⟨t.val / 4, by have := lt_of_lt_of_eq t.isLt N_0; omega⟩

/-- The table's words as the body reads them. -/
theorem word_eq (t : Fin grid0.N) (g : Fin 4) (off : Fin 1 → ℕ) (h) (ho : off 0 = 4 * (t.val / 4) + g.val) :
    BitVec.toNat (word (tbl m) off h) = cnt (grp m 0 (tile t)) g.val := by
  have e : word (tbl m) off h = tbl m (ix1 ⟨4 * (tile t).val + g.val, by omega⟩) := by
    unfold word
    refine congrArg _ (funext fun a => Fin.ext ?_)
    fin_cases a
    exact ho
  have := cnt_le (grp m 0 (tile t)) g.val
  rw [e, tbl_word, BitVec.toNat_ofNat, Nat.mod_eq_of_lt (by omega)]

theorem word0 (t : Fin grid0.N) : BitVec.toNat (word (tbl m) (k0_off2 (grid0.coords t) 0#32) (k0_off2_inb (grid0.coords t) 0)) = cnt (grp m 0 (tile t)) 0 :=
  word_eq m t 0 _ _ (off2_val t 0)
theorem word1 (t : Fin grid0.N) : BitVec.toNat (word (tbl m) (k0_off2 (grid0.coords t) 1#32) (k0_off2_inb (grid0.coords t) 1)) = cnt (grp m 0 (tile t)) 1 :=
  word_eq m t 1 _ _ (off2_val t 1)
theorem word2 (t : Fin grid0.N) : BitVec.toNat (word (tbl m) (k0_off2 (grid0.coords t) 2#32) (k0_off2_inb (grid0.coords t) 2)) = cnt (grp m 0 (tile t)) 2 :=
  word_eq m t 2 _ _ (off2_val t 2)
theorem word3 (t : Fin grid0.N) : BitVec.toNat (word (tbl m) (k0_off3 (grid0.coords t)) (k0_off3_inb (grid0.coords t))) = cnt (grp m 0 (tile t)) (t.val % 4) :=
  word_eq m t ⟨t.val % 4, by omega⟩ _ _ (off3_val t)

/-- The host's table allows every step, whatever groups the tokens chose. -/
theorem allowed (t : Fin grid0.N) : Allowed (grid0.coords t) (tbl m) := by
  have h0 := cnt_le (grp m 0 (tile t)) 0
  have h1 := cnt_le (grp m 0 (tile t)) 1
  have h2 := cnt_le (grp m 0 (tile t)) 2
  have h3 := cnt_le (grp m 0 (tile t)) (t.val % 4)
  have hs := cnt_sum (grp m 0 (tile t))
  constructor
  · rw [word0, word1, word2, word3]
    exact ⟨h0, h1, h2, h3⟩
  · rw [word0, word1, word2, word3, coord1]
    intro k hk
    unfold base up at *
    have : t.val % 4 = 0 ∨ t.val % 4 = 1 ∨ t.val % 4 = 2 ∨ t.val % 4 = 3 := by omega
    rcases this with h | h | h | h <;> rw [h] at hk h3 ⊢ <;> simp <;> omega

end Cert.Proof.Moe

end
-- ==== Proof.Moe.Rank.lean ====
/-
  Running counts by doubling: after the rotations by 1, 2, 4, …, 512 every lane holds how many lanes up to it have the mark. And the rows that
  tokens of the four groups go to: a group's rows start at a whole chunk, a token's row follows those of the group's tokens before it.
-/
module

public import proofs.«01_k».proof.Proof.Moe.Counts

@[expose] public section

noncomputable section

namespace Cert.Proof.Moe

open Idealize.ShloMosaic Idealize.ShloMosaic.TcCoe Cert.Kernel2Ideal Cert.Kernel2Ideal.Gen

/-- The marks on the `d` lanes that end in lane `j`. -/
def tail (a : ℕ → ℕ) (d j : ℕ) : ℕ := ∑ k ∈ Finset.range d, if k ≤ j then a (j - k) else 0

theorem tail_one (a : ℕ → ℕ) (j : ℕ) : tail a 1 j = a j := by simp [tail]

theorem tail_double (a : ℕ → ℕ) (d j : ℕ) : tail a (d + d) j = tail a d j + if d ≤ j then tail a d (j - d) else 0 := by
  unfold tail
  rw [Finset.sum_range_add]
  congr 1
  split
  · rename_i h
    refine Finset.sum_congr rfl fun k _ => ?_
    by_cases hk : d + k ≤ j
    · rw [if_pos hk, if_pos (by omega)]; congr 1; omega
    · rw [if_neg hk, if_neg (by omega)]
  · rename_i h
    exact Finset.sum_eq_zero fun k _ => if_neg (by omega)

/-- One doubling. -/
theorem stage (a : ℕ → ℕ) (r : Fin 8) (d : ℕ) (hd : d < 1024) (f : IVec S8x1024 32)
    (h : ∀ j : Fin 1024, f (ix2 r j) = BitVec.ofNat 32 (tail a d j.val)) (j : Fin 1024) :
    addi f (select (cmpi .sge (iota .tc S8x1024 32 [1] iota_S8x1024_d1_w32) (broadcast S8x1024 (BitVec.ofNat 32 d)))
      (dynamicRotate 1 (BitVec.ofNat 32 d) none f rotates_S8x1024_d1) (broadcast S8x1024 0#32)) (ix2 r j) = BitVec.ofNat 32 (tail a (d + d) j.val) := by
  pointwise []
  rw [tail_double, h]
  have e : IntOp.cmpi .sge (BitVec.ofNat 32 j.val) (BitVec.ofNat 32 d) = BitVec.ofBool (decide (d ≤ j.val)) := by
    rw [WordCmp.cmpi_sge_eq, WordCmp.toInt_ofNat_of_lt (by omega), WordCmp.toInt_ofNat_of_lt (by omega)]
    simp only [Nat.cast_le]
  rw [e, BitVec.ofNat_add]
  by_cases hj : d ≤ j.val
  · rw [decide_eq_true hj, if_pos hj]
    refine congrArg _ ((congrArg f ?_).trans (h ⟨j.val - d, by omega⟩))
    refine congrArg (ix2 r) (Fin.ext ?_)
    have : (BitVec.ofNat 32 d).toNat = d := by rw [BitVec.toNat_ofNat]; omega
    show (j.val + 1024 - (BitVec.ofNat 32 d).toNat % 1024) % 1024 = j.val - d
    rw [this]; omega
  · rw [decide_eq_false hj, if_neg hj]; rfl

/-- How many tokens of group `g` come before token `j`. -/
def rk (γ : Fin 1024 → BitVec 32) (g : ℕ) (j : Fin 1024) : ℕ := (Finset.univ.filter fun k : Fin 1024 => k < j ∧ γ k = BitVec.ofNat 32 g).card

/-- And up to it. -/
def rk' (γ : Fin 1024 → BitVec 32) (g : ℕ) (j : Fin 1024) : ℕ := (Finset.univ.filter fun k : Fin 1024 => k ≤ j ∧ γ k = BitVec.ofNat 32 g).card

theorem rk'_eq (γ : Fin 1024 → BitVec 32) (g : ℕ) (j : Fin 1024) (h : γ j = BitVec.ofNat 32 g) : rk' γ g j = rk γ g j + 1 := by
  unfold rk rk'
  rw [← Finset.card_insert_of_notMem (a := j) (by simp)]
  congr 1
  ext k
  simp only [Finset.mem_filter, Finset.mem_univ, true_and, Finset.mem_insert]
  constructor
  · rintro ⟨h1, h2⟩
    rcases eq_or_lt_of_le h1 with e | e
    · exact .inl e
    · exact .inr ⟨e, h2⟩
  · rintro (e | ⟨h1, h2⟩)
    · subst e; exact ⟨le_rfl, h⟩
    · exact ⟨h1.le, h2⟩

theorem rk_lt (γ : Fin 1024 → BitVec 32) (g : ℕ) (j : Fin 1024) (h : γ j = BitVec.ofNat 32 g) : rk γ g j < cnt γ g := by
  have e := rk'_eq γ g j h
  have : rk' γ g j ≤ cnt γ g := Finset.card_le_card fun k hk => by
    simp only [Finset.mem_filter, Finset.mem_univ, true_and] at hk ⊢; exact hk.2
  omega

theorem rk_strict (γ : Fin 1024 → BitVec 32) (g : ℕ) (i j : Fin 1024) (h : γ i = BitVec.ofNat 32 g) (hij : i < j) : rk γ g i < rk γ g j := by
  have e := rk'_eq γ g i h
  have : rk' γ g i ≤ rk γ g j := Finset.card_le_card fun k hk => by
    simp only [Finset.mem_filter, Finset.mem_univ, true_and] at hk ⊢; exact ⟨lt_of_le_of_lt hk.1 hij, hk.2⟩
  omega

/-- All the marks up to a lane are its running count. -/
theorem tail_all (γ : Fin 1024 → BitVec 32) (g : ℕ) (j : Fin 1024) :
    tail (fun i => if h : i < 1024 then (if γ ⟨i, h⟩ = BitVec.ofNat 32 g then 1 else 0) else 0) 1024 j.val = rk' γ g j := by
  unfold tail rk'
  rw [Finset.card_filter, Finset.sum_ite, Finset.sum_const_zero, add_zero]
  rw [← Finset.sum_filter_add_sum_filter_not Finset.univ (fun k : Fin 1024 => k ≤ j)]
  have z : (∑ x ∈ (Finset.univ : Finset (Fin 1024)).filter (fun k => ¬ k ≤ j), if x ≤ j ∧ γ x = BitVec.ofNat 32 g then 1 else 0) = 0 :=
    Finset.sum_eq_zero fun k hk => if_neg fun h => (Finset.mem_filter.1 hk).2 h.1
  rw [z, add_zero]
  refine Finset.sum_bij' (fun k hk => (⟨j.val - k, by omega⟩ : Fin 1024)) (fun k _ => j.val - k.val) ?_ ?_ ?_ ?_ ?_
  · intro k hk
    simp only [Finset.mem_filter, Finset.mem_univ, true_and, Finset.mem_range] at hk ⊢
    show j.val - k ≤ j.val
    omega
  · intro k hk
    simp only [Finset.mem_filter, Finset.mem_univ, true_and, Finset.mem_range] at hk ⊢
    omega
  · intro k hk
    simp only [Finset.mem_filter, Finset.mem_univ, true_and, Finset.mem_range] at hk ⊢
    omega
  · intro k hk
    simp only [Finset.mem_filter, Finset.mem_univ, true_and, Finset.mem_range] at hk ⊢
    refine Fin.ext ?_
    show j.val - (j.val - k.val) = k.val
    have : k.val ≤ j.val := hk
    omega
  · intro k hk
    simp only [Finset.mem_filter, Finset.mem_range] at hk
    have : j.val - k < 1024 := by omega
    refine (dif_pos this).trans ?_
    have l : (⟨j.val - k, this⟩ : Fin 1024) ≤ j := by show j.val - k ≤ j.val; omega
    by_cases h : γ ⟨j.val - k, this⟩ = BitVec.ofNat 32 g
    · rw [if_pos h, if_pos ⟨l, h⟩]
    · rw [if_neg h, if_neg fun q => h q.2]

/-- The row of token `j`, of group `g`. -/
def slotN (γ : Fin 1024 → BitVec 32) (g : ℕ) (j : Fin 1024) : ℕ := base g (cnt γ 0) (cnt γ 1) (cnt γ 2) + rk γ g j

theorem up_ge (n : ℕ) : n ≤ 128 * up n := by unfold up; omega

theorem up_sum (γ : Fin 1024 → BitVec 32) : 128 * (up (cnt γ 0) + up (cnt γ 1) + up (cnt γ 2) + up (cnt γ 3)) ≤ 1536 := by
  have := cnt_sum γ
  unfold up; omega

theorem base_succ (γ : Fin 1024 → BitVec 32) (g g' : Fin 4) (h : g < g') :
    base g.val (cnt γ 0) (cnt γ 1) (cnt γ 2) + 128 * up (cnt γ g.val) ≤ base g'.val (cnt γ 0) (cnt γ 1) (cnt γ 2) := by
  unfold base
  have hl : g.val < g'.val := h
  have hg : g.val = 0 ∨ g.val = 1 ∨ g.val = 2 ∨ g.val = 3 := by omega
  have hg' : g'.val = 0 ∨ g'.val = 1 ∨ g'.val = 2 ∨ g'.val = 3 := by omega
  rcases hg with e | e | e | e <;> rcases hg' with e' | e' | e' | e' <;> rw [e, e'] at hl ⊢ <;> simp at hl ⊢ <;> omega

theorem base_le (γ : Fin 1024 → BitVec 32) (g : Fin 4) :
    base g.val (cnt γ 0) (cnt γ 1) (cnt γ 2) + 128 * up (cnt γ g.val) ≤ 1536 := by
  have := up_sum γ
  unfold base
  have hg : g.val = 0 ∨ g.val = 1 ∨ g.val = 2 ∨ g.val = 3 := by omega
  rcases hg with e | e | e | e <;> rw [e] <;> simp <;> omega

theorem slotN_lt (γ : Fin 1024 → BitVec 32) (g : Fin 4) (j : Fin 1024) (h : γ j = BitVec.ofNat 32 g.val) : slotN γ g.val j < 1536 := by
  have := base_le γ g
  have := rk_lt γ g.val j h
  have := up_ge (cnt γ g.val)
  unfold slotN; omega

/-- Two tokens have two rows. -/
theorem slotN_inj (γ : Fin 1024 → BitVec 32) (g g' : Fin 4) (i j : Fin 1024) (h : γ i = BitVec.ofNat 32 g.val) (h' : γ j = BitVec.ofNat 32 g'.val)
    (e : slotN γ g.val i = slotN γ g'.val j) : i = j := by
  unfold slotN at e
  have l := rk_lt γ g.val i h
  have l' := rk_lt γ g'.val j h'
  have u := up_ge (cnt γ g.val)
  have u' := up_ge (cnt γ g'.val)
  rcases lt_trichotomy g g' with hg | hg | hg
  · have := base_succ γ g g' hg; omega
  · subst hg
    rcases lt_trichotomy i j with hij | hij | hij
    · have := rk_strict γ g.val i j h hij; omega
    · exact hij
    · have := rk_strict γ g.val j i h' hij; omega
  · have := base_succ γ g' g hg; omega

end Cert.Proof.Moe

end
-- ==== Proof.Moe.Slots.lean ====
/-
  The rows that the kernel's words send a tile's tokens to, and the one-hot matrix of them.
-/
module

public import proofs.«01_k».proof.Proof.Moe.Rank

@[expose] public section

set_option maxRecDepth 16384

noncomputable section

namespace Cert.Proof.Moe

open Idealize.ShloMosaic Idealize.ShloMosaic.TcCoe Cert.Kernel2Ideal Cert.Kernel2Ideal.Gen

variable {F : FTy → Type} [FloatOps F]

/-- The groups of a tile's tokens, as the tile's block holds them. -/
def gOf (x5 : Vec F S1x1024 .i32) (j : Fin 1024) : BitVec 32 := x5 (ix2 0 j)

theorem hot_at (x5 : Vec F S1x1024 .i32) (r : Fin 8) (j : Fin 1024) :
    (k0_pay4 (F := F) x5) (ix2 r j) = if gOf x5 j = BitVec.ofNat 32 r.val then 1#32 else 0#32 := by
  pointwise [k0_pay4]
  rw [WordCmp.cmpi_eq_eq]
  unfold gOf
  by_cases h : x5 (ix2 0 j) = BitVec.ofNat 32 r.val
  · rw [if_pos h, decide_eq_true h]; rfl
  · rw [if_neg h, decide_eq_false h]; rfl

/-- The marks of group `r`. -/
def mark (γ : Fin 1024 → BitVec 32) (g : ℕ) (i : ℕ) : ℕ := if h : i < 1024 then (if γ ⟨i, h⟩ = BitVec.ofNat 32 g then 1 else 0) else 0

theorem cum_at (x5 : Vec F S1x1024 .i32) (r : Fin 8) (j : Fin 1024) : cum x5 (ix2 r j) = BitVec.ofNat 32 (rk' (gOf x5) r.val j) := by
  rw [← tail_all]
  have h0 : ∀ j : Fin 1024, (k0_pay4 (F := F) x5) (ix2 r j) = BitVec.ofNat 32 (tail (mark (gOf x5) r.val) 1 j.val) := fun j => by
    rw [hot_at, tail_one]
    unfold mark
    rw [dif_pos j.isLt]
    split <;> rfl
  have h1 := stage _ r 1 (by omega) _ h0
  have h2 := stage _ r 2 (by omega) _ h1
  have h4 := stage _ r 4 (by omega) _ h2
  have h8 := stage _ r 8 (by omega) _ h4
  have h16 := stage _ r 16 (by omega) _ h8
  have h32 := stage _ r 32 (by omega) _ h16
  have h64 := stage _ r 64 (by omega) _ h32
  have h128 := stage _ r 128 (by omega) _ h64
  have h256 := stage _ r 256 (by omega) _ h128
  have h512 := stage _ r 512 (by omega) _ h256
  exact h512 j

/-- One group's contribution to a token's row, the groups' offset given. -/
theorem term_at (x5 : Vec F S1x1024 .i32) (r : Fin 8) (g : Fin 4) (j : Fin 1024) (hg : gOf x5 j = BitVec.ofNat 32 g.val) (o : BitVec 32) (b : ℕ)
    (ho : o = BitVec.ofNat 32 b) :
    ((k0_pay4 (F := F) x5) (ix2 r j)) * ((cum x5 (ix2 r j)) - 1#32 + o) = if g.val = r.val then BitVec.ofNat 32 (b + rk (gOf x5) r.val j) else 0#32 := by
  rw [hot_at, cum_at, hg]
  by_cases h : g.val = r.val
  · rw [if_pos h, if_pos (by rw [h]), BitVec.one_mul, rk'_eq _ _ _ (by rw [hg, h]), ho, BitVec.ofNat_add, BitVec.ofNat_add]
    rw [BitVec.add_sub_cancel, BitVec.add_comm]
  · have hr : ¬ BitVec.ofNat 32 g.val = BitVec.ofNat 32 r.val := fun e => h (by
      have := congrArg BitVec.toNat e
      rw [BitVec.toNat_ofNat, BitVec.toNat_ofNat] at this
      omega)
    rw [if_neg h, if_neg hr, BitVec.zero_mul]

theorem up_word' (v : BitVec 32) (h : v.toNat ≤ 1024) : Scalar.muli (Scalar.shrui (Scalar.addi v 127#32) 7#32) 128#32 = BitVec.ofNat 32 (128 * up v.toNat) := by
  have u := up_word v h
  have l := up_le _ h
  have m := mul_word u (by omega)
  refine BitVec.eq_of_toNat_eq (m.trans ?_)
  rw [BitVec.toNat_ofNat]; omega

theorem slot_at (i : grid0.Coords) (x2 : Vec F S128 .i32) (x5 : Vec F S1x1024 .i32) (g : Fin 4) (j : Fin 1024) (hg : gOf x5 j = BitVec.ofNat 32 g.val)
    (h : Few (BitVec.toNat (word x2 (k0_off2 i 0#32) (k0_off2_inb i 0))) (BitVec.toNat (word x2 (k0_off2 i 1#32) (k0_off2_inb i 1)))
    (BitVec.toNat (word x2 (k0_off2 i 2#32) (k0_off2_inb i 2))) (BitVec.toNat (word x2 (k0_off3 i) (k0_off3_inb i)))) :
    addi (slotA i x2 x5) (slotB i x2 x5) (ix2 0 j)
      = BitVec.ofNat 32 (base g.val (BitVec.toNat (word x2 (k0_off2 i 0#32) (k0_off2_inb i 0))) (BitVec.toNat (word x2 (k0_off2 i 1#32) (k0_off2_inb i 1)))
          (BitVec.toNat (word x2 (k0_off2 i 2#32) (k0_off2_inb i 2))) + rk (gOf x5) g.val j) := by
  have u0 := up_word' _ h.h0
  have u1 := up_word' _ h.h1
  have u2 := up_word' _ h.h2
  have o1 : Scalar.addi 0#32 (Scalar.muli (Scalar.shrui (Scalar.addi (word x2 (k0_off2 i 0#32) (k0_off2_inb i 0)) 127#32) 7#32) 128#32)
      = BitVec.ofNat 32 (128 * up (BitVec.toNat (word x2 (k0_off2 i 0#32) (k0_off2_inb i 0)))) := by
    rw [u0]; exact BitVec.zero_add _
  have o2 : Scalar.addi (Scalar.addi 0#32 (Scalar.muli (Scalar.shrui (Scalar.addi (word x2 (k0_off2 i 0#32) (k0_off2_inb i 0)) 127#32) 7#32) 128#32))
      (Scalar.muli (Scalar.shrui (Scalar.addi (word x2 (k0_off2 i 1#32) (k0_off2_inb i 1)) 127#32) 7#32) 128#32)
      = BitVec.ofNat 32 (128 * up (BitVec.toNat (word x2 (k0_off2 i 0#32) (k0_off2_inb i 0))) + 128 * up (BitVec.toNat (word x2 (k0_off2 i 1#32) (k0_off2_inb i 1)))) := by
    rw [o1, u1, BitVec.ofNat_add]; rfl
  have o3 : Scalar.addi (Scalar.addi (Scalar.addi 0#32 (Scalar.muli (Scalar.shrui (Scalar.addi (word x2 (k0_off2 i 0#32) (k0_off2_inb i 0)) 127#32) 7#32) 128#32))
      (Scalar.muli (Scalar.shrui (Scalar.addi (word x2 (k0_off2 i 1#32) (k0_off2_inb i 1)) 127#32) 7#32) 128#32))
      (Scalar.muli (Scalar.shrui (Scalar.addi (word x2 (k0_off2 i 2#32) (k0_off2_inb i 2)) 127#32) 7#32) 128#32)
      = BitVec.ofNat 32 (128 * up (BitVec.toNat (word x2 (k0_off2 i 0#32) (k0_off2_inb i 0))) + 128 * up (BitVec.toNat (word x2 (k0_off2 i 1#32) (k0_off2_inb i 1)))
          + 128 * up (BitVec.toNat (word x2 (k0_off2 i 2#32) (k0_off2_inb i 2)))) := by
    rw [o2, u2, BitVec.ofNat_add _ (128 * up (BitVec.toNat (word x2 (k0_off2 i 2#32) (k0_off2_inb i 2))))]; rfl
  have t0 := term_at x5 0 g j hg 0#32 0 rfl
  have t1 := term_at x5 1 g j hg _ _ o1
  have t2 := term_at x5 2 g j hg _ _ o2
  have t3 := term_at x5 3 g j hg _ _ o3
  have e : ∀ w0 w1 w2 : BitVec 32, addi (k0_pay9 (F := F) (k0_pay4 (F := F) x5) (cum x5)
        (k0_pay8 (iota .tc S8x1024 32 [1] iota_S8x1024_d1_w32) (k0_pay4 (F := F) x5) (k0_pay5 (F := F) x5) k0_pay6) w0 w1)
        (k0_pay10 (F := F) (k0_pay4 (F := F) x5) (cum x5) w0 w1 w2) (ix2 0 j)
      = (((0#32 + ((k0_pay4 (F := F) x5) (ix2 0 j)) * ((cum x5 (ix2 0 j)) - 1#32 + 0#32))
      + ((k0_pay4 (F := F) x5) (ix2 1 j)) * ((cum x5 (ix2 1 j)) - 1#32 + Scalar.addi 0#32 (Scalar.muli (Scalar.shrui (Scalar.addi w0 127#32) 7#32) 128#32)))
      + ((k0_pay4 (F := F) x5) (ix2 2 j)) * ((cum x5 (ix2 2 j)) - 1#32 + Scalar.addi (Scalar.addi 0#32 (Scalar.muli (Scalar.shrui (Scalar.addi w0 127#32) 7#32) 128#32)) (Scalar.muli (Scalar.shrui (Scalar.addi w1 127#32) 7#32) 128#32)))
      + ((k0_pay4 (F := F) x5) (ix2 3 j)) * ((cum x5 (ix2 3 j)) - 1#32 + Scalar.addi (Scalar.addi (Scalar.addi 0#32 (Scalar.muli (Scalar.shrui (Scalar.addi w0 127#32) 7#32) 128#32)) (Scalar.muli (Scalar.shrui (Scalar.addi w1 127#32) 7#32) 128#32)) (Scalar.muli (Scalar.shrui (Scalar.addi w2 127#32) 7#32) 128#32)) := by
    intro w0 w1 w2
    pointwise [k0_pay8, k0_pay9, k0_pay10]
    rfl
  refine (e _ _ _).trans ?_
  refine (congrArg₂ (· + ·) (congrArg₂ (· + ·) (congrArg₂ (· + ·) (congrArg (0#32 + ·) t0) t1) t2) t3).trans ?_
  have hc : g.val = 0 ∨ g.val = 1 ∨ g.val = 2 ∨ g.val = 3 := by omega
  unfold base
  rcases hc with q | q | q | q <;> rw [q] <;> simp [Nat.mul_add]

/-- The one-hot matrix of the rows. -/
theorem hotP_at (vA vB : IVec S1x1024 32) (s : Fin 1536) (j : Fin 1024) (n : ℕ) (hn : n < 1536) (h : addi vA vB (ix2 0 j) = BitVec.ofNat 32 n) :
    (k0_pay11 (F := Ideal) vA vB) (ix2 s j) = if s.val = n then (1 : EReal) else 0 := by
  pointwise [k0_pay11]
  have h' : IntOp.addi (vA (ix2 0 j)) (vB (ix2 0 j)) = BitVec.ofNat 32 n := h
  rw [h', WordCmp.cmpi_eq_eq]
  have e0 : decide (BitVec.ofNat 32 s.val = BitVec.ofNat 32 n) = decide (s.val = n) :=
    decide_eq_decide.mpr (WordCmp.ofNat_eq_ofNat_iff (by have := s.isLt; omega) (by omega))
  rw [e0]
  by_cases e : s.val = n
  · rw [if_pos e, decide_eq_true e]
    rfl
  · rw [if_neg e, decide_eq_false e]
    rfl

end Cert.Proof.Moe

end
-- ==== Proof.Moe.Spec.lean ====
/-
  The experts' layer on one token: what each expert adds, their mixture, and the layer norm after it.
-/
module

public import proofs.«01_k».proof.Proof.Attn.Soft

@[expose] public section

noncomputable section

namespace Cert.Proof.Moe

open Idealize.ShloMosaic

/-- A gated unit of an expert: `silu (x · a) * (x · u)`. -/
def act (x a u : Fin 1024 → EReal) : EReal :=
  (∑ k, x k * a k) * Ideal.logistic (∑ k, x k * a k) * ∑ k, x k * u k

/-- What the experts add to a token's channel, each by its combine weight. -/
def mix (x : Fin 1024 → EReal) (w : Fin 16 → EReal) (wg wu : Fin 16 → Fin 1024 → Fin 256 → EReal) (wd : Fin 16 → Fin 256 → Fin 1024 → EReal)
    (d : Fin 1024) : EReal :=
  ∑ e : Fin 16, w e * ∑ f : Fin 256, act x (fun k => wg e k f) (fun k => wu e k f) * wd e f d

/-- The residual's scale. -/
def alpha : EReal := Ideal.ofBits .f32 0x3FB504F3#32

/-- The mean of a row. -/
def mean (z : Fin 1024 → EReal) : EReal := Ideal.div (∑ d, z d) (Ideal.ofBits .f32 0x44800000#32)

/-- The layer norm of a row. -/
def norm (z g b : Fin 1024 → EReal) (d : Fin 1024) : EReal :=
  (z d - mean z) * Ideal.rsqrt (Ideal.div (∑ k, (z k - mean z) * (z k - mean z)) (Ideal.ofBits .f32 0x44800000#32) + Ideal.ofBits .f32 0x3727C5AC#32) * g d + b d

/-- Expert `e` of group `g`. -/
def expert (g e : Fin 4) : Fin 16 := ⟨4 * g.val + e.val, by omega⟩

/-- A token's mixture is its own group's, where the other groups' weights are zero. -/
theorem mix_group (x : Fin 1024 → EReal) (w : Fin 16 → EReal) (wg wu : Fin 16 → Fin 1024 → Fin 256 → EReal) (wd : Fin 16 → Fin 256 → Fin 1024 → EReal)
    (d : Fin 1024) (g : Fin 4) (hw : ∀ e : Fin 16, e.val / 4 ≠ g.val → w e = 0) (h0 : ∀ e, 0 ≤ w e) (ht : ∀ e, w e ≠ ⊤) :
    mix x w wg wu wd d = ∑ e : Fin 4, ∑ f : Fin 256,
      (act x (fun k => wg (expert g e) k f) (fun k => wu (expert g e) k f) * w (expert g e)) * wd (expert g e) f d := by
  unfold mix
  rw [Fin.sum_univ_tiles 4 4 rfl, Finset.sum_eq_single g]
  · refine Finset.sum_congr rfl fun e _ => ?_
    have he : (⟨g.val * 4 + e.val, by omega⟩ : Fin 16) = expert g e := Fin.ext (by show g.val * 4 + e.val = 4 * g.val + e.val; omega)
    rw [he, Attn.mul_sum _ _ (h0 _) (ht _)]
    exact Finset.sum_congr rfl fun f _ => by rw [mul_comm (act _ _ _) (w _), mul_assoc]
  · intro g' _ hg
    refine Finset.sum_eq_zero fun e _ => ?_
    rw [hw _ (by show (g'.val * 4 + e.val) / 4 ≠ g.val; intro q; exact hg (Fin.ext (by omega))), zero_mul]
  · intro h; exact absurd (Finset.mem_univ _) h

/-- A token of the result's rows, among all of them. -/
def row (r : Fin 32768) : Fin 33792 := ⟨r.val, by omega⟩

/-- The layer's result at one token: the layer norm of the scaled residual and the mixture. -/
def moe (x : Fin 1024 → EReal) (w : Fin 16 → EReal) (wg wu : Fin 16 → Fin 1024 → Fin 256 → EReal) (wd : Fin 16 → Fin 256 → Fin 1024 → EReal)
    (lg lb : Fin 1024 → EReal) (d : Fin 1024) : EReal :=
  norm (fun d => alpha * x d + mix x w wg wu wd d) lg lb d

end Cert.Proof.Moe

end
-- ==== Proof.Moe.Blocks.lean ====
/-
  The blocks a grid point works on, read at coordinates of the arguments. Point `t` takes tile `t / 4` of 1024 tokens and group
  `t % 4` of four experts.
-/
module

public import proofs.«01_k».proof.Proof.Moe.Counts
public import proofs.«01_k».proof.Proof.Moe.Slots
public import proofs.«01_k».proof.Proof.Moe.Spec

@[expose] public section

set_option maxRecDepth 16384

noncomputable section

namespace Cert.Proof.Moe

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The arguments. -/
abbrev aH : FVec Ideal S33792x1024 .f32 := m ((c.tc : Thread nD τ).loc main_arg0)
abbrev aC : FVec Ideal S16x33792 .f32 := m ((c.tc : Thread nD τ).loc main_arg1)
abbrev aWg : FVec Ideal S16x1024x256 .f32 := m ((c.tc : Thread nD τ).loc main_arg3)
abbrev aWu : FVec Ideal S16x1024x256 .f32 := m ((c.tc : Thread nD τ).loc main_arg4)
abbrev aWd : FVec Ideal S16x256x1024 .f32 := m ((c.tc : Thread nD τ).loc main_arg5)
abbrev aLg : FVec Ideal S1024 .f32 := m ((c.tc : Thread nD τ).loc main_arg6)
abbrev aLb : FVec Ideal S1024 .f32 := m ((c.tc : Thread nD τ).loc main_arg7)

/-- Token `j` of a tile. -/
def tok (i : Fin 32) (j : Fin 1024) : Fin 33792 := ⟨1024 * i.val + j.val, by omega⟩

/-- The group of a point. -/
def grpOf (t : Fin grid0.N) : Fin 4 := ⟨t.val % 4, Nat.mod_lt _ (by decide)⟩

theorem tr0 : ∀ t : Fin grid0.N, cc0_transform_0 (grid0.coords t) 0 = t.val / 4 ∧ cc0_transform_0 (grid0.coords t) 1 = 0 := by decide +kernel
theorem tr1 : ∀ t : Fin grid0.N, cc0_transform_1 (grid0.coords t) 0 = 0 ∧ cc0_transform_1 (grid0.coords t) 1 = t.val / 4 := by decide +kernel
theorem tr2 : ∀ t : Fin grid0.N, cc0_transform_2 (grid0.coords t) 0 = 0 ∧ cc0_transform_2 (grid0.coords t) 1 = t.val / 4 := by decide +kernel
theorem tr3 : ∀ t : Fin grid0.N, cc0_transform_3 (grid0.coords t) 0 = t.val % 4 ∧ cc0_transform_3 (grid0.coords t) 1 = 0 ∧ cc0_transform_3 (grid0.coords t) 2 = 0 := by decide +kernel
theorem tr4 : ∀ t : Fin grid0.N, cc0_transform_4 (grid0.coords t) 0 = t.val % 4 ∧ cc0_transform_4 (grid0.coords t) 1 = 0 ∧ cc0_transform_4 (grid0.coords t) 2 = 0 := by decide +kernel
theorem tr5 : ∀ t : Fin grid0.N, cc0_transform_5 (grid0.coords t) 0 = t.val % 4 ∧ cc0_transform_5 (grid0.coords t) 1 = 0 ∧ cc0_transform_5 (grid0.coords t) 2 = 0 := by decide +kernel
theorem tr6 : ∀ t : Fin grid0.N, cc0_transform_6 (grid0.coords t) 0 = 0 ∧ cc0_transform_6 (grid0.coords t) 1 = 0 := by decide +kernel
theorem tr7 : ∀ t : Fin grid0.N, cc0_transform_7 (grid0.coords t) 0 = 0 ∧ cc0_transform_7 (grid0.coords t) 1 = 0 := by decide +kernel
theorem tr8 : ∀ t : Fin grid0.N, cc0_transform_8 (grid0.coords t) 0 = t.val / 4 ∧ cc0_transform_8 (grid0.coords t) 1 = 0 := by decide +kernel

theorem blk0 (t : Fin grid0.N) (j d : Fin 1024) : (iblk m c 0 t : FVec Ideal S1024x1024 .f32) (ix2 j d) = aH m c (ix2 (tok (tile t) j) d) := by
  have h : (iblk m c 0 t : FVec Ideal S1024x1024 .f32) (ix2 j d) = (V m c main_arg0 : FVec Ideal S33792x1024 .f32) (ix2 (tok (tile t) j) d) := by
    refine congrArg (V m c main_arg0) (funext fun a => Fin.ext ?_)
    fin_cases a
    · show cc0_transform_0 (grid0.coords t) 0 * 1024 + 1 * j.val = 1024 * (t.val / 4) + j.val
      rw [(tr0 t).1]; omega
    · show cc0_transform_0 (grid0.coords t) 1 * 1024 + 1 * d.val = d.val
      rw [(tr0 t).2]; omega
  rw [h, V_arg0]

theorem blk1 (t : Fin grid0.N) (l : Fin 16) (j : Fin 1024) : (iblk m c 1 t : FVec Ideal S16x1024 .f32) (ix2 l j) = aC m c (ix2 l (tok (tile t) j)) := by
  have h : (iblk m c 1 t : FVec Ideal S16x1024 .f32) (ix2 l j) = (V m c main_arg1 : FVec Ideal S16x33792 .f32) (ix2 l (tok (tile t) j)) := by
    refine congrArg (V m c main_arg1) (funext fun a => Fin.ext ?_)
    fin_cases a
    · show cc0_transform_1 (grid0.coords t) 0 * 16 + 1 * l.val = l.val
      rw [(tr1 t).1]; omega
    · show cc0_transform_1 (grid0.coords t) 1 * 1024 + 1 * j.val = 1024 * (t.val / 4) + j.val
      rw [(tr1 t).2]; omega
  rw [h, V_arg1]

theorem blk2 (t : Fin grid0.N) : gOf (F := Ideal) (iblk m c 2 t) = grp m c (tile t) := by
  funext j
  have h : (iblk m c 2 t : Vec Ideal S1x1024 .i32) (ix2 0 j) = (V m c main_arg2 : Vec Ideal S1x33792 .i32) (ix2 0 (tok (tile t) j)) := by
    refine congrArg (V m c main_arg2) (funext fun a => Fin.ext ?_)
    fin_cases a
    · show cc0_transform_2 (grid0.coords t) 0 * 1 + 1 * 0 = 0
      rw [(tr2 t).1]
    · show cc0_transform_2 (grid0.coords t) 1 * 1024 + 1 * j.val = 1024 * (t.val / 4) + j.val
      rw [(tr2 t).2]; omega
  refine h.trans ?_
  rw [V_arg2]; rfl

theorem blk3 (t : Fin grid0.N) (e : Fin 4) (k : Fin 1024) (f : Fin 256) :
    (iblk m c 3 t : FVec Ideal S4x1024x256 .bf16) (ix3 e k f) = aWg m c (ix3 (expert (grpOf t) e) k f) := by
  have h : (iblk m c 3 t : FVec Ideal S4x1024x256 .bf16) (ix3 e k f) = (V m c main_v0 : FVec Ideal S16x1024x256 .bf16) (ix3 (expert (grpOf t) e) k f) := by
    refine congrArg (V m c main_v0) (funext fun a => Fin.ext ?_)
    fin_cases a
    · show cc0_transform_3 (grid0.coords t) 0 * 4 + 1 * e.val = 4 * (t.val % 4) + e.val
      rw [(tr3 t).1]; omega
    · show cc0_transform_3 (grid0.coords t) 1 * 1024 + 1 * k.val = k.val
      rw [(tr3 t).2.1]; omega
    · show cc0_transform_3 (grid0.coords t) 2 * 256 + 1 * f.val = f.val
      rw [(tr3 t).2.2]; omega
  rw [h, V_v0]; rfl

theorem blk4 (t : Fin grid0.N) (e : Fin 4) (k : Fin 1024) (f : Fin 256) :
    (iblk m c 4 t : FVec Ideal S4x1024x256 .bf16) (ix3 e k f) = aWu m c (ix3 (expert (grpOf t) e) k f) := by
  have h : (iblk m c 4 t : FVec Ideal S4x1024x256 .bf16) (ix3 e k f) = (V m c main_v1 : FVec Ideal S16x1024x256 .bf16) (ix3 (expert (grpOf t) e) k f) := by
    refine congrArg (V m c main_v1) (funext fun a => Fin.ext ?_)
    fin_cases a
    · show cc0_transform_4 (grid0.coords t) 0 * 4 + 1 * e.val = 4 * (t.val % 4) + e.val
      rw [(tr4 t).1]; omega
    · show cc0_transform_4 (grid0.coords t) 1 * 1024 + 1 * k.val = k.val
      rw [(tr4 t).2.1]; omega
    · show cc0_transform_4 (grid0.coords t) 2 * 256 + 1 * f.val = f.val
      rw [(tr4 t).2.2]; omega
  rw [h, V_v1]; rfl

theorem blk5 (t : Fin grid0.N) (e : Fin 4) (f : Fin 256) (d : Fin 1024) :
    (iblk m c 5 t : FVec Ideal S4x256x1024 .bf16) (ix3 e f d) = aWd m c (ix3 (expert (grpOf t) e) f d) := by
  have h : (iblk m c 5 t : FVec Ideal S4x256x1024 .bf16) (ix3 e f d) = (V m c main_v2 : FVec Ideal S16x256x1024 .bf16) (ix3 (expert (grpOf t) e) f d) := by
    refine congrArg (V m c main_v2) (funext fun a => Fin.ext ?_)
    fin_cases a
    · show cc0_transform_5 (grid0.coords t) 0 * 4 + 1 * e.val = 4 * (t.val % 4) + e.val
      rw [(tr5 t).1]; omega
    · show cc0_transform_5 (grid0.coords t) 1 * 256 + 1 * f.val = f.val
      rw [(tr5 t).2.1]; omega
    · show cc0_transform_5 (grid0.coords t) 2 * 1024 + 1 * d.val = d.val
      rw [(tr5 t).2.2]; omega
  rw [h, V_v2]; rfl

theorem blk6 (t : Fin grid0.N) (d : Fin 1024) : (iblk m c 6 t : FVec Ideal S1x1024 .f32) (ix2 0 d) = aLg m c (ix1 d) := by
  have h : (iblk m c 6 t : FVec Ideal S1x1024 .f32) (ix2 0 d) = (V m c main_v3 : FVec Ideal S1x1024 .f32) (ix2 0 d) := by
    refine congrArg (V m c main_v3) (funext fun a => Fin.ext ?_)
    fin_cases a
    · show cc0_transform_6 (grid0.coords t) 0 * 1 + 1 * 0 = 0
      rw [(tr6 t).1]
    · show cc0_transform_6 (grid0.coords t) 1 * 1024 + 1 * d.val = d.val
      rw [(tr6 t).2]; omega
  rw [h, V_v3]
  pointwise []

theorem blk7 (t : Fin grid0.N) (d : Fin 1024) : (iblk m c 7 t : FVec Ideal S1x1024 .f32) (ix2 0 d) = aLb m c (ix1 d) := by
  have h : (iblk m c 7 t : FVec Ideal S1x1024 .f32) (ix2 0 d) = (V m c main_v4 : FVec Ideal S1x1024 .f32) (ix2 0 d) := by
    refine congrArg (V m c main_v4) (funext fun a => Fin.ext ?_)
    fin_cases a
    · show cc0_transform_7 (grid0.coords t) 0 * 1 + 1 * 0 = 0
      rw [(tr7 t).1]
    · show cc0_transform_7 (grid0.coords t) 1 * 1024 + 1 * d.val = d.val
      rw [(tr7 t).2]; omega
  rw [h, V_v4]
  pointwise []

end Cert.Proof.Moe

end
-- ==== Proof.Moe.Chunk.lean ====
/-
  A chunk of rows at a row and a channel: the group's four experts, each by the row's combine weight.
-/
module

public import proofs.«01_k».proof.Proof.Moe.Body
public import proofs.«01_k».proof.Proof.Moe.Spec
public import Idealize.ShloMosaic.Lib.Pointwise
public import Idealize.ShloMosaic.Lib.WordCmp

@[expose] public section

set_option maxRecDepth 16384

noncomputable section

namespace Cert.Proof.Moe

open Idealize.ShloMosaic Idealize.ShloMosaic.TcCoe Cert.Kernel2Ideal Cert.Kernel2Ideal.Gen

/-- The lane of an expert's weight, found by its number. -/
theorem lane_sum (g e : Fin 4) (c : BitVec 32) (hc : c = BitVec.ofNat 32 (4 * g.val + e.val)) (f : Fin 128 → EReal) :
    ∑ l : Fin 128, Scalar.select (IntOp.cmpi .eq (BitVec.ofNat 32 l.val) c) (f l) 0 = f ⟨4 * g.val + e.val, by omega⟩ := by
  subst hc
  have q : ∀ l : Fin 128, IntOp.cmpi .eq (BitVec.ofNat 32 l.val) (BitVec.ofNat 32 (4 * g.val + e.val)) = BitVec.ofBool (decide (l.val = 4 * g.val + e.val)) := fun l => by
    rw [WordCmp.cmpi_eq_eq]
    exact congrArg BitVec.ofBool (decide_eq_decide.mpr (WordCmp.ofNat_eq_ofNat_iff (by omega) (by omega)))
  rw [Finset.sum_eq_single (⟨4 * g.val + e.val, by omega⟩ : Fin 128)]
  · rw [q, decide_eq_true rfl]; rfl
  · intro l _ hl
    rw [q, decide_eq_false fun h => hl (Fin.ext h)]; rfl
  · intro h; exact absurd (Finset.mem_univ _) h

theorem expert_word (g e : Fin 4) : Scalar.addi (Scalar.muli (BitVec.ofNat 32 g.val) 4#32) (BitVec.ofNat 32 e.val) = BitVec.ofNat 32 (4 * g.val + e.val) := by
  revert g e; decide

/-- A slab of a group's weights. -/
theorem slab_at (w : FVec Ideal S4x1024x256 .bf16) (e : Fin 4) (h) (k : Fin 1024) (f : Fin 256) : slab w e.val h (ix3 0 k f) = w (ix3 e k f) := by
  unfold slab
  refine congrArg w (funext fun i => Fin.ext ?_)
  fin_cases i
  · show e.val + 1 * 0 = e.val; omega
  · show 0 + 1 * k.val = k.val; omega
  · show 0 + 1 * f.val = f.val; omega

section
variable (g : Fin 4) (x : FVec Ideal S128x1024 .bf16) (cw : FVec Ideal S128x128 .f32) (wg wu : FVec Ideal S1x1024x256 .bf16) (r : Fin 128) (f : Fin 256)

theorem unit0 : (k0_pay16 (F := Ideal) (BitVec.ofNat 32 g.val) lanes x cw wg wu) (ix2 r f)
    = act (fun k => x (ix2 r k)) (fun k => wg (ix3 0 k f)) (fun k => wu (ix3 0 k f)) * cw (ix2 r ⟨4 * g.val + (0 : Fin 4).val, by omega⟩) := by
  pointwise [k0_pay16, lanes]
  refine congrArg _ (lane_sum g 0 _ (expert_word g 0) (fun l => cw (ix2 r l)))

theorem unit1 : (k0_pay18 (F := Ideal) (BitVec.ofNat 32 g.val) lanes cw (k0_pay17 (F := Ideal) x wg wu)) (ix2 r f)
    = act (fun k => x (ix2 r k)) (fun k => wg (ix3 0 k f)) (fun k => wu (ix3 0 k f)) * cw (ix2 r ⟨4 * g.val + (1 : Fin 4).val, by omega⟩) := by
  pointwise [k0_pay18, k0_pay17, lanes]
  refine congrArg _ (lane_sum g 1 _ (expert_word g 1) (fun l => cw (ix2 r l)))

theorem unit2 : (k0_pay19 (F := Ideal) (BitVec.ofNat 32 g.val) lanes x cw wg wu) (ix2 r f)
    = act (fun k => x (ix2 r k)) (fun k => wg (ix3 0 k f)) (fun k => wu (ix3 0 k f)) * cw (ix2 r ⟨4 * g.val + (2 : Fin 4).val, by omega⟩) := by
  pointwise [k0_pay19, lanes]
  refine congrArg _ (lane_sum g 2 _ (expert_word g 2) (fun l => cw (ix2 r l)))
end

/-- Four pieces of 256 channels one after another. -/
theorem four_of (A B C D : Fin 256 → EReal) (P : Fin 4 → Fin 256 → EReal) (hA : ∀ f, A f = P 0 f) (hB : ∀ f, B f = P 1 f) (hC : ∀ f, C f = P 2 f)
    (hD : ∀ f, D f = P 3 f) (l : ℕ) (e : Fin 4) (f : Fin 256) (hl : l = e.val * 256 + f.val) :
    (if h : l < 256 then A ⟨l, h⟩ else if h : l - 256 < 256 then B ⟨l - 256, h⟩
      else if h : l - 256 - 256 < 256 then C ⟨l - 256 - 256, h⟩ else D ⟨l - 256 - 256 - 256, by omega⟩) = P e f := by
  subst hl
  obtain ⟨j, hj⟩ := e
  have hj' : j = 0 ∨ j = 1 ∨ j = 2 ∨ j = 3 := by omega
  rcases hj' with rfl | rfl | rfl | rfl
  · rw [dif_pos (by show 0 * 256 + f.val < 256; omega)]
    exact (hA _).trans (congrArg (P 0) (Fin.ext (by show 0 * 256 + f.val = f.val; omega)))
  · rw [dif_neg (by show ¬ 1 * 256 + f.val < 256; omega), dif_pos (by show 1 * 256 + f.val - 256 < 256; omega)]
    exact (hB _).trans (congrArg (P 1) (Fin.ext (by show 1 * 256 + f.val - 256 = f.val; omega)))
  · rw [dif_neg (by show ¬ 2 * 256 + f.val < 256; omega), dif_neg (by show ¬ 2 * 256 + f.val - 256 < 256; omega),
      dif_pos (by show 2 * 256 + f.val - 256 - 256 < 256; omega)]
    exact (hC _).trans (congrArg (P 2) (Fin.ext (by show 2 * 256 + f.val - 256 - 256 = f.val; omega)))
  · rw [dif_neg (by show ¬ 3 * 256 + f.val < 256; omega), dif_neg (by show ¬ 3 * 256 + f.val - 256 < 256; omega),
      dif_neg (by show ¬ 3 * 256 + f.val - 256 - 256 < 256; omega)]
    exact (hD _).trans (congrArg (P 3) (Fin.ext (by show 3 * 256 + f.val - 256 - 256 - 256 = f.val; omega)))

/-- An expert's units, its weights read in the group's. -/
theorem act_slab (x : Fin 1024 → EReal) (wg wu : FVec Ideal S4x1024x256 .bf16) (e : Fin 4) (h h') (f : Fin 256) :
    act x (fun k => slab wg e.val h (ix3 0 k f)) (fun k => slab wu e.val h' (ix3 0 k f)) = act x (fun k => wg (ix3 e k f)) (fun k => wu (ix3 e k f)) := by
  rw [funext fun k => slab_at wg e h k f, funext fun k => slab_at wu e h' k f]

theorem chunk_at (g : Fin 4) (x : FVec Ideal S128x1024 .bf16) (cw : FVec Ideal S128x128 .f32) (wg wu : FVec Ideal S4x1024x256 .bf16)
    (wd : FVec Ideal S4x256x1024 .bf16) (r : Fin 128) (d : Fin 1024) :
    (chunkV (F := Ideal) (BitVec.ofNat 32 g.val) lanes x cw wg wu wd) (ix2 r d)
      = ∑ e : Fin 4, ∑ f : Fin 256, (act (fun k => x (ix2 r k)) (fun k => wg (ix3 e k f)) (fun k => wu (ix3 e k f))
          * cw (ix2 r ⟨4 * g.val + e.val, by omega⟩)) * wd (ix3 e f d) := by
  pointwise [chunkV, k0_pay1, k0_pay20, k0_pay21]
  rw [Fin.sum_univ_tiles 4 256 rfl]
  refine Finset.sum_congr rfl fun e _ => Finset.sum_congr rfl fun f _ => ?_
  refine congrArg₂ (· * ·) ?_ (congrArg wd ((ix3_inj ..).2 ⟨Fin.ext ?_, Fin.ext ?_, rfl⟩))
  · refine four_of (fun f => (k0_pay16 (F := Ideal) (BitVec.ofNat 32 g.val) lanes x cw (slab wg 0 inb_S4x1024x256_S1x1024x256_0_0_0)
        (slab wu 0 inb_S4x1024x256_S1x1024x256_0_0_0)) (ix2 r f))
      (fun f => (k0_pay18 (F := Ideal) (BitVec.ofNat 32 g.val) lanes cw (k0_pay17 x (slab wg 1 inb_S4x1024x256_S1x1024x256_1_0_0)
        (slab wu 1 inb_S4x1024x256_S1x1024x256_1_0_0))) (ix2 r f))
      (fun f => (k0_pay19 (F := Ideal) (BitVec.ofNat 32 g.val) lanes x cw (slab wg 2 inb_S4x1024x256_S1x1024x256_2_0_0)
        (slab wu 2 inb_S4x1024x256_S1x1024x256_2_0_0)) (ix2 r f))
      (fun f => act (fun k => x (ix2 r k)) (fun k => slab wg 3 inb_S4x1024x256_S1x1024x256_3_0_0 (ix3 0 k f))
          (fun k => slab wu 3 inb_S4x1024x256_S1x1024x256_3_0_0 (ix3 0 k f))
        * ∑ l : Fin 128, Scalar.select (IntOp.cmpi .eq (BitVec.ofNat 32 l.val) (Scalar.addi (Scalar.muli (BitVec.ofNat 32 g.val) 4#32) 3#32)) (cw (ix2 r l)) 0)
      (fun e f => act (fun k => x (ix2 r k)) (fun k => wg (ix3 e k f)) (fun k => wu (ix3 e k f)) * cw (ix2 r ⟨4 * g.val + e.val, by omega⟩))
      (fun f => (unit0 g x cw _ _ r f).trans (congrArg (· * _) (act_slab _ wg wu 0 _ _ f)))
      (fun f => (unit1 g x cw _ _ r f).trans (congrArg (· * _) (act_slab _ wg wu 1 _ _ f)))
      (fun f => (unit2 g x cw _ _ r f).trans (congrArg (· * _) (act_slab _ wg wu 2 _ _ f)))
      (fun f => congrArg₂ (· * ·) (act_slab _ wg wu 3 _ _ f) (lane_sum g 3 _ (expert_word g 3) (fun l => cw (ix2 r l)))) _ e f rfl
  · show (e.val * 256 + f.val) / 256 = e.val; omega
  · show (e.val * 256 + f.val) % 256 = f.val; omega

end Cert.Proof.Moe

end
-- ==== Proof.Moe.Rows.lean ====
/-
  The result rows a step's chunks leave: those of its own range by the chunks, the others as before.
-/
module

public import proofs.«01_k».proof.Proof.Moe.Chunk
public import proofs.«01_k».proof.Proof.Moe.Rank

@[expose] public section

set_option maxRecDepth 16384

noncomputable section

namespace Cert.Proof.Moe

open Idealize.ShloMosaic Idealize.ShloMosaic.TcCoe Cert.Kernel2Ideal Cert.Kernel2Ideal.Gen

variable {F : FTy → Type} [FloatOps F]

/-- A row within the chunks' range. -/
theorem ysN_hit (V : ℕ → FVec F S128x1024 .bf16) (b : ℕ) (y0 : FVec F S1536x1024 .bf16) (n k : ℕ) (hk : k < n) (s : Fin 1536) (r : Fin 128)
    (hs : s.val = b + 128 * k + r.val) (d : Fin 1024) : ysN V b y0 n (ix2 s d) = V k (ix2 r d) := by
  induction n with
  | zero => omega
  | succ n ih =>
    have hr := r.isLt
    by_cases e : k = n
    · subst e
      refine (if_pos (show b + 128 * k ≤ s.val ∧ s.val < b + 128 * k + 128 by omega)).trans (congrArg (V k) ?_)
      refine (ix2_inj ..).2 ⟨Fin.ext ?_, rfl⟩
      show (s.val - (b + 128 * k)) % 128 = r.val
      omega
    · exact (if_neg (show ¬ (b + 128 * n ≤ s.val ∧ s.val < b + 128 * n + 128) by omega)).trans (ih (by omega))

/-- A row outside it. -/
theorem ysN_miss (V : ℕ → FVec F S128x1024 .bf16) (b : ℕ) (y0 : FVec F S1536x1024 .bf16) (n : ℕ) (s : Fin 1536)
    (hs : s.val < b ∨ b + 128 * n ≤ s.val) (d : Fin 1024) : ysN V b y0 n (ix2 s d) = y0 (ix2 s d) := by
  induction n with
  | zero => rfl
  | succ n ih => exact (if_neg (show ¬ (b + 128 * n ≤ s.val ∧ s.val < b + 128 * n + 128) by omega)).trans (ih (by omega))

/-- A token's result row after its own group's step: the group's experts on the token's row. -/
theorem stepY_own (γ : Fin 1024 → BitVec 32) (g : Fin 4) (j : Fin 1024) (hg : γ j = BitVec.ofNat 32 g.val)
    (xs : FVec Ideal S1536x1024 .bf16) (cs : FVec Ideal S1536x128 .f32) (wg wu : FVec Ideal S4x1024x256 .bf16) (wd : FVec Ideal S4x256x1024 .bf16)
    (y0 : FVec Ideal S1536x1024 .bf16) (d : Fin 1024) :
    stepY g.val (cnt γ 0) (cnt γ 1) (cnt γ 2) (cnt γ g.val) xs cs wg wu wd y0 (ix2 ⟨slotN γ g.val j, slotN_lt γ g j hg⟩ d)
      = ∑ e : Fin 4, ∑ f : Fin 256, (act (fun k => xs (ix2 ⟨slotN γ g.val j, slotN_lt γ g j hg⟩ k)) (fun k => wg (ix3 e k f)) (fun k => wu (ix3 e k f))
          * cs (ix2 ⟨slotN γ g.val j, slotN_lt γ g j hg⟩ ⟨4 * g.val + e.val, by omega⟩)) * wd (ix3 e f d) := by
  have hr := rk_lt γ g.val j hg
  have hu := up_ge (cnt γ g.val)
  have hl := slotN_lt γ g j hg
  unfold stepY
  rw [ysN_hit _ _ _ _ (rk γ g.val j / 128) (by omega) _ ⟨rk γ g.val j % 128, Nat.mod_lt _ (by decide)⟩ (by
    show slotN γ g.val j = _ + rk γ g.val j % 128
    unfold slotN; omega), chunk_at]
  have q : ∀ h, (⟨min (base g.val (cnt γ 0) (cnt γ 1) (cnt γ 2) + 128 * (rk γ g.val j / 128) + rk γ g.val j % 128) 1535, h⟩ : Fin 1536)
      = ⟨slotN γ g.val j, slotN_lt γ g j hg⟩ := fun h => Fin.ext (by
    show min _ 1535 = slotN γ g.val j
    unfold slotN at hl ⊢; omega)
  refine Finset.sum_congr rfl fun e _ => Finset.sum_congr rfl fun f _ => ?_
  have ex : ∀ k : Fin 1024, rowsX xs (base g.val (cnt γ 0) (cnt γ 1) (cnt γ 2) + 128 * (rk γ g.val j / 128)) (ix2 ⟨rk γ g.val j % 128, Nat.mod_lt _ (by decide)⟩ k)
      = xs (ix2 ⟨slotN γ g.val j, slotN_lt γ g j hg⟩ k) := fun k => congrArg xs ((ix2_inj ..).2 ⟨q _, rfl⟩)
  have ec : ∀ k : Fin 128, rowsC cs (base g.val (cnt γ 0) (cnt γ 1) (cnt γ 2) + 128 * (rk γ g.val j / 128)) (ix2 ⟨rk γ g.val j % 128, Nat.mod_lt _ (by decide)⟩ k)
      = cs (ix2 ⟨slotN γ g.val j, slotN_lt γ g j hg⟩ k) := fun k => congrArg cs ((ix2_inj ..).2 ⟨q _, rfl⟩)
  rw [ec, funext ex]

/-- And after a later group's: as before it. -/
theorem stepY_later (γ : Fin 1024 → BitVec 32) (g g' : Fin 4) (h : g < g') (j : Fin 1024) (hg : γ j = BitVec.ofNat 32 g.val)
    (xs : FVec F S1536x1024 .bf16) (cs : FVec F S1536x128 .f32) (wg wu : FVec F S4x1024x256 .bf16) (wd : FVec F S4x256x1024 .bf16)
    (y0 : FVec F S1536x1024 .bf16) (d : Fin 1024) :
    stepY g'.val (cnt γ 0) (cnt γ 1) (cnt γ 2) (cnt γ g'.val) xs cs wg wu wd y0 (ix2 ⟨slotN γ g.val j, slotN_lt γ g j hg⟩ d)
      = y0 (ix2 ⟨slotN γ g.val j, slotN_lt γ g j hg⟩ d) := by
  have hr := rk_lt γ g.val j hg
  have hu := up_ge (cnt γ g.val)
  have hb := base_succ γ g g' h
  refine ysN_miss _ _ _ _ _ (Or.inl ?_) d
  show slotN γ g.val j < _
  unfold slotN; omega

end Cert.Proof.Moe

end
-- ==== Proof.Moe.Tiles.lean ====
/-
  A tile's rows, sorted: the row a token is sent to holds its channels, and its combine weights.
-/
module

public import proofs.«01_k».proof.Proof.Moe.Slots
public import proofs.«01_k».proof.Proof.Moe.Spec

@[expose] public section

set_option maxRecDepth 16384

noncomputable section

namespace Cert.Proof.Moe

open Idealize.ShloMosaic Idealize.ShloMosaic.TcCoe Cert.Kernel2Ideal Cert.Kernel2Ideal.Gen

/-- One row of a one-hot product. -/
theorem pick (s : Fin 1024 → ℕ) (hs : Function.Injective s) (f : Fin 1024 → EReal) (j : Fin 1024) :
    ∑ k : Fin 1024, (if s j = s k then (1 : EReal) else 0) * f k = f j := by
  rw [Finset.sum_eq_single j]
  · rw [if_pos rfl, one_mul]
  · intro k _ hk
    rw [if_neg fun e => hk (hs e).symm, zero_mul]
  · intro h; exact absurd (Finset.mem_univ _) h

section
variable (vA vB : IVec S1x1024 32) (s : Fin 1024 → ℕ) (hb : ∀ j, s j < 1536) (h : ∀ j, addi vA vB (ix2 0 j) = BitVec.ofNat 32 (s j))
include h

theorem x_at (hs : Function.Injective s) (x : FVec Ideal S1024x1024 .f32) (j k : Fin 1024) :
    (k0_pay13 (F := Ideal) vA vB x) (ix2 ⟨s j, hb j⟩ k) = x (ix2 j k) := by
  pointwise [k0_pay13]
  refine (Finset.sum_congr rfl fun i _ => congrArg (· * _) (hotP_at vA vB ⟨s j, hb j⟩ i (s i) (hb i) (h i))).trans ?_
  exact pick s hs (fun i => x (ix2 i k)) j

theorem c_at (hs : Function.Injective s) (x : FVec Ideal S16x1024 .f32) (j : Fin 1024) (l : Fin 16) (r : ℝ) (hr : x (ix2 l j) = (r : EReal)) :
    (k0_pay14 (F := Ideal) vA vB x) (ix2 ⟨s j, hb j⟩ ⟨l.val, by omega⟩) = x (ix2 l j) := by
  pointwise [k0_pay14]
  have hp : ∀ i : Fin 1024, (k0_pay11 (F := Ideal) vA vB) (ix2 ⟨s j, hb j⟩ i) = if s j = s i then (1 : EReal) else 0 := fun i =>
    hotP_at vA vB ⟨s j, hb j⟩ i (s i) (hb i) (h i)
  have hl : l.val < 128 := by omega
  simp only [hp, dif_pos hl]
  refine (congrArg₂ (· + ·) (pick s hs (fun i => x (ix2 l i)) j) (pick s hs (fun i => x (ix2 l i) - x (ix2 l i)) j)).trans ?_
  show x (ix2 l j) + (x (ix2 l j) - x (ix2 l j)) = x (ix2 l j)
  rw [hr]
  exact_mod_cast congrArg (fun a : ℝ => (a : EReal)) (by ring : r + (r - r) = r)

/-- Tokens back from their rows. -/
theorem back_at (y : FVec Ideal S1536x1024 .bf16) (j d : Fin 1024) :
    ∑ r : Fin 1536, (k0_pay12 (F := Ideal) vA vB) (ix2 r j) * y (ix2 r d) = y (ix2 ⟨s j, hb j⟩ d) := by
  have e : ∀ r : Fin 1536, (k0_pay12 (F := Ideal) vA vB) (ix2 r j) = if r.val = s j then (1 : EReal) else 0 := fun r => by
    pointwise [k0_pay12]
    exact hotP_at vA vB r j (s j) (hb j) (h j)
  rw [Finset.sum_eq_single (⟨s j, hb j⟩ : Fin 1536)]
  · rw [e, if_pos rfl, one_mul]
  · intro r _ hr
    rw [e, if_neg fun q => hr (Fin.ext q), zero_mul]
  · intro h; exact absurd (Finset.mem_univ _) h
end

/-- The block a tile writes, from its result rows. -/
theorem pay3_at (p y : FVec Ideal S1536x1024 .bf16) (x : FVec Ideal S1024x1024 .f32) (lg lb : FVec Ideal S1x1024 .f32) (j d : Fin 1024) :
    (k0_pay3 (F := Ideal) p y x lg lb) (ix2 j d)
      = norm (fun d => alpha * x (ix2 j d) + ∑ r : Fin 1536, p (ix2 r j) * y (ix2 r d)) (fun d => lg (ix2 0 d)) (fun d => lb (ix2 0 d)) d := by
  pointwise [k0_pay3]
  rfl

end Cert.Proof.Moe

end
-- ==== Proof.Moe.Final.lean ====
/-
  The kernel's result array after the run: the layer of Spec.lean at every token, where every token has a group of the four, its
  combine weights are real and not negative, and those of the other groups' experts are zero.
-/
module

public import proofs.«01_k».proof.Proof.Moe.Blocks
public import proofs.«01_k».proof.Proof.Moe.Rows
public import proofs.«01_k».proof.Proof.Moe.Tiles
public import Idealize.ShloMosaic.Lib.Pipeline.ValueKit
public import Idealize.ShloMosaic.Lib.Pipeline.Covers

@[expose] public section

set_option maxRecDepth 16384

noncomputable section

namespace Cert.Proof.Moe

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

/-- What the routing gives: one group to each token, weights that are real and not negative, zero off the group. -/
structure Routed (c : Dev nD) : Prop where
  group : ∀ r : Fin 33792, ∃ g : Fin 4, gidA m c (ix2 0 r) = BitVec.ofNat 32 g.val ∧ ∀ e : Fin 16, e.val / 4 ≠ g.val → aC m c (ix2 e r) = 0
  pos : ∀ (e : Fin 16) (r : Fin 33792), 0 ≤ aC m c (ix2 e r)
  real : ∀ (e : Fin 16) (r : Fin 33792), ∃ x : ℝ, aC m c (ix2 e r) = (x : EReal)

/-- The points of a tile. -/
theorem pt_at (i : Fin 32) (g : Fin 4) : (pt (4 * i.val + g.val)).val = 4 * i.val + g.val := Nat.mod_eq_of_lt (by omega)

theorem tile_pt (i : Fin 32) (g : Fin 4) : tile (pt (4 * i.val + g.val)) = i := Fin.ext (by
  show (pt (4 * i.val + g.val)).val / 4 = i.val
  rw [pt_at]; omega)

theorem grpOf_pt (i : Fin 32) (g : Fin 4) : grpOf (pt (4 * i.val + g.val)) = g := Fin.ext (by
  show (pt (4 * i.val + g.val)).val % 4 = g.val
  rw [pt_at]; omega)

theorem hd_pt (i : Fin 32) (g : Fin 4) : hd (4 * i.val + g.val) = pt (4 * i.val + (0 : Fin 4).val) := by
  unfold hd; congr 1
  show _ = 4 * i.val + 0
  omega

/-- A token's row, computed at a point, is its slot. -/
theorem slots_at (t : Fin grid0.N) (g : Fin 4) (j : Fin 1024) (hg : grp m 0 (tile t) j = BitVec.ofNat 32 g.val) :
    addi (slotA (grid0.coords t) (tbl m) (iblk m 0 2 t)) (slotB (grid0.coords t) (tbl m) (iblk m 0 2 t)) (ix2 0 j)
      = BitVec.ofNat 32 (slotN (grp m 0 (tile t)) g.val j) := by
  have h := slot_at (F := Ideal) (grid0.coords t) (tbl m) (iblk m 0 2 t) g j (by rw [blk2]; exact hg) (allowed m t).few
  rw [word0, word1, word2, blk2] at h
  exact h

/-- A step of a tile on the result rows. -/
theorem step_at (i : Fin 32) (g : Fin 4) (y0 : FVec Ideal S1536x1024 .bf16) : stepAt m 0 (4 * i.val + g.val) y0
    = stepY g.val (cnt (grp m 0 i) 0) (cnt (grp m 0 i) 1) (cnt (grp m 0 i) 2) (cnt (grp m 0 i) g.val) (xAt m 0 (4 * i.val + g.val)) (cAt m 0 (4 * i.val + g.val))
        (iblk m 0 3 (pt (4 * i.val + g.val))) (iblk m 0 4 (pt (4 * i.val + g.val))) (iblk m 0 5 (pt (4 * i.val + g.val))) y0 := by
  have hg : (pt (4 * i.val + g.val)).val % 4 = g.val := congrArg Fin.val (grpOf_pt i g)
  unfold stepAt stepT
  rw [coord1, word0, word1, word2, word3, tile_pt, hg]

section
variable (i : Fin 32) (gg : Fin 1024 → Fin 4) (hgg : ∀ j, grp m 0 i j = BitVec.ofNat 32 (gg j).val)
include hgg

/-- A token's slot. -/
def slt (j : Fin 1024) : Fin 1536 := ⟨slotN (grp m 0 i) (gg j).val j, slotN_lt _ (gg j) j (hgg j)⟩

theorem slt_inj : Function.Injective fun j => slotN (grp m 0 i) (gg j).val j := fun j k h => slotN_inj _ (gg j) (gg k) j k (hgg j) (hgg k) h

theorem x_row (g : Fin 4) (j k : Fin 1024) : xAt m 0 (4 * i.val + g.val) (ix2 (slt m i gg hgg j) k) = aH m 0 (ix2 (tok i j) k) := by
  unfold xAt tileX
  rw [hd_pt]
  refine (x_at _ _ (fun j => slotN (grp m 0 i) (gg j).val j) (fun j => slotN_lt _ (gg j) j (hgg j)) (fun j => ?_) (slt_inj m i gg hgg) _ j k).trans ?_
  · have h := slots_at m (pt (4 * i.val + (0 : Fin 4).val)) (gg j) j (by rw [tile_pt]; exact hgg j)
    rw [tile_pt] at h; exact h
  · rw [blk0, tile_pt]

theorem c_row (hr : Routed m 0) (g : Fin 4) (j : Fin 1024) (l : Fin 16) :
    cAt m 0 (4 * i.val + g.val) (ix2 (slt m i gg hgg j) ⟨l.val, by omega⟩) = aC m 0 (ix2 l (tok i j)) := by
  unfold cAt tileC
  rw [hd_pt]
  have e : (iblk m 0 1 (pt (4 * i.val + (0 : Fin 4).val)) : FVec Ideal S16x1024 .f32) (ix2 l j) = aC m 0 (ix2 l (tok i j)) := by rw [blk1, tile_pt]
  obtain ⟨r, h⟩ := hr.real l (tok i j)
  refine (c_at _ _ (fun j => slotN (grp m 0 i) (gg j).val j) (fun j => slotN_lt _ (gg j) j (hgg j)) (fun j => ?_) (slt_inj m i gg hgg) _ j l r (e.trans h)).trans e
  have h := slots_at m (pt (4 * i.val + (0 : Fin 4).val)) (gg j) j (by rw [tile_pt]; exact hgg j)
  rw [tile_pt] at h; exact h

/-- A token's result row, after its own group's step. -/
theorem y_own (hr : Routed m 0) (j d : Fin 1024) : yAt m 0 (4 * i.val + (gg j).val) (ix2 (slt m i gg hgg j) d)
    = ∑ e : Fin 4, ∑ f : Fin 256, (act (fun k => aH m 0 (ix2 (tok i j) k)) (fun k => aWg m 0 (ix3 (expert (gg j) e) k f)) (fun k => aWu m 0 (ix3 (expert (gg j) e) k f))
        * aC m 0 (ix2 (expert (gg j) e) (tok i j))) * aWd m 0 (ix3 (expert (gg j) e) f d) := by
  unfold yAt
  rw [step_at]
  refine (stepY_own (grp m 0 i) (gg j) j (hgg j) _ _ _ _ _ _ d).trans (Finset.sum_congr rfl fun e _ => Finset.sum_congr rfl fun f _ => ?_)
  refine congrArg₂ (· * ·) (congrArg₂ (· * ·) ?_ ?_) ?_
  · rw [show (fun k => xAt m 0 (4 * i.val + (gg j).val) (ix2 ⟨slotN (grp m 0 i) (gg j).val j, slotN_lt _ (gg j) j (hgg j)⟩ k)) = fun k => aH m 0 (ix2 (tok i j) k)
        from funext fun k => x_row m i gg hgg (gg j) j k]
    simp only [blk3, blk4, grpOf_pt]
  · exact c_row m i gg hgg hr (gg j) j (expert (gg j) e)
  · rw [blk5, grpOf_pt]

/-- And after the later ones. -/
theorem y_later (j d : Fin 1024) (n : ℕ) (h : (gg j).val ≤ n) (hn : n < 4) :
    yAt m 0 (4 * i.val + n) (ix2 (slt m i gg hgg j) d) = yAt m 0 (4 * i.val + (gg j).val) (ix2 (slt m i gg hgg j) d) := by
  induction n, h using Nat.le_induction with
  | base => rfl
  | succ n h ih =>
    rw [← ih (by omega), ← yBef_succ m 0 (4 * i.val + n) (by omega)]
    show stepAt m 0 (4 * i.val + (⟨n + 1, hn⟩ : Fin 4).val) _ _ = _
    rw [step_at]
    exact stepY_later (grp m 0 i) (gg j) ⟨n + 1, hn⟩ (Fin.lt_def.2 (by show (gg j).val < n + 1; omega)) j (hgg j) _ _ _ _ _ _ d

end

/-- What the result's array holds. -/
def G (c : Dev nD) : FVec Ideal S32768x1024 .f32 := fun i =>
  moe (fun k => aH m c (ix2 (row (i 0)) k)) (fun e => aC m c (ix2 e (row (i 0)))) (fun e k f => aWg m c (ix3 e k f)) (fun e k f => aWu m c (ix3 e k f))
    (fun e f d => aWd m c (ix3 e f d)) (fun d => aLg m c (ix1 d)) (fun d => aLb m c (ix1 d)) (i 1)

/-- A tile's output block. -/
theorem o_at (hr : Routed m 0) (t : Fin grid0.N) (h3 : t.val % 4 = 3) (j d : Fin 1024) :
    oAt m 0 t (ix2 j d) = moe (fun k => aH m 0 (ix2 (tok (tile t) j) k)) (fun e => aC m 0 (ix2 e (tok (tile t) j))) (fun e k f => aWg m 0 (ix3 e k f))
      (fun e k f => aWu m 0 (ix3 e k f)) (fun e f d => aWd m 0 (ix3 e f d)) (fun d => aLg m 0 (ix1 d)) (fun d => aLb m 0 (ix1 d)) d := by
  choose ga hga hz using hr.group
  have hgg : ∀ j, grp m 0 (tile t) j = BitVec.ofNat 32 (ga (tok (tile t) j)).val := fun j => hga (tok (tile t) j)
  have ht : t.val = 4 * (tile t).val + (3 : Fin 4).val := by show t.val = 4 * (t.val / 4) + 3; omega
  have hrow : ∀ d, ∑ r : Fin 1536, pAt m 0 t.val (ix2 r j) * yAt m 0 t.val (ix2 r d)
      = mix (fun k => aH m 0 (ix2 (tok (tile t) j) k)) (fun e => aC m 0 (ix2 e (tok (tile t) j))) (fun e k f => aWg m 0 (ix3 e k f))
      (fun e k f => aWu m 0 (ix3 e k f)) (fun e f d => aWd m 0 (ix3 e f d)) d := fun d => by
    rw [mix_group _ _ _ _ _ d (ga (tok (tile t) j)) (hz _) (fun e => hr.pos e _) (fun e => by
      obtain ⟨x, hx⟩ := hr.real e (tok (tile t) j)
      rw [hx]; exact EReal.coe_ne_top x)]
    rw [ht]
    unfold pAt tileP
    rw [hd_pt]
    refine (back_at _ _ (fun j => slotN (grp m 0 (tile t)) (ga (tok (tile t) j)).val j) (fun j => slotN_lt _ _ j (hgg j)) (fun j => ?_) _ j d).trans ?_
    · have h := slots_at m (pt (4 * (tile t).val + (0 : Fin 4).val)) (ga (tok (tile t) j)) j (by rw [tile_pt]; exact hgg j)
      rw [tile_pt] at h; exact h
    · exact (y_later m (tile t) (fun j => ga (tok (tile t) j)) hgg j d 3 (by have := (ga (tok (tile t) j)).isLt; show (ga (tok (tile t) j)).val ≤ 3; omega) (by decide)).trans
        (y_own m (tile t) (fun j => ga (tok (tile t) j)) hgg hr j d)
  refine (pay3_at _ _ _ _ _ j d).trans ?_
  unfold moe
  refine congrFun (congr (congr (congrArg norm (funext fun d => ?_)) (funext fun d => blk6 m 0 t d)) (funext fun d => blk7 m 0 t d)) d
  exact congrArg₂ (fun a b : EReal => alpha * a + b) (blk0 m 0 t j d) (hrow d)

theorem G_at (t : Fin grid0.N) (hr : Routed m 0) (h3 : t.val % 4 = 3) (j d : Fin 1024) (r : Fin 32768) (h : r.val = 1024 * (t.val / 4) + j.val) :
    oAt m 0 t (ix2 j d) = G m 0 (ix2 r d) := by
  rw [o_at m hr t h3]
  have e : tok (tile t) j = row r := Fin.ext h.symm
  rw [e]; rfl

/-- The flushed blocks cover the result. -/
theorem covers8 : ((cf m).win 8).Covers :=
  ((cf m).win 8).covers_of_index_surj rfl (by show ∀ a : Fin 2, 0 < (![1024, 1024] : Fin 2 → ℕ) a; decide) fun β => by
    have h0 : (β (0 : Fin 2)).val < (32768 + 1024 - 1) / 1024 := (β (0 : Fin 2)).isLt
    have h1 : (β (1 : Fin 2)).val < (1024 + 1024 - 1) / 1024 := (β (1 : Fin 2)).isLt
    refine ⟨pt (4 * (β (0 : Fin 2)).val), ?_⟩
    have hp : (pt (4 * (β (0 : Fin 2)).val)).val = 4 * (β (0 : Fin 2)).val := Nat.mod_eq_of_lt (by omega)
    show ∀ a : Fin 2, cc0_transform_8 (grid0.coords (pt (4 * (β (0 : Fin 2)).val))) a = (β a).val
    intro a
    fin_cases a
    · refine (tr8 _).1.trans ?_
      rw [hp]; show 4 * (β (0 : Fin 2)).val / 4 = (β (0 : Fin 2)).val; omega
    · refine (tr8 _).2.trans ?_
      show 0 = (β (1 : Fin 2)).val; omega

/-- The result's array after the run. -/
theorem final (hr : Routed m 0) : (dat m 0).arrAt 8 (cf m).N = G m 0 := by
  refine (dat m 0).arrAt_eq_of_covers 8 _ (covers8 m) fun t hf y => ?_
  have h3 : t.val % 4 = 3 := by
    by_contra h
    rw [flush_8 m t h] at hf
    exact absurd hf (by decide)
  have y0 : (y (0 : Fin 2)).val < 1024 := (y (0 : Fin 2)).isLt
  have y1 : (y (1 : Fin 2)).val < 1024 := (y (1 : Fin 2)).isLt
  have ht : t.val < 128 := lt_of_lt_of_eq t.isLt N_0
  have e : (((cf m).win 8).blk t).view.emb y = (ix2 ⟨1024 * (t.val / 4) + (y (0 : Fin 2)).val, by omega⟩ ⟨(y (1 : Fin 2)).val, y1⟩ : S32768x1024.Idx) := by
    refine funext fun a => Fin.ext ?_
    fin_cases a
    · show cc0_transform_8 (grid0.coords t) 0 * 1024 + 1 * (y (0 : Fin 2)).val = 1024 * (t.val / 4) + (y (0 : Fin 2)).val
      rw [(tr8 t).1]; omega
    · show cc0_transform_8 (grid0.coords t) 1 * 1024 + 1 * (y (1 : Fin 2)).val = (y (1 : Fin 2)).val
      rw [(tr8 t).2]; omega
  have e' : ((cf m).win 8).xinj ((cf m).grid.coords t) y = (ix2 ⟨(y (0 : Fin 2)).val, y0⟩ ⟨(y (1 : Fin 2)).val, y1⟩ : S1024x1024.Idx) := by
    refine funext fun a => Fin.ext ?_
    fin_cases a <;> rfl
  rw [after_8]
  refine Eq.trans ?_ ((G_at m t hr h3 ⟨(y (0 : Fin 2)).val, y0⟩ ⟨(y (1 : Fin 2)).val, y1⟩ ⟨1024 * (t.val / 4) + (y (0 : Fin 2)).val, by omega⟩ rfl).trans
    (congrArg (G m 0) e.symm))
  exact congrArg (oAt m 0 t) e'

end Cert.Proof.Moe

end
-- ==== Proof.Moe.Ref.lean ====
/-
  The reference's result, read at a token and a channel: the layer norm of the scaled residual and the mixture of all the
  experts.
-/
module

public import proofs.«01_k».proof.Proof.Moe.Spec
public import proofs.«01_k».proof.Proof.Gen.Reference2Ideal.Run
public import Idealize.ShloMosaic.Lib.Pointwise

@[expose] public section

set_option maxRecDepth 16384

noncomputable section

namespace Cert.Proof.Moe

open Idealize.ShloMosaic Idealize.ShloMosaic.TcCoe Idealize.SL.Sem Cert.Reference2Ideal Cert.Reference2Ideal.Gen

/-- One expert's term. -/
def rterm (X : FVec Ideal S32768x1024 .f32) (C : FVec Ideal S32768x16 .f32) (Wg Wu : FVec Ideal S16x1024x256 .f32) (Wd : FVec Ideal S16x256x1024 .f32)
    (n : ℕ) (hc : S32768x16.Slices ![0, n] S32768x1) (hg : S16x1024x256.Slices ![n, 0, 0] S1x1024x256) (hd : S16x256x1024.Slices ![n, 0, 0] S1x256x1024) :
    FVec Ideal S32768x1024 .f32 :=
  mulf (broadcastInDim S32768x1024 ![0, 1] bcast_S32768x1_S32768x1024_0_1 (extractStridedSlice S32768x1 ![0, n] C hc))
    (Host.dotGeneral dot_S32768x256_S256x1024_S32768x1024_1_0_0_1_n_n none
      (mulf (mulf (Host.dotGeneral dot_S32768x1024_S1024x256_S32768x256_1_0_0_1_n_n none X (shapeCast _ (extractStridedSlice S1x1024x256 ![n, 0, 0] Wg hg) shapeCasts_S1x1024x256_S1024x256))
        (Host.divf (broadcastInDim S32768x256 ![] bcast_S_S32768x256 (constant S_ .f32 0x3F800000#32))
          (addf (broadcastInDim S32768x256 ![] bcast_S_S32768x256 (constant S_ .f32 0x3F800000#32))
            (Host.exp (Host.negf (Host.dotGeneral dot_S32768x1024_S1024x256_S32768x256_1_0_0_1_n_n none X (shapeCast _ (extractStridedSlice S1x1024x256 ![n, 0, 0] Wg hg) shapeCasts_S1x1024x256_S1024x256)))))))
        (Host.dotGeneral dot_S32768x1024_S1024x256_S32768x256_1_0_0_1_n_n none X (shapeCast _ (extractStridedSlice S1x1024x256 ![n, 0, 0] Wu hg) shapeCasts_S1x1024x256_S1024x256)))
      (shapeCast _ (extractStridedSlice S1x256x1024 ![n, 0, 0] Wd hd) shapeCasts_S1x256x1024_S256x1024))

theorem rterm_at (X : FVec Ideal S32768x1024 .f32) (C : FVec Ideal S32768x16 .f32) (Wg Wu : FVec Ideal S16x1024x256 .f32) (Wd : FVec Ideal S16x256x1024 .f32)
    (n : ℕ) (hc hg hd) (hn : n < 16) (r : Fin 32768) (d : Fin 1024) :
    rterm X C Wg Wu Wd n hc hg hd (ix2 r d) = C (ix2 r ⟨n, hn⟩)
      * ∑ f : Fin 256, act (fun k => X (ix2 r k)) (fun k => Wg (ix3 ⟨n, hn⟩ k f)) (fun k => Wu (ix3 ⟨n, hn⟩ k f)) * Wd (ix3 ⟨n, hn⟩ f d) := by
  pointwise [rterm]
  rfl

/-- Sixteen terms, added one after another from zero. -/
theorem sum16 (T : Fin 16 → EReal) : ∑ e, T e
    = 0 + T 0 + T 1 + T 2 + T 3 + T 4 + T 5 + T 6 + T 7 + T 8 + T 9 + T 10 + T 11 + T 12 + T 13 + T 14 + T 15 := by
  iterate 16 rw [Fin.sum_univ_castSucc]
  rw [Fin.sum_univ_zero]
  rfl

variable (m : (ℓ : Loc nD τ sig) → Buf (Elt Ideal) ℓ) (c : Dev nD)

/-- The arguments. -/
abbrev rH : FVec Ideal S33792x1024 .f32 := m ((c.tc : Thread nD τ).loc main_arg0)
abbrev rC : FVec Ideal S16x33792 .f32 := m ((c.tc : Thread nD τ).loc main_arg1)
abbrev rWg : FVec Ideal S16x1024x256 .f32 := m ((c.tc : Thread nD τ).loc main_arg3)
abbrev rWu : FVec Ideal S16x1024x256 .f32 := m ((c.tc : Thread nD τ).loc main_arg4)
abbrev rWd : FVec Ideal S16x256x1024 .f32 := m ((c.tc : Thread nD τ).loc main_arg5)
abbrev rG : FVec Ideal S1024 .f32 := m ((c.tc : Thread nD τ).loc main_arg6)
abbrev rB : FVec Ideal S1024 .f32 := m ((c.tc : Thread nD τ).loc main_arg7)

/-- The expert's term, by its number. -/
def termAt (H : FVec Ideal S33792x1024 .f32) (C : FVec Ideal S16x33792 .f32) (Wg Wu : FVec Ideal S16x1024x256 .f32) (Wd : FVec Ideal S16x256x1024 .f32)
    (r : Fin 32768) (d : Fin 1024) (e : Fin 16) : EReal :=
  C (ix2 e (row r)) * ∑ f : Fin 256, act (fun k => H (ix2 (row r) k)) (fun k => Wg (ix3 e k f)) (fun k => Wu (ix3 e k f)) * Wd (ix3 e f d)

theorem v0_at (r : Fin 32768) (k : Fin 1024) : (Value.res_main_v0 (F := Ideal) (StableHlo.launchContents m c) : FVec Ideal S32768x1024 .f32) (ix2 r k) = rH m c (ix2 (row r) k) := by
  have h : (Value.res_main_v0 (F := Ideal) (StableHlo.launchContents m c) : FVec Ideal S32768x1024 .f32)
      = extractStridedSlice S32768x1024 ![0, 0] (rH m c) slices_S33792x1024_S32768x1024_0_0 := rfl
  rw [h]
  pointwise []
  rfl

theorem v2_at (r : Fin 32768) (e : Fin 16) : (Value.res_main_v2 (F := Ideal) (StableHlo.launchContents m c) : FVec Ideal S32768x16 .f32) (ix2 r e) = rC m c (ix2 e (row r)) := by
  have h : (Value.res_main_v2 (F := Ideal) (StableHlo.launchContents m c) : FVec Ideal S32768x16 .f32)
      = transpose S32768x16 [1, 0] (extractStridedSlice S16x32768 ![0, 0] (rC m c) slices_S16x33792_S16x32768_0_0) transposes_S16x32768_S32768x16_1_0 := rfl
  rw [h]
  pointwise []
  rfl

/-- The sum of the residual and the terms, at an index. -/
theorem v246_sum (V0 : Valuation τ sig (Elt Ideal)) (i : S32768x1024.Idx) : (Value.res_main_v246 (F := Ideal) V0 : FVec Ideal S32768x1024 .f32) i
    = alpha * (Value.res_main_v0 V0 : FVec Ideal S32768x1024 .f32) i
      + (Ideal.ofBits .f32 0x00000000#32 + rterm (Value.res_main_v0 V0) (Value.res_main_v2 V0) (V0 (Proc.devRef .tc main_arg3)) (V0 (Proc.devRef .tc main_arg4)) (V0 (Proc.devRef .tc main_arg5)) 0 slices_S32768x16_S32768x1_0_0 slices_S16x1024x256_S1x1024x256_0_0_0 slices_S16x256x1024_S1x256x1024_0_0_0 i
        + rterm (Value.res_main_v0 V0) (Value.res_main_v2 V0) (V0 (Proc.devRef .tc main_arg3)) (V0 (Proc.devRef .tc main_arg4)) (V0 (Proc.devRef .tc main_arg5)) 1 slices_S32768x16_S32768x1_0_1 slices_S16x1024x256_S1x1024x256_1_0_0 slices_S16x256x1024_S1x256x1024_1_0_0 i
        + rterm (Value.res_main_v0 V0) (Value.res_main_v2 V0) (V0 (Proc.devRef .tc main_arg3)) (V0 (Proc.devRef .tc main_arg4)) (V0 (Proc.devRef .tc main_arg5)) 2 slices_S32768x16_S32768x1_0_2 slices_S16x1024x256_S1x1024x256_2_0_0 slices_S16x256x1024_S1x256x1024_2_0_0 i
        + rterm (Value.res_main_v0 V0) (Value.res_main_v2 V0) (V0 (Proc.devRef .tc main_arg3)) (V0 (Proc.devRef .tc main_arg4)) (V0 (Proc.devRef .tc main_arg5)) 3 slices_S32768x16_S32768x1_0_3 slices_S16x1024x256_S1x1024x256_3_0_0 slices_S16x256x1024_S1x256x1024_3_0_0 i
        + rterm (Value.res_main_v0 V0) (Value.res_main_v2 V0) (V0 (Proc.devRef .tc main_arg3)) (V0 (Proc.devRef .tc main_arg4)) (V0 (Proc.devRef .tc main_arg5)) 4 slices_S32768x16_S32768x1_0_4 slices_S16x1024x256_S1x1024x256_4_0_0 slices_S16x256x1024_S1x256x1024_4_0_0 i
        + rterm (Value.res_main_v0 V0) (Value.res_main_v2 V0) (V0 (Proc.devRef .tc main_arg3)) (V0 (Proc.devRef .tc main_arg4)) (V0 (Proc.devRef .tc main_arg5)) 5 slices_S32768x16_S32768x1_0_5 slices_S16x1024x256_S1x1024x256_5_0_0 slices_S16x256x1024_S1x256x1024_5_0_0 i
        + rterm (Value.res_main_v0 V0) (Value.res_main_v2 V0) (V0 (Proc.devRef .tc main_arg3)) (V0 (Proc.devRef .tc main_arg4)) (V0 (Proc.devRef .tc main_arg5)) 6 slices_S32768x16_S32768x1_0_6 slices_S16x1024x256_S1x1024x256_6_0_0 slices_S16x256x1024_S1x256x1024_6_0_0 i
        + rterm (Value.res_main_v0 V0) (Value.res_main_v2 V0) (V0 (Proc.devRef .tc main_arg3)) (V0 (Proc.devRef .tc main_arg4)) (V0 (Proc.devRef .tc main_arg5)) 7 slices_S32768x16_S32768x1_0_7 slices_S16x1024x256_S1x1024x256_7_0_0 slices_S16x256x1024_S1x256x1024_7_0_0 i
        + rterm (Value.res_main_v0 V0) (Value.res_main_v2 V0) (V0 (Proc.devRef .tc main_arg3)) (V0 (Proc.devRef .tc main_arg4)) (V0 (Proc.devRef .tc main_arg5)) 8 slices_S32768x16_S32768x1_0_8 slices_S16x1024x256_S1x1024x256_8_0_0 slices_S16x256x1024_S1x256x1024_8_0_0 i
        + rterm (Value.res_main_v0 V0) (Value.res_main_v2 V0) (V0 (Proc.devRef .tc main_arg3)) (V0 (Proc.devRef .tc main_arg4)) (V0 (Proc.devRef .tc main_arg5)) 9 slices_S32768x16_S32768x1_0_9 slices_S16x1024x256_S1x1024x256_9_0_0 slices_S16x256x1024_S1x256x1024_9_0_0 i
        + rterm (Value.res_main_v0 V0) (Value.res_main_v2 V0) (V0 (Proc.devRef .tc main_arg3)) (V0 (Proc.devRef .tc main_arg4)) (V0 (Proc.devRef .tc main_arg5)) 10 slices_S32768x16_S32768x1_0_10 slices_S16x1024x256_S1x1024x256_10_0_0 slices_S16x256x1024_S1x256x1024_10_0_0 i
        + rterm (Value.res_main_v0 V0) (Value.res_main_v2 V0) (V0 (Proc.devRef .tc main_arg3)) (V0 (Proc.devRef .tc main_arg4)) (V0 (Proc.devRef .tc main_arg5)) 11 slices_S32768x16_S32768x1_0_11 slices_S16x1024x256_S1x1024x256_11_0_0 slices_S16x256x1024_S1x256x1024_11_0_0 i
        + rterm (Value.res_main_v0 V0) (Value.res_main_v2 V0) (V0 (Proc.devRef .tc main_arg3)) (V0 (Proc.devRef .tc main_arg4)) (V0 (Proc.devRef .tc main_arg5)) 12 slices_S32768x16_S32768x1_0_12 slices_S16x1024x256_S1x1024x256_12_0_0 slices_S16x256x1024_S1x256x1024_12_0_0 i
        + rterm (Value.res_main_v0 V0) (Value.res_main_v2 V0) (V0 (Proc.devRef .tc main_arg3)) (V0 (Proc.devRef .tc main_arg4)) (V0 (Proc.devRef .tc main_arg5)) 13 slices_S32768x16_S32768x1_0_13 slices_S16x1024x256_S1x1024x256_13_0_0 slices_S16x256x1024_S1x256x1024_13_0_0 i
        + rterm (Value.res_main_v0 V0) (Value.res_main_v2 V0) (V0 (Proc.devRef .tc main_arg3)) (V0 (Proc.devRef .tc main_arg4)) (V0 (Proc.devRef .tc main_arg5)) 14 slices_S32768x16_S32768x1_0_14 slices_S16x1024x256_S1x1024x256_14_0_0 slices_S16x256x1024_S1x256x1024_14_0_0 i
        + rterm (Value.res_main_v0 V0) (Value.res_main_v2 V0) (V0 (Proc.devRef .tc main_arg3)) (V0 (Proc.devRef .tc main_arg4)) (V0 (Proc.devRef .tc main_arg5)) 15 slices_S32768x16_S32768x1_0_15 slices_S16x1024x256_S1x1024x256_15_0_0 slices_S16x256x1024_S1x256x1024_15_0_0 i) := rfl

theorem v246_at (r : Fin 32768) (d : Fin 1024) :
    (Value.res_main_v246 (F := Ideal) (StableHlo.launchContents m c) : FVec Ideal S32768x1024 .f32) (ix2 r d)
      = alpha * rH m c (ix2 (row r) d) + mix (fun k => rH m c (ix2 (row r) k)) (fun e => rC m c (ix2 e (row r)))
          (fun e k f => rWg m c (ix3 e k f)) (fun e k f => rWu m c (ix3 e k f)) (fun e f d => rWd m c (ix3 e f d)) d := by
  have e : mix (fun k => rH m c (ix2 (row r) k)) (fun e => rC m c (ix2 e (row r)))
          (fun e k f => rWg m c (ix3 e k f)) (fun e k f => rWu m c (ix3 e k f)) (fun e f d => rWd m c (ix3 e f d)) d
        = ∑ e, termAt (rH m c) (rC m c) (rWg m c) (rWu m c) (rWd m c) r d e := rfl
  have t : ∀ (n : ℕ) (hn : n < 16) (hc hg hd), rterm (Value.res_main_v0 (StableHlo.launchContents m c)) (Value.res_main_v2 (StableHlo.launchContents m c))
      (rWg m c) (rWu m c) (rWd m c) n hc hg hd (ix2 r d) = termAt (rH m c) (rC m c) (rWg m c) (rWu m c) (rWd m c) r d ⟨n, hn⟩ := fun n hn hc hg hd => by
    rw [rterm_at _ _ _ _ _ n hc hg hd hn r d, v2_at]
    unfold termAt
    rw [show (fun k => (Value.res_main_v0 (F := Ideal) (StableHlo.launchContents m c) : FVec Ideal S32768x1024 .f32) (ix2 r k)) = fun k => rH m c (ix2 (row r) k)
      from funext fun k => v0_at m c r k]
  rw [v246_sum, e, sum16, v0_at, show Ideal.ofBits .f32 0x00000000#32 = (0 : EReal) from Ideal.ofBits_zero_f32]
  refine congrArg₂ (· + ·) rfl ?_
  iterate 16 refine congrArg₂ (· + ·) ?_ (t _ (by decide) _ _ _)
  rfl

/-- The last layer norm, of any rows. -/
def lnorm (Z : FVec Ideal S32768x1024 .f32) (G B : FVec Ideal S1024 .f32) : FVec Ideal S32768x1024 .f32 :=
  let M := Host.divf (broadcastInDim S32768x1 ![0] bcast_S32768_S32768x1_0 (Host.reduceAdd Z (constant S_ .f32 0x00000000#32) reducesTo_S32768x1024_S32768_d1 h_S_)) (broadcastInDim S32768x1 ![] bcast_S_S32768x1 (constant S_ .f32 0x44800000#32))
  let D := subf Z (broadcastInDim S32768x1024 ![0, 1] bcast_S32768x1_S32768x1024_0_1 M)
  addf (mulf (mulf (subf Z (broadcastInDim S32768x1024 ![0, 1] bcast_S32768x1_S32768x1024_0_1 M)) (broadcastInDim S32768x1024 ![0, 1] bcast_S32768x1_S32768x1024_0_1 (Host.rsqrt (addf (Host.divf (broadcastInDim S32768x1 ![0] bcast_S32768_S32768x1_0 (Host.reduceAdd (mulf D D) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 G))) (broadcastInDim S32768x1024 ![0, 1] bcast_S1x1024_S32768x1024_0_1 (broadcastInDim S1x1024 ![1] bcast_S1024_S1x1024_1 B))

theorem lnorm_at (Z : FVec Ideal S32768x1024 .f32) (G B : FVec Ideal S1024 .f32) (r : Fin 32768) (d : Fin 1024) :
    lnorm Z G B (ix2 r d) = norm (fun d => Z (ix2 r d)) (fun d => G (ix1 d)) (fun d => B (ix1 d)) d := by
  pointwise [lnorm]
  rfl

/-- The reference's result. -/
def res (c : Dev nD) : FVec Ideal S32768x1024 .f32 := lnorm (Value.res_main_v246 (F := Ideal) (StableHlo.launchContents m c)) (rG m c) (rB m c)

theorem res_at (r : Fin 32768) (d : Fin 1024) : res m c (ix2 r d)
    = moe (fun k => rH m c (ix2 (row r) k)) (fun e => rC m c (ix2 e (row r))) (fun e k f => rWg m c (ix3 e k f)) (fun e k f => rWu m c (ix3 e k f))
        (fun e f d => rWd m c (ix3 e f d)) (fun d => rG m c (ix1 d)) (fun d => rB m c (ix1 d)) d := by
  unfold res
  rw [lnorm_at, show (fun d => (Value.res_main_v246 (F := Ideal) (StableHlo.launchContents m c) : FVec Ideal S32768x1024 .f32) (ix2 r d)) = _
    from funext fun d => v246_at m c r d]
  rfl

end Cert.Proof.Moe

end
-- ==== Proof.Moe.Frames.lean ====
/-
  The experts' call's frames: the ideal kernel's from the run, the printed kernel's as the same text at words, and the reference's.
-/
module

public import proofs.«01_k».proof.Defs
public import proofs.«01_k».proof.Proof.Moe.Counts
public import proofs.«01_k».proof.Proof.Gen.Kernel2
public import proofs.«01_k».proof.Proof.Gen.Reference2Ideal.Run

@[expose] public section

noncomputable section

namespace Cert.Proof.Moe

open Idealize.ShloMosaic Idealize.ShloMosaic.TcCoe Idealize.SL.Sem Cert.Kernel2Ideal Cert.Kernel2Ideal.Gen

section
variable {F : FTy → Type} [FloatOps F]
variable (m : (ℓ : Loc nD τ sig) → Buf (Elt F) ℓ) (ρ : Dev nD → PrngReg)

theorem rest (b : Ref sig .tc) (hs : b.isScoped = false) (ha : ∀ w, (spec0 w).arr.view.ref ≠ b) : b ∈ Pipeline.restRefs sig spec0 :=
  Pipeline.mem_restRefs_of b hs ha

/-- Every execution leaves the arguments as they were, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    ⟨((h.1 c).1 0).trans (((dat m c).arrAt_in 0 rfl _).trans (V_arg0 m c)),
      ((h.1 c).1 1).trans (((dat m c).arrAt_in 1 rfl _).trans (V_arg1 m c)),
      ((h.1 c).1 2).trans (((dat m c).arrAt_in 2 rfl _).trans (V_arg2 m c)),
      ((h.1 c).2 main_arg3 (rest main_arg3 rfl (by decide))).trans (V_arg3 m c),
      ((h.1 c).2 main_arg4 (rest main_arg4 rfl (by decide))).trans (V_arg4 m c),
      ((h.1 c).2 main_arg5 (rest main_arg5 rfl (by decide))).trans (V_arg5 m c),
      ((h.1 c).2 main_arg6 (rest main_arg6 rfl (by decide))).trans (V_arg6 m c),
      ((h.1 c).2 main_arg7 (rest main_arg7 rfl (by decide))).trans (V_arg7 m c)⟩, h.2⟩) (run_main m ρ (allowed m))

end

/-- The ideal kernel's frame. -/
theorem frame_ideal : Cert.quiescent_Kernel2Ideal (hKernel2Ideal := Cert.Kernel2Ideal.Gen.facts) := fun m ρ _ => frame m ρ

set_option maxHeartbeats 4000000 in
/-- The two bodies' tables agree. -/
theorem body_eq : Cert.Kernel2Ideal.defs₀ (F := Bits) = Cert.Kernel2.defs₀ (F := Bits) := by
  unfold Cert.Kernel2Ideal.defs₀ Cert.Kernel2.defs₀
  refine congrArg Defs.onTc (funext fun l => funext fun a => ?_)
  match l, a with
  | 0, (t, s) => rfl
  | ⟨n + 1, h⟩, a => exact absurd h (by omega)

/-- And the two programs' tables of procedures. -/
theorem defs_eq : Cert.Kernel2Ideal.defs (F := Bits) = Cert.Kernel2.defs (F := Bits) := by
  unfold Cert.Kernel2Ideal.defs Cert.Kernel2.defs
  exact congrArg _ body_eq

set_option maxHeartbeats 40000000 in
/-- The printed kernel's frame: the run, at words. -/
theorem frame_kernel : Cert.quiescent_Kernel2 (hKernel2 := Cert.Kernel2.Gen.facts) := fun m ρ _ => by
  have h := frame (F := Bits) m ρ
  rw [defs_eq] at h
  exact h

/-- No rule was applied. -/
theorem preserves : Cert.preserves_Kernel2_Kernel2Ideal := trivial

/-- The reference's frame: it runs, and it has no semaphore. -/
theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof.Moe

end
-- ==== Proof.Moe.Algebraic.lean ====
/-
  The value claim: under the precondition that every token has a group and weights that are real, not negative, and zero off the
  group, the kernel's result is the reference's. Also the two frames restated under that precondition, and the side conditions of
  the predicate itself.
-/
module

public import proofs.«01_k».proof.Defs
public import proofs.«01_k».proof.Proof.Moe.Final
public import proofs.«01_k».proof.Proof.Moe.Ref
public import proofs.«01_k».proof.Proof.Moe.Frames
public import Idealize.ShloMosaic.Lib.Claim

@[expose] public section

set_option maxRecDepth 16384

noncomputable section

namespace Cert.Proof.Moe

open Idealize.ShloMosaic Idealize.ShloMosaic.TcCoe Idealize.SL.Sem

/-- The predicate's operations are well formed. -/
theorem routed_facts : Cert.Pre_routed.Facts := ⟨by decide, by decide, by decide⟩

section
open Cert.Pre_routed

/-- A word from 0 to 3 is a group. -/
theorem group_of (v : BitVec 32) (h0 : (0 : ℤ) ≤ v.toInt) (h1 : v.toInt < 4) : ∃ g : Fin 4, v = BitVec.ofNat 32 g.val := by
  have l := v.isLt
  rw [BitVec.toInt_eq_toNat_cond] at h0 h1
  have h : v.toNat < 4 := by split at h0 <;> split at h1 <;> omega
  exact ⟨⟨v.toNat, h⟩, (BitVec.ofNat_toNat 32 v ▸ (BitVec.setWidth_eq v)).symm⟩

/-- The floor quotient of an expert's number, as the predicate computes it. -/
theorem quot : ∀ e : Fin 16, Scalar.select
    (IntOp.andi
      (IntOp.cmpi .ne (if BitVec.ofNat 32 e.val = 0 then (0 : BitVec 32) else if (BitVec.ofNat 32 e.val).msb = true then -1 else 1)
        (if (4#32 : BitVec 32) = 0 then 0 else if (4#32 : BitVec 32).msb = true then -1 else 1))
      (IntOp.cmpi .ne (IntOp.remsi ArithUnit.host (BitVec.ofNat 32 e.val) 4#32) 0#32))
    (IntOp.subi (IntOp.divsi ArithUnit.host (BitVec.ofNat 32 e.val) 4#32) 1#32)
    (IntOp.divsi ArithUnit.host (BitVec.ofNat 32 e.val) 4#32) = BitVec.ofNat 32 (e.val / 4) := by decide

/-- What the predicate says of an expert and a token. -/
theorem routed_at [Cert.Pre_routed.Facts] (A0 : FVec Ideal S33792x1024 .f32) (A1 : FVec Ideal S16x33792 .f32) (A2 : IVec S1x33792 32)
    (A3 A4 : FVec Ideal S16x1024x256 .f32) (A5 : FVec Ideal S16x256x1024 .f32) (A6 A7 : FVec Ideal S1024 .f32)
    (h : Cert.Pre_routed.fn (F := Ideal) A0 A1 A2 A3 A4 A5 A6 A7 = fun _ => 1#1) (e : Fin 16) (r : Fin 33792) :
    ((0 : ℤ) ≤ (A2 (ix2 0 r)).toInt ∧ (A2 (ix2 0 r)).toInt < 4) ∧ (0 : EReal) ≤ A1 (ix2 e r) ∧ A1 (ix2 e r) < (⊤ : EReal)
      ∧ (BitVec.ofNat 32 (e.val / 4) = A2 (ix2 0 r) ∨ A1 (ix2 e r) = (0 : EReal)) := by
  have h' := congrFun h (ix2 e r : S16x33792.Idx)
  pointwise [Cert.Pre_routed.fn, Cert.Pre_routed.fn_part1, Cert.Pre_routed.fn_floor_divide, Cert.Pre_routed.fn_where] at h'
  have h2 : IntOp.andi (IntOp.andi (IntOp.andi (IntOp.andi (IntOp.cmpi .sge (A2 (ix2 0 r)) 0#32) (IntOp.cmpi .slt (A2 (ix2 0 r)) 4#32))
        (BitVec.ofBool (decide ((0 : EReal) ≤ A1 (ix2 e r))))) (BitVec.ofBool (decide (A1 (ix2 e r) < Ideal.ofBits .f32 0x7F800000#32))))
      (IntOp.ori (IntOp.cmpi .eq (BitVec.ofNat 32 (e.val / 4)) (A2 (ix2 0 r))) (BitVec.ofBool (decide (A1 (ix2 e r) = (0 : EReal))))) = 1#1 := by
    rw [← quot e]; exact h'
  clear h'
  rw [WordCmp.cmpi_sge_eq, WordCmp.cmpi_slt_eq, WordCmp.cmpi_eq_eq, WordCmp.andi_ofBool, WordCmp.andi_ofBool, WordCmp.andi_ofBool, WordCmp.ori_ofBool,
    WordCmp.andi_ofBool, WordCmp.ofBool_eq_one_iff] at h2
  simp only [Bool.and_eq_true, Bool.or_eq_true, decide_eq_true_eq] at h2
  obtain ⟨⟨⟨⟨a, b⟩, c⟩, d⟩, f⟩ := h2
  exact ⟨⟨a, b⟩, c, d, f⟩
end

/-- A number from zero below infinity is real. -/
theorem real_of (x : EReal) (h0 : 0 ≤ x) (h1 : x < ⊤) : ∃ r : ℝ, x = (r : EReal) := by
  induction x using EReal.rec with
  | bot => exact absurd h0 (by simp)
  | top => exact absurd h1 (by simp)
  | coe r => exact ⟨r, rfl⟩

section
open Cert.Kernel2Ideal

variable (m : (ℓ : Loc nD τ sig) → Buf (Elt Ideal) ℓ)

/-- The precondition routes. -/
theorem routed [Cert.Pre_routed.Facts] (h : Cert.Pre_routed.fn (F := Ideal) (aH m 0) (aC m 0) (gidA m 0) (aWg m 0) (aWu m 0) (aWd m 0) (aLg m 0) (aLb m 0) = fun _ => 1#1) :
    Routed m 0 where
  group r := by
    have p := fun e => routed_at _ _ _ _ _ _ _ _ h e r
    obtain ⟨g, hg⟩ := group_of _ (p 0).1.1 (p 0).1.2
    refine ⟨g, hg, fun e he => ?_⟩
    refine (p e).2.2.2.resolve_left fun q => he ?_
    have q' := congrArg BitVec.toNat (q.trans hg)
    rw [BitVec.toNat_ofNat, BitVec.toNat_ofNat] at q'
    omega
  pos e r := (routed_at _ _ _ _ _ _ _ _ h e r).2.1
  real e r := real_of _ (routed_at _ _ _ _ _ _ _ _ h e r).2.1 (routed_at _ _ _ _ _ _ _ _ h e r).2.2.1
end

/-- The reference's result is the kernel's array, of equal arguments. -/
theorem ref_eq (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (e0 : rH m' c = aH m c) (e1 : rC m' c = aC m c) (e3 : rWg m' c = aWg m c) (e4 : rWu m' c = aWu m c) (e5 : rWd m' c = aWd m c)
    (e6 : rG m' c = aLg m c) (e7 : rB m' c = aLb m c) : res m' c = G m c := by
  funext i
  have h := res_at m' c (i 0) (i 1)
  rw [e0, e1, e3, e4, e5, e6, e7] at h
  exact (congrArg (res m' c) (eq_ix2 i)).trans h

theorem algebraic : Cert.algebraic_Kernel2Ideal_Reference2Ideal_pre_routed (hKernel2Ideal := Cert.Kernel2Ideal.Gen.facts)
    (hReference2Ideal := Cert.Reference2Ideal.Gen.facts) (hPre_routed := routed_facts) := by
  intro m g m' g' hpre hagree
  haveI := routed_facts
  refine ⟨fun c => G m c, ?_, ?_⟩
  · refine θ_run_mono (θ_run_and (run_main m g (allowed m)) (frame m g)) fun r hr c => ?_
    obtain rfl : c = 0 := Subsingleton.elim _ _
    exact ⟨((hr.1.1 0).1 8).trans (final m (routed m (hpre 0))), hr.2.1 0⟩
  · refine θ_run_mono (Cert.Reference2Ideal.Value.run m' g') fun r hr c => ?_
    obtain ⟨a0, a1, -, a3, a4, a5, a6, a7⟩ := hagree c
    exact ⟨(hr c).1.trans (ref_eq m m' c a0 a1 a3 a4 a5 a6 a7), (hr c).2⟩

/-- The ideal kernel's frame under the precondition. -/
theorem frame_ideal_routed : Cert.quiescent_Kernel2Ideal_pre_routed (hKernel2Ideal := Cert.Kernel2Ideal.Gen.facts) (hPre_routed := routed_facts) :=
  fun m g _ => frame_ideal m g trivial

/-- The reference's. -/
theorem frame_reference_routed : Cert.quiescent_Reference2Ideal_pre_routed (hReference2Ideal := Cert.Reference2Ideal.Gen.facts) (hPre_routed := routed_facts) :=
  fun m g _ => frame_reference m g trivial

end Cert.Proof.Moe

end
-- ==== Proof.Post.Spec.lean ====
/-
  The merge after the attention on one token: the two branches' outputs projected, gated and added, their projection added to the
  scaled residual, and the layer norm of that.
-/
module

public import proofs.«01_k».proof.Proof.Moe.Spec

@[expose] public section

noncomputable section

namespace Cert.Proof.Post

open Idealize.ShloMosaic Cert.Proof.Moe

/-- The gated sum of the two branches' projections, at a channel. -/
def gated (f a : Fin 512 → EReal) (gf ga : Fin 1024 → EReal) (wf wa : Fin 512 → Fin 1024 → EReal) (k : Fin 1024) : EReal :=
  Ideal.logistic (gf k) * (∑ j, f j * wf j k) + Ideal.logistic (ga k) * ∑ j, a j * wa j k

/-- The row before the layer norm. -/
def resid (f a : Fin 512 → EReal) (gf ga : Fin 1024 → EReal) (h : Fin 1024 → EReal) (wf wa : Fin 512 → Fin 1024 → EReal)
    (wo : Fin 1024 → Fin 1024 → EReal) (d : Fin 1024) : EReal :=
  alpha * h d + ∑ k, gated f a gf ga wf wa k * wo k d

/-- The row after it. -/
def post (f a : Fin 512 → EReal) (gf ga : Fin 1024 → EReal) (h : Fin 1024 → EReal) (wf wa : Fin 512 → Fin 1024 → EReal)
    (wo : Fin 1024 → Fin 1024 → EReal) (lg lb : Fin 1024 → EReal) (d : Fin 1024) : EReal :=
  norm (resid f a gf ga h wf wa wo) lg lb d

/-- A channel of the first gate, and of the second, in the row of both. -/
def gateF (k : Fin 1024) : Fin 2048 := ⟨k.val, by omega⟩
def gateA (k : Fin 1024) : Fin 2048 := ⟨1024 + k.val, by omega⟩

/-- A token of the two arrays put one after the other: the real ones, then the meta ones. -/
def cat (R : Fin 32768 → Fin 512 → EReal) (M : Fin 1024 → Fin 512 → EReal) (r : Fin 33792) (j : Fin 512) : EReal :=
  if h : r.val < 32768 then R ⟨r.val, h⟩ j else M ⟨r.val - 32768, by omega⟩ j

end Cert.Proof.Post

end
-- ==== Proof.Post.Blocks.lean ====
/-
  The blocks a point of the merge's grid works on, read at coordinates of the arguments. Point `t` takes tokens `512 t` to
  `512 t + 511`: the real ones up to point 63, the meta ones from point 64.
-/
module

public import proofs.«01_k».proof.Proof.Post.Spec
public import proofs.«01_k».proof.Proof.Gen.Kernel3Ideal.Frame
public import Idealize.ShloMosaic.Lib.Pointwise

@[expose] public section

set_option maxRecDepth 16384

noncomputable section

namespace Cert.Proof.Post

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The arguments. -/
abbrev aF : FVec Ideal S32768x512 .bf16 := m ((c.tc : Thread nD τ).loc main_arg0)
abbrev aFm : FVec Ideal S1024x512 .bf16 := m ((c.tc : Thread nD τ).loc main_arg1)
abbrev aA : FVec Ideal S32768x512 .bf16 := m ((c.tc : Thread nD τ).loc main_arg2)
abbrev aAm : FVec Ideal S1024x512 .bf16 := m ((c.tc : Thread nD τ).loc main_arg3)
abbrev aG : FVec Ideal S33792x2048 .bf16 := m ((c.tc : Thread nD τ).loc main_arg4)
abbrev aH : FVec Ideal S33792x1024 .f32 := m ((c.tc : Thread nD τ).loc main_arg5)
abbrev aWf : FVec Ideal S512x1024 .f32 := m ((c.tc : Thread nD τ).loc main_arg6)
abbrev aWa : FVec Ideal S512x1024 .f32 := m ((c.tc : Thread nD τ).loc main_arg7)
abbrev aWo : FVec Ideal S1024x1024 .f32 := m ((c.tc : Thread nD τ).loc main_arg8)
abbrev aLg : FVec Ideal S1024 .f32 := m ((c.tc : Thread nD τ).loc main_arg9)
abbrev aLb : FVec Ideal S1024 .f32 := m ((c.tc : Thread nD τ).loc main_arg10)

/-- What the host prepares. -/
theorem V_v6 : V m c main_v6 = truncf (F := Ideal) .bf16 (m ((c : Thread nD τ).loc main_arg6)) bitsLt_bf16_f32 := by
  unfold V hostOps0; after_results_simp <;> rfl
theorem V_v7 : V m c main_v7 = truncf (F := Ideal) .bf16 (m ((c : Thread nD τ).loc main_arg7)) bitsLt_bf16_f32 := by
  unfold V hostOps0; after_results_simp <;> rfl
theorem V_v8 : V m c main_v8 = truncf (F := Ideal) .bf16 (m ((c : Thread nD τ).loc main_arg8)) bitsLt_bf16_f32 := by
  unfold V hostOps0; after_results_simp <;> rfl
theorem V_v9 : V m c main_v9 = shapeCast S1x1024 (m ((c : Thread nD τ).loc main_arg9)) shapeCasts_S1024_S1x1024 := by
  unfold V hostOps0; after_results_simp <;> rfl
theorem V_v10 : V m c main_v10 = shapeCast S1x1024 (m ((c : Thread nD τ).loc main_arg10)) shapeCasts_S1024_S1x1024 := by
  unfold V hostOps0; after_results_simp <;> rfl

theorem lt_66 (t : Fin grid0.N) : t.val < 66 := lt_of_lt_of_eq t.isLt (by decide)

/-- Token `j` of a tile. -/
def tok (t : Fin grid0.N) (j : Fin 512) : Fin 33792 := ⟨512 * t.val + j.val, by have := lt_66 t; omega⟩

theorem tr0 : ∀ t : Fin grid0.N, (t.val < 64 → cc0_transform_0 (grid0.coords t) 0 = t.val) ∧ cc0_transform_0 (grid0.coords t) 1 = 0 := by decide +kernel
theorem tr1 : ∀ t : Fin grid0.N, (64 ≤ t.val → cc0_transform_1 (grid0.coords t) 0 = t.val - 64) ∧ cc0_transform_1 (grid0.coords t) 1 = 0 := by decide +kernel
theorem tr2 : ∀ t : Fin grid0.N, (t.val < 64 → cc0_transform_2 (grid0.coords t) 0 = t.val) ∧ cc0_transform_2 (grid0.coords t) 1 = 0 := by decide +kernel
theorem tr3 : ∀ t : Fin grid0.N, (64 ≤ t.val → cc0_transform_3 (grid0.coords t) 0 = t.val - 64) ∧ cc0_transform_3 (grid0.coords t) 1 = 0 := by decide +kernel
theorem tr4 : ∀ t : Fin grid0.N, cc0_transform_4 (grid0.coords t) 0 = t.val ∧ cc0_transform_4 (grid0.coords t) 1 = 0 := by decide +kernel
theorem tr5 : ∀ t : Fin grid0.N, cc0_transform_5 (grid0.coords t) 0 = t.val ∧ cc0_transform_5 (grid0.coords t) 1 = 0 := by decide +kernel
theorem tr6 : ∀ t : Fin grid0.N, cc0_transform_6 (grid0.coords t) 0 = 0 ∧ cc0_transform_6 (grid0.coords t) 1 = 0 := by decide +kernel
theorem tr7 : ∀ t : Fin grid0.N, cc0_transform_7 (grid0.coords t) 0 = 0 ∧ cc0_transform_7 (grid0.coords t) 1 = 0 := by decide +kernel
theorem tr8 : ∀ t : Fin grid0.N, cc0_transform_8 (grid0.coords t) 0 = 0 ∧ cc0_transform_8 (grid0.coords t) 1 = 0 := by decide +kernel
theorem tr9 : ∀ t : Fin grid0.N, cc0_transform_9 (grid0.coords t) 0 = 0 ∧ cc0_transform_9 (grid0.coords t) 1 = 0 := by decide +kernel
theorem tr10 : ∀ t : Fin grid0.N, cc0_transform_10 (grid0.coords t) 0 = 0 ∧ cc0_transform_10 (grid0.coords t) 1 = 0 := by decide +kernel
theorem tr14 : ∀ t : Fin grid0.N, cc0_transform_14 (grid0.coords t) 0 = t.val ∧ cc0_transform_14 (grid0.coords t) 1 = 0 := by decide +kernel

theorem blk0 (t : Fin grid0.N) (ht : t.val < 64) (j n : Fin 512) :
    (iblk m c 0 t : FVec Ideal S512x512 .bf16) (ix2 j n) = aF m c (ix2 ⟨512 * t.val + j.val, by omega⟩ n) := by
  have h : (iblk m c 0 t : FVec Ideal S512x512 .bf16) (ix2 j n) = (V m c main_arg0 : FVec Ideal S32768x512 .bf16) (ix2 ⟨512 * t.val + j.val, by omega⟩ n) := by
    refine congrArg (V m c main_arg0) (funext fun a => Fin.ext ?_)
    fin_cases a
    · show cc0_transform_0 (grid0.coords t) 0 * 512 + 1 * j.val = 512 * t.val + j.val
      rw [(tr0 t).1 ht]; omega
    · show cc0_transform_0 (grid0.coords t) 1 * 512 + 1 * n.val = n.val
      rw [(tr0 t).2]; omega
  rw [h, V_main_arg0]

theorem blk1 (t : Fin grid0.N) (ht : 64 ≤ t.val) (j n : Fin 512) :
    (iblk m c 1 t : FVec Ideal S512x512 .bf16) (ix2 j n)
      = aFm m c (ix2 ⟨512 * t.val + j.val - 32768, by have := lt_66 t; omega⟩ n) := by
  have hb : 512 * t.val + j.val - 32768 < 1024 := by have := lt_66 t; omega
  have h : (iblk m c 1 t : FVec Ideal S512x512 .bf16) (ix2 j n) = (V m c main_arg1 : FVec Ideal S1024x512 .bf16) (ix2 ⟨512 * t.val + j.val - 32768, hb⟩ n) := by
    refine congrArg (V m c main_arg1) (funext fun a => Fin.ext ?_)
    fin_cases a
    · show cc0_transform_1 (grid0.coords t) 0 * 512 + 1 * j.val = 512 * t.val + j.val - 32768
      rw [(tr1 t).1 ht]; omega
    · show cc0_transform_1 (grid0.coords t) 1 * 512 + 1 * n.val = n.val
      rw [(tr1 t).2]; omega
  rw [h, V_main_arg1]

theorem blk2 (t : Fin grid0.N) (ht : t.val < 64) (j n : Fin 512) :
    (iblk m c 2 t : FVec Ideal S512x512 .bf16) (ix2 j n) = aA m c (ix2 ⟨512 * t.val + j.val, by omega⟩ n) := by
  have h : (iblk m c 2 t : FVec Ideal S512x512 .bf16) (ix2 j n) = (V m c main_arg2 : FVec Ideal S32768x512 .bf16) (ix2 ⟨512 * t.val + j.val, by omega⟩ n) := by
    refine congrArg (V m c main_arg2) (funext fun a => Fin.ext ?_)
    fin_cases a
    · show cc0_transform_2 (grid0.coords t) 0 * 512 + 1 * j.val = 512 * t.val + j.val
      rw [(tr2 t).1 ht]; omega
    · show cc0_transform_2 (grid0.coords t) 1 * 512 + 1 * n.val = n.val
      rw [(tr2 t).2]; omega
  rw [h, V_main_arg2]

theorem blk3 (t : Fin grid0.N) (ht : 64 ≤ t.val) (j n : Fin 512) :
    (iblk m c 3 t : FVec Ideal S512x512 .bf16) (ix2 j n)
      = aAm m c (ix2 ⟨512 * t.val + j.val - 32768, by have := lt_66 t; omega⟩ n) := by
  have hb : 512 * t.val + j.val - 32768 < 1024 := by have := lt_66 t; omega
  have h : (iblk m c 3 t : FVec Ideal S512x512 .bf16) (ix2 j n) = (V m c main_arg3 : FVec Ideal S1024x512 .bf16) (ix2 ⟨512 * t.val + j.val - 32768, hb⟩ n) := by
    refine congrArg (V m c main_arg3) (funext fun a => Fin.ext ?_)
    fin_cases a
    · show cc0_transform_3 (grid0.coords t) 0 * 512 + 1 * j.val = 512 * t.val + j.val - 32768
      rw [(tr3 t).1 ht]; omega
    · show cc0_transform_3 (grid0.coords t) 1 * 512 + 1 * n.val = n.val
      rw [(tr3 t).2]; omega
  rw [h, V_main_arg3]

theorem blk4 (t : Fin grid0.N) (j : Fin 512) (k : Fin 2048) : (iblk m c 4 t : FVec Ideal S512x2048 .bf16) (ix2 j k) = aG m c (ix2 (tok t j) k) := by
  have h : (iblk m c 4 t : FVec Ideal S512x2048 .bf16) (ix2 j k) = (V m c main_arg4 : FVec Ideal S33792x2048 .bf16) (ix2 (tok t j) k) := by
    refine congrArg (V m c main_arg4) (funext fun a => Fin.ext ?_)
    fin_cases a
    · show cc0_transform_4 (grid0.coords t) 0 * 512 + 1 * j.val = 512 * t.val + j.val
      rw [(tr4 t).1]; omega
    · show cc0_transform_4 (grid0.coords t) 1 * 2048 + 1 * k.val = k.val
      rw [(tr4 t).2]; omega
  rw [h, V_main_arg4]

theorem blk5 (t : Fin grid0.N) (j : Fin 512) (k : Fin 1024) : (iblk m c 5 t : FVec Ideal S512x1024 .f32) (ix2 j k) = aH m c (ix2 (tok t j) k) := by
  have h : (iblk m c 5 t : FVec Ideal S512x1024 .f32) (ix2 j k) = (V m c main_arg5 : FVec Ideal S33792x1024 .f32) (ix2 (tok t j) k) := by
    refine congrArg (V m c main_arg5) (funext fun a => Fin.ext ?_)
    fin_cases a
    · show cc0_transform_5 (grid0.coords t) 0 * 512 + 1 * j.val = 512 * t.val + j.val
      rw [(tr5 t).1]; omega
    · show cc0_transform_5 (grid0.coords t) 1 * 1024 + 1 * k.val = k.val
      rw [(tr5 t).2]; omega
  rw [h, V_main_arg5]

theorem blk6 (t : Fin grid0.N) (j : Fin 512) (k : Fin 1024) : (iblk m c 6 t : FVec Ideal S512x1024 .bf16) (ix2 j k) = aWf m c (ix2 j k) := by
  have h : (iblk m c 6 t : FVec Ideal S512x1024 .bf16) (ix2 j k) = (V m c main_v6 : FVec Ideal S512x1024 .bf16) (ix2 j k) := by
    refine congrArg (V m c main_v6) (funext fun a => Fin.ext ?_)
    fin_cases a
    · show cc0_transform_6 (grid0.coords t) 0 * 512 + 1 * j.val = j.val
      rw [(tr6 t).1]; omega
    · show cc0_transform_6 (grid0.coords t) 1 * 1024 + 1 * k.val = k.val
      rw [(tr6 t).2]; omega
  rw [h, V_v6]; rfl

theorem blk7 (t : Fin grid0.N) (j : Fin 512) (k : Fin 1024) : (iblk m c 7 t : FVec Ideal S512x1024 .bf16) (ix2 j k) = aWa m c (ix2 j k) := by
  have h : (iblk m c 7 t : FVec Ideal S512x1024 .bf16) (ix2 j k) = (V m c main_v7 : FVec Ideal S512x1024 .bf16) (ix2 j k) := by
    refine congrArg (V m c main_v7) (funext fun a => Fin.ext ?_)
    fin_cases a
    · show cc0_transform_7 (grid0.coords t) 0 * 512 + 1 * j.val = j.val
      rw [(tr7 t).1]; omega
    · show cc0_transform_7 (grid0.coords t) 1 * 1024 + 1 * k.val = k.val
      rw [(tr7 t).2]; omega
  rw [h, V_v7]; rfl

theorem blk8 (t : Fin grid0.N) (j : Fin 1024) (k : Fin 1024) : (iblk m c 8 t : FVec Ideal S1024x1024 .bf16) (ix2 j k) = aWo m c (ix2 j k) := by
  have h : (iblk m c 8 t : FVec Ideal S1024x1024 .bf16) (ix2 j k) = (V m c main_v8 : FVec Ideal S1024x1024 .bf16) (ix2 j k) := by
    refine congrArg (V m c main_v8) (funext fun a => Fin.ext ?_)
    fin_cases a
    · show cc0_transform_8 (grid0.coords t) 0 * 1024 + 1 * j.val = j.val
      rw [(tr8 t).1]; omega
    · show cc0_transform_8 (grid0.coords t) 1 * 1024 + 1 * k.val = k.val
      rw [(tr8 t).2]; omega
  rw [h, V_v8]; rfl

theorem blk9 (t : Fin grid0.N) (d : Fin 1024) : (iblk m c 9 t : FVec Ideal S1x1024 .f32) (ix2 0 d) = aLg m c (ix1 d) := by
  have h : (iblk m c 9 t : FVec Ideal S1x1024 .f32) (ix2 0 d) = (V m c main_v9 : FVec Ideal S1x1024 .f32) (ix2 0 d) := by
    refine congrArg (V m c main_v9) (funext fun a => Fin.ext ?_)
    fin_cases a
    · show cc0_transform_9 (grid0.coords t) 0 * 1 + 1 * 0 = 0
      rw [(tr9 t).1]
    · show cc0_transform_9 (grid0.coords t) 1 * 1024 + 1 * d.val = d.val
      rw [(tr9 t).2]; omega
  rw [h, V_v9]
  pointwise []

theorem blk10 (t : Fin grid0.N) (d : Fin 1024) : (iblk m c 10 t : FVec Ideal S1x1024 .f32) (ix2 0 d) = aLb m c (ix1 d) := by
  have h : (iblk m c 10 t : FVec Ideal S1x1024 .f32) (ix2 0 d) = (V m c main_v10 : FVec Ideal S1x1024 .f32) (ix2 0 d) := by
    refine congrArg (V m c main_v10) (funext fun a => Fin.ext ?_)
    fin_cases a
    · show cc0_transform_10 (grid0.coords t) 0 * 1 + 1 * 0 = 0
      rw [(tr10 t).1]
    · show cc0_transform_10 (grid0.coords t) 1 * 1024 + 1 * d.val = d.val
      rw [(tr10 t).2]; omega
  rw [h, V_v10]
  pointwise []

end Cert.Proof.Post

end
-- ==== Proof.Post.Tiles.lean ====
/-
  What the merge's body computes of its blocks: the row of Spec.lean at every token of the tile.
-/
module

public import proofs.«01_k».proof.Proof.Post.Spec
public import proofs.«01_k».proof.Proof.Gen.Kernel3Ideal.Skeleton
public import Idealize.ShloMosaic.Lib.Pointwise

@[expose] public section

set_option maxRecDepth 16384

noncomputable section

namespace Cert.Proof.Post

open Idealize.ShloMosaic Idealize.ShloMosaic.TcCoe Idealize.SL.Sem Cert.Kernel3Ideal Cert.Kernel3Ideal.Gen Cert.Proof.Moe

/-- The rows before the layer norm, of the branches' chosen blocks. -/
def rows (f a : FVec Ideal S512x512 .bf16) (wf wa gf ga : FVec Ideal S512x1024 .bf16) (wo : FVec Ideal S1024x1024 .bf16) (h : FVec Ideal S512x1024 .f32) :
    FVec Ideal S512x1024 .f32 :=
  addf (mulf (broadcast S512x1024 (Scalar.ofBits (F := Ideal) .f32 0x3FB504F3#32)) h)
    (matmul dot_S512x1024_S1024x1024_S512x1024_1_0_0_1_n_n none
      (truncf .bf16 (addf
        (mulf (logistic (extf .f32 gf bitsLt_bf16_f32)) (matmul dot_S512x512_S512x1024_S512x1024_1_0_0_1_n_n none f (shapeCast S512x1024 wf shapeCasts_S512x1024_S512x1024) (constant S512x1024 .f32 0x00000000#32)))
        (mulf (logistic (extf .f32 ga bitsLt_bf16_f32)) (matmul dot_S512x512_S512x1024_S512x1024_1_0_0_1_n_n none a (shapeCast S512x1024 wa shapeCasts_S512x1024_S512x1024) (constant S512x1024 .f32 0x00000000#32)))) bitsLt_bf16_f32)
      (shapeCast S1024x1024 wo shapeCasts_S1024x1024_S1024x1024) (constant S512x1024 .f32 0x00000000#32))

theorem rows_at (f a : FVec Ideal S512x512 .bf16) (wf wa gf ga : FVec Ideal S512x1024 .bf16) (wo : FVec Ideal S1024x1024 .bf16) (h : FVec Ideal S512x1024 .f32)
    (j : Fin 512) (d : Fin 1024) :
    rows f a wf wa gf ga wo h (ix2 j d) = resid (fun n => f (ix2 j n)) (fun n => a (ix2 j n)) (fun k => gf (ix2 j k)) (fun k => ga (ix2 j k)) (fun d => h (ix2 j d))
      (fun n k => wf (ix2 n k)) (fun n k => wa (ix2 n k)) (fun k d => wo (ix2 k d)) d := by
  pointwise [rows]
  rfl

/-- The body's rows are those of the blocks the point chooses: the meta tokens' from point 64 on, the real ones' before. -/
theorem pay4_eq (i : grid0.Coords) (v1 v2 v4 v5 : FVec Ideal S512x512 .bf16) (v7 v10 v13 v17 : FVec Ideal S512x1024 .bf16) (v23 : FVec Ideal S1024x1024 .bf16)
    (v26 : FVec Ideal S512x1024 .f32) :
    k0_pay4 (F := Ideal) i v1 v2 v4 v5 v7 v10 v13 v17 v23 v26
      = rows (Scalar.select (Scalar.cmpi .sge (BitVec.ofNat 32 (i 0).val) 64#32) v1 v2) (Scalar.select (Scalar.cmpi .sge (BitVec.ofNat 32 (i 0).val) 64#32) v4 v5)
          v7 v10 v13 v17 v23 v26 := rfl

/-- The block written, of those rows. -/
theorem pay6_at (z : FVec Ideal S512x1024 .f32) (lg lb : FVec Ideal S1x1024 .f32) (j : Fin 512) (d : Fin 1024) :
    k0_pay6 (F := Ideal) z (k0_pay5 lg) lb (ix2 j d) = norm (fun d => z (ix2 j d)) (fun d => lg (ix2 0 d)) (fun d => lb (ix2 0 d)) d := by
  pointwise [k0_pay6, k0_pay5]
  rfl

end Cert.Proof.Post

end
-- ==== Proof.Post.Final.lean ====
/-
  The merge's result array after the run: the row of Spec.lean at every token.
-/
module

public import proofs.«01_k».proof.Proof.Post.Blocks
public import proofs.«01_k».proof.Proof.Post.Tiles
public import proofs.«01_k».proof.Proof.Gen.Kernel3Ideal.Value
public import Idealize.ShloMosaic.Lib.Pipeline.ValueKit
public import Idealize.ShloMosaic.Lib.Pipeline.Covers

@[expose] public section

set_option maxRecDepth 16384

noncomputable section

namespace Cert.Proof.Post

open Idealize.ShloMosaic Idealize.ShloMosaic.TcCoe Idealize.SL.Sem Cert.Kernel3Ideal Cert.Kernel3Ideal.Gen Cert.Proof.Moe
open Idealize.ShloMosaic.Pipeline (Dat)

variable (m : (ℓ : Loc nD τ sig) → Buf (Elt Ideal) ℓ)

/-- What the result's array holds, at a token and a channel. -/
def val (c : Dev nD) (r : Fin 33792) (d : Fin 1024) : EReal :=
  post (cat (fun r j => aF m c (ix2 r j)) (fun r j => aFm m c (ix2 r j)) r) (cat (fun r j => aA m c (ix2 r j)) (fun r j => aAm m c (ix2 r j)) r)
    (fun k => aG m c (ix2 r (gateF k))) (fun k => aG m c (ix2 r (gateA k))) (fun d => aH m c (ix2 r d)) (fun n k => aWf m c (ix2 n k))
    (fun n k => aWa m c (ix2 n k)) (fun k d => aWo m c (ix2 k d)) (fun d => aLg m c (ix1 d)) (fun d => aLb m c (ix1 d)) d

def G (c : Dev nD) : FVec Ideal S33792x1024 .f32 := fun i => val m c (i 0) (i 1)

/-- Whether a point takes the meta tokens. -/
theorem meta_bit : ∀ t : Fin grid0.N, Scalar.cmpi .sge (BitVec.ofNat 32 (grid0.coords t 0).val) 64#32 = if t.val < 64 then 0#1 else 1#1 := by decide +kernel

/-- The first branch's block, as the point chooses it. -/
theorem branchF (c : Dev nD) (t : Fin grid0.N) (j n : Fin 512) :
    (Scalar.select (Scalar.cmpi .sge (BitVec.ofNat 32 (grid0.coords t 0).val) 64#32) (iblk m c 1 t : FVec Ideal S512x512 .bf16) (iblk m c 0 t : FVec Ideal S512x512 .bf16)) (ix2 j n)
      = cat (fun r j => aF m c (ix2 r j)) (fun r j => aFm m c (ix2 r j)) (tok t j) n := by
  rw [meta_bit]
  unfold cat
  by_cases ht : t.val < 64
  · rw [if_pos ht, dif_pos (show (tok t j).val < 32768 by show 512 * t.val + j.val < 32768; omega)]
    exact blk0 m c t ht j n
  · rw [if_neg ht, dif_neg (show ¬ (tok t j).val < 32768 by show ¬ 512 * t.val + j.val < 32768; omega)]
    exact blk1 m c t (by omega) j n

/-- The second branch's. -/
theorem branchA (c : Dev nD) (t : Fin grid0.N) (j n : Fin 512) :
    (Scalar.select (Scalar.cmpi .sge (BitVec.ofNat 32 (grid0.coords t 0).val) 64#32) (iblk m c 3 t : FVec Ideal S512x512 .bf16) (iblk m c 2 t : FVec Ideal S512x512 .bf16)) (ix2 j n)
      = cat (fun r j => aA m c (ix2 r j)) (fun r j => aAm m c (ix2 r j)) (tok t j) n := by
  rw [meta_bit]
  unfold cat
  by_cases ht : t.val < 64
  · rw [if_pos ht, dif_pos (show (tok t j).val < 32768 by show 512 * t.val + j.val < 32768; omega)]
    exact blk2 m c t ht j n
  · rw [if_neg ht, dif_neg (show ¬ (tok t j).val < 32768 by show ¬ 512 * t.val + j.val < 32768; omega)]
    exact blk3 m c t (by omega) j n

/-- The two halves of a gates' block. -/
theorem gate_lo (x : FVec Ideal S512x2048 .bf16) (j : Fin 512) (k : Fin 1024) : View.ld (Val := Elt Ideal) (e' := .bf16) x r0_2 (ix2 j k : S512x1024.Idx) = x (ix2 j (gateF k)) := by
  refine congrArg x (funext fun a => Fin.ext ?_)
  fin_cases a
  · show 0 + 1 * j.val = j.val; omega
  · show 0 + 1 * k.val = k.val; omega

theorem gate_hi (x : FVec Ideal S512x2048 .bf16) (j : Fin 512) (k : Fin 1024) : View.ld (Val := Elt Ideal) (e' := .bf16) x r0_3 (ix2 j k : S512x1024.Idx) = x (ix2 j (gateA k)) := by
  refine congrArg x (funext fun a => Fin.ext ?_)
  fin_cases a
  · show 0 + 1 * j.val = j.val; omega
  · show 1024 + 1 * k.val = 1024 + k.val; omega

/-- Whole blocks, loaded. -/
theorem ld0 (x : FVec Ideal S512x512 .bf16) : View.ld (Val := Elt Ideal) (e' := .bf16) x r0_0 = x :=
  View.ld_unit_lit (Val := Elt Ideal) (S := S512x512) (e := .bf16) inb_S512x512_S512x512_0_0 x (by decide)
theorem ld1 (x : FVec Ideal S512x1024 .bf16) : View.ld (Val := Elt Ideal) (e' := .bf16) x r0_1 = x :=
  View.ld_unit_lit (Val := Elt Ideal) (S := S512x1024) (e := .bf16) inb_S512x1024_S512x1024_0_0 x (by decide)
theorem ld2 (x : FVec Ideal S512x1024 .f32) : View.ld (Val := Elt Ideal) (e' := .f32) x r0_1 = x :=
  View.ld_unit_lit (Val := Elt Ideal) (S := S512x1024) (e := .f32) inb_S512x1024_S512x1024_0_0 x (by decide)
theorem ld4 (x : FVec Ideal S1024x1024 .bf16) : View.ld (Val := Elt Ideal) (e' := .bf16) x r0_4 = x :=
  View.ld_unit_lit (Val := Elt Ideal) (S := S1024x1024) (e := .bf16) inb_S1024x1024_S1024x1024_0_0 x (by decide)
theorem ld5 (x : FVec Ideal S1x1024 .f32) : View.ld (Val := Elt Ideal) (e' := .f32) x r0_5 = x :=
  View.ld_unit_lit (Val := Elt Ideal) (S := S1x1024) (e := .f32) inb_S1x1024_S1x1024_0_0 x (by decide)

/-- What the body leaves in the result's block, of any blocks. -/
theorem out_eq (i : grid0.Coords) (x0 x1 x2 x3 : FVec Ideal S512x512 .bf16) (x4 : FVec Ideal S512x2048 .bf16) (x5 : FVec Ideal S512x1024 .f32)
    (x6 x7 : FVec Ideal S512x1024 .bf16) (x8 : FVec Ideal S1024x1024 .bf16) (x9 x10 : FVec Ideal S1x1024 .f32) (x11 x12 : FVec Ideal S16x1024 .bf16)
    (x13 : FVec Ideal S16x1 .f32) :
    out0_14 (F := Ideal) i x0 x1 x2 x3 x4 x5 x6 x7 x8 x9 x10 x11 x12 x13
      = k0_pay6 (F := Ideal) (k0_pay4 (F := Ideal) i x1 x0 x3 x2 x6 x7 (View.ld (Val := Elt Ideal) (e' := .bf16) x4 r0_2) (View.ld (Val := Elt Ideal) (e' := .bf16) x4 r0_3) x8 x5) (k0_pay5 x9) x10 := by
  unfold out0_14 k0_pay88 k0_pay87
  refine (View.canon_cons_unit_lit (S := S512x1024) inb_S512x1024_S512x1024_0_0 _ [] (by decide)).trans ?_
  rw [ld0 x0, ld0 x1, ld0 x2, ld0 x3, ld1 x6, ld1 x7, ld2 x5, ld4 x8, ld5 x9, ld5 x10]

/-- And of a point's. -/
def outAt (c : Dev nD) (t : Fin grid0.N) : FVec Ideal S512x1024 .f32 :=
  out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem after_14 (c : Dev nD) (t : Fin cfg0.N) : (dats m 0 c).after 14 t = outAt m c t := after0_14 m c t

theorem out_at (c : Dev nD) (t : Fin grid0.N) (j : Fin 512) (d : Fin 1024) : outAt m c t (ix2 j d) = val m c (tok t j) d := by
  unfold outAt
  refine (congrFun (out_eq _ _ _ _ _ _ _ _ _ _ _ _ _ _ _) _).trans ?_
  refine (pay6_at _ _ _ j d).trans ?_
  unfold val post
  refine congrFun (congr (congr (congrArg norm (funext fun d => ?_)) (funext fun d => blk9 m c t d)) (funext fun d => blk10 m c t d)) d
  refine (congrFun (pay4_eq _ _ _ _ _ _ _ _ _ _ _) _).trans ((rows_at _ _ _ _ _ _ _ _ j d).trans ?_)
  refine congrFun (congr (congr (congr (congr (congr (congr (congr (congrArg resid (funext fun n => branchF m c t j n)) (funext fun n => branchA m c t j n))
    (funext fun k => (gate_lo _ j k).trans (blk4 m c t j _))) (funext fun k => (gate_hi _ j k).trans (blk4 m c t j _))) (funext fun k => blk5 m c t j k))
    (funext fun n => funext fun k => blk6 m c t n k)) (funext fun n => funext fun k => blk7 m c t n k)) (funext fun k => funext fun d => blk8 m c t k d)) d

/-- The written blocks cover the result. -/
theorem covers14 : (cfg0.win 14).Covers :=
  (cfg0.win 14).covers_of_index_surj rfl (by show ∀ a : Fin 2, 0 < (![512, 1024] : Fin 2 → ℕ) a; decide) fun β => by
    have h0 : (β (0 : Fin 2)).val < (33792 + 512 - 1) / 512 := (β (0 : Fin 2)).isLt
    have h1 : (β (1 : Fin 2)).val < (1024 + 1024 - 1) / 1024 := (β (1 : Fin 2)).isLt
    refine ⟨(⟨(β (0 : Fin 2)).val, lt_of_lt_of_eq (show (β (0 : Fin 2)).val < 66 by omega) (by decide)⟩ : Fin grid0.N), ?_⟩
    show ∀ a : Fin 2, cc0_transform_14 (grid0.coords _) a = (β a).val
    intro a
    fin_cases a
    · exact (tr14 _).1
    · refine (tr14 _).2.trans ?_
      show 0 = (β (1 : Fin 2)).val; omega

/-- Where a point's block lies in the result. -/
theorem emb_at (t : Fin cfg0.N) (y : ((cfg0.win 14).xblock (cfg0.grid.coords t)).Idx) (j : Fin 512) (d : Fin 1024)
    (hj : j.val = (y (0 : Fin 2)).val) (hd : d.val = (y (1 : Fin 2)).val) :
    ((cfg0.win 14).blk t).view.emb y = (ix2 (tok t j) d : S33792x1024.Idx) := by
  refine funext fun a => Fin.ext ?_
  fin_cases a
  · show cc0_transform_14 (grid0.coords t) 0 * 512 + 1 * (y (0 : Fin 2)).val = 512 * t.val + j.val
    rw [(tr14 t).1, hj]; omega
  · show cc0_transform_14 (grid0.coords t) 1 * 1024 + 1 * (y (1 : Fin 2)).val = d.val
    rw [(tr14 t).2, hd]; omega

/-- And which of its entries it writes there. -/
theorem xinj_at (t : Fin cfg0.N) (y : ((cfg0.win 14).xblock (cfg0.grid.coords t)).Idx) (j : Fin 512) (d : Fin 1024)
    (hj : j.val = (y (0 : Fin 2)).val) (hd : d.val = (y (1 : Fin 2)).val) :
    (cfg0.win 14).xinj (cfg0.grid.coords t) y = (ix2 j d : S512x1024.Idx) := by
  refine funext fun a => Fin.ext ?_
  fin_cases a
  · exact hj.symm
  · exact hd.symm

/-- What a point writes is what the result is to hold there. -/
theorem write_at (c : Dev nD) (t : Fin cfg0.N) (y : ((cfg0.win 14).xblock (cfg0.grid.coords t)).Idx) :
    outAt m c t ((cfg0.win 14).xinj (cfg0.grid.coords t) y) = G m c (((cfg0.win 14).blk t).view.emb y) := by
  have y0 : (y (0 : Fin 2)).val < 512 := (y (0 : Fin 2)).isLt
  have y1 : (y (1 : Fin 2)).val < 1024 := (y (1 : Fin 2)).isLt
  exact (congrArg (outAt m c t) (xinj_at t y ⟨(y (0 : Fin 2)).val, y0⟩ ⟨(y (1 : Fin 2)).val, y1⟩ rfl rfl)).trans
    ((out_at m c t _ _).trans (congrArg (G m c) (emb_at t y ⟨(y (0 : Fin 2)).val, y0⟩ ⟨(y (1 : Fin 2)).val, y1⟩ rfl rfl)).symm)

/-- The result's array after the run. -/
theorem final (c : Dev nD) : (dats m 0 c).arrAt 14 cfg0.N = G m c :=
  (dats m 0 c).arrAt_eq_of_covers 14 _ covers14 fun t hf y => by
    rw [after_14]
    exact eq_of_heq ((cast_heq _ _).trans (heq_of_eq (write_at m c t y)))

end Cert.Proof.Post

end
-- ==== Proof.Post.Ref.lean ====
/-
  The reference's result of the merge, read at a token and a channel.
-/
module

public import proofs.«01_k».proof.Proof.Post.Spec
public import proofs.«01_k».proof.Proof.Gen.Reference3Ideal.Run
public import Idealize.ShloMosaic.Lib.Pointwise

@[expose] public section

set_option maxRecDepth 16384

noncomputable section

namespace Cert.Proof.Post

open Idealize.ShloMosaic Idealize.ShloMosaic.TcCoe Idealize.SL.Sem Cert.Reference3Ideal Cert.Reference3Ideal.Gen Cert.Proof.Moe

/-- The real tokens' rows, then the meta tokens'. -/
def both (R : FVec Ideal S32768x512 .bf16) (M : FVec Ideal S1024x512 .bf16) : FVec Ideal S33792x512 .bf16 :=
  concatenate S33792x512 0 [⟨S32768x512, R⟩, ⟨S1024x512, M⟩] concatenates_S32768x512_S1024x512_S33792x512_d0

theorem both_at (R : FVec Ideal S32768x512 .bf16) (M : FVec Ideal S1024x512 .bf16) (r : Fin 33792) (j : Fin 512) :
    both R M (ix2 r j) = cat (fun r j => R (ix2 r j)) (fun r j => M (ix2 r j)) r j := by
  unfold both cat
  pointwise []

/-- The rows before the layer norm. -/
def zrows (F A : FVec Ideal S32768x512 .bf16) (Fm Am : FVec Ideal S1024x512 .bf16) (G : FVec Ideal S33792x2048 .bf16) (H : FVec Ideal S33792x1024 .f32)
    (Wf Wa : FVec Ideal S512x1024 .f32) (Wo : FVec Ideal S1024x1024 .f32) : FVec Ideal S33792x1024 .f32 :=
  addf (mulf (broadcastInDim S33792x1024 ![] bcast_S_S33792x1024 (constant S_ .f32 0x3FB504F3#32)) H)
    (Host.dotGeneral dot_S33792x1024_S1024x1024_S33792x1024_1_0_0_1_n_n none
      (addf
        (mulf (Host.divf (broadcastInDim S33792x1024 ![] bcast_S_S33792x1024 (constant S_ .f32 0x3F800000#32)) (addf (broadcastInDim S33792x1024 ![] bcast_S_S33792x1024 (constant S_ .f32 0x3F800000#32)) (Host.exp (Host.negf (extractStridedSlice S33792x1024 ![0, 0] (extf .f32 G bitsLt_bf16_f32) slices_S33792x2048_S33792x1024_0_0)))))
          (Host.dotGeneral dot_S33792x512_S512x1024_S33792x1024_1_0_0_1_n_n none (extf .f32 (both F Fm) bitsLt_bf16_f32) Wf))
        (mulf (Host.divf (broadcastInDim S33792x1024 ![] bcast_S_S33792x1024 (constant S_ .f32 0x3F800000#32)) (addf (broadcastInDim S33792x1024 ![] bcast_S_S33792x1024 (constant S_ .f32 0x3F800000#32)) (Host.exp (Host.negf (extractStridedSlice S33792x1024 ![0, 1024] (extf .f32 G bitsLt_bf16_f32) slices_S33792x2048_S33792x1024_0_1024)))))
          (Host.dotGeneral dot_S33792x512_S512x1024_S33792x1024_1_0_0_1_n_n none (extf .f32 (both A Am) bitsLt_bf16_f32) Wa))) Wo)

theorem zrows_at (F A : FVec Ideal S32768x512 .bf16) (Fm Am : FVec Ideal S1024x512 .bf16) (G : FVec Ideal S33792x2048 .bf16) (H : FVec Ideal S33792x1024 .f32)
    (Wf Wa : FVec Ideal S512x1024 .f32) (Wo : FVec Ideal S1024x1024 .f32) (r : Fin 33792) (d : Fin 1024) :
    zrows F A Fm Am G H Wf Wa Wo (ix2 r d) = resid (fun n => both F Fm (ix2 r n)) (fun n => both A Am (ix2 r n)) (fun k => G (ix2 r (gateF k)))
      (fun k => G (ix2 r (gateA k))) (fun d => H (ix2 r d)) (fun n k => Wf (ix2 n k)) (fun n k => Wa (ix2 n k)) (fun k d => Wo (ix2 k d)) d := by
  pointwise [zrows]
  rfl

/-- The layer norm, of any rows. -/
def lnorm (Z : FVec Ideal S33792x1024 .f32) (G B : FVec Ideal S1024 .f32) : FVec Ideal S33792x1024 .f32 :=
  let M := Host.divf (broadcastInDim S33792x1 ![0] bcast_S33792_S33792x1_0 (Host.reduceAdd Z (constant S_ .f32 0x00000000#32) reducesTo_S33792x1024_S33792_d1 h_S_)) (broadcastInDim S33792x1 ![] bcast_S_S33792x1 (constant S_ .f32 0x44800000#32))
  let D := subf Z (broadcastInDim S33792x1024 ![0, 1] bcast_S33792x1_S33792x1024_0_1 M)
  addf (mulf (mulf (subf Z (broadcastInDim S33792x1024 ![0, 1] bcast_S33792x1_S33792x1024_0_1 M)) (broadcastInDim S33792x1024 ![0, 1] bcast_S33792x1_S33792x1024_0_1 (Host.rsqrt (addf (Host.divf (broadcastInDim S33792x1 ![0] bcast_S33792_S33792x1_0 (Host.reduceAdd (mulf D D) (constant S_ .f32 0x00000000#32) reducesTo_S33792x1024_S33792_d1 h_S_)) (broadcastInDim S33792x1 ![] bcast_S_S33792x1 (constant S_ .f32 0x44800000#32))) (broadcastInDim S33792x1 ![] bcast_S_S33792x1 (constant S_ .f32 0x3727C5AC#32)))))) (broadcastInDim S33792x1024 ![0, 1] bcast_S1x1024_S33792x1024_0_1 (broadcastInDim S1x1024 ![1] bcast_S1024_S1x1024_1 G))) (broadcastInDim S33792x1024 ![0, 1] bcast_S1x1024_S33792x1024_0_1 (broadcastInDim S1x1024 ![1] bcast_S1024_S1x1024_1 B))

theorem lnorm_at (Z : FVec Ideal S33792x1024 .f32) (G B : FVec Ideal S1024 .f32) (r : Fin 33792) (d : Fin 1024) :
    lnorm Z G B (ix2 r d) = norm (fun d => Z (ix2 r d)) (fun d => G (ix1 d)) (fun d => B (ix1 d)) d := by
  pointwise [lnorm]
  rfl

variable (m : (ℓ : Loc nD τ sig) → Buf (Elt Ideal) ℓ) (c : Dev nD)

/-- The arguments. -/
abbrev rF : FVec Ideal S32768x512 .bf16 := m ((c.tc : Thread nD τ).loc main_arg0)
abbrev rFm : FVec Ideal S1024x512 .bf16 := m ((c.tc : Thread nD τ).loc main_arg1)
abbrev rA : FVec Ideal S32768x512 .bf16 := m ((c.tc : Thread nD τ).loc main_arg2)
abbrev rAm : FVec Ideal S1024x512 .bf16 := m ((c.tc : Thread nD τ).loc main_arg3)
abbrev rG : FVec Ideal S33792x2048 .bf16 := m ((c.tc : Thread nD τ).loc main_arg4)
abbrev rH : FVec Ideal S33792x1024 .f32 := m ((c.tc : Thread nD τ).loc main_arg5)
abbrev rWf : FVec Ideal S512x1024 .f32 := m ((c.tc : Thread nD τ).loc main_arg6)
abbrev rWa : FVec Ideal S512x1024 .f32 := m ((c.tc : Thread nD τ).loc main_arg7)
abbrev rWo : FVec Ideal S1024x1024 .f32 := m ((c.tc : Thread nD τ).loc main_arg8)
abbrev rLg : FVec Ideal S1024 .f32 := m ((c.tc : Thread nD τ).loc main_arg9)
abbrev rLb : FVec Ideal S1024 .f32 := m ((c.tc : Thread nD τ).loc main_arg10)

/-- The reference's result. -/
def res : FVec Ideal S33792x1024 .f32 :=
  lnorm (zrows (rF m c) (rA m c) (rFm m c) (rAm m c) (rG m c) (rH m c) (rWf m c) (rWa m c) (rWo m c)) (rLg m c) (rLb m c)

theorem res_eq : Value.res_out0 m c = res m c := rfl

theorem res_at (r : Fin 33792) (d : Fin 1024) : res m c (ix2 r d)
    = post (cat (fun r j => rF m c (ix2 r j)) (fun r j => rFm m c (ix2 r j)) r) (cat (fun r j => rA m c (ix2 r j)) (fun r j => rAm m c (ix2 r j)) r)
        (fun k => rG m c (ix2 r (gateF k))) (fun k => rG m c (ix2 r (gateA k))) (fun d => rH m c (ix2 r d)) (fun n k => rWf m c (ix2 n k))
        (fun n k => rWa m c (ix2 n k)) (fun k d => rWo m c (ix2 k d)) (fun d => rLg m c (ix1 d)) (fun d => rLb m c (ix1 d)) d := by
  unfold res
  rw [lnorm_at]
  unfold post
  refine congrArg (fun z => norm z _ _ d) (funext fun d => ?_)
  rw [zrows_at]
  simp only [both_at]

end Cert.Proof.Post

end
-- ==== Proof.Post.Algebraic.lean ====
/-
  The merge's claims: its value, and the three frames.
-/
module

public import proofs.«01_k».proof.Defs
public import proofs.«01_k».proof.Proof.Post.Final
public import proofs.«01_k».proof.Proof.Post.Ref
public import proofs.«01_k».proof.Proof.Gen.Kernel3
public import proofs.«01_k».proof.Proof.Gen.Kernel3.Frame
public import Idealize.ShloMosaic.Lib.Claim

@[expose] public section

set_option maxRecDepth 16384

noncomputable section

namespace Cert.Proof.Post

open Idealize.ShloMosaic Idealize.ShloMosaic.TcCoe Idealize.SL.Sem

/-- The printed kernel's frame. -/
theorem frame_kernel : Cert.quiescent_Kernel3 (hKernel3 := Cert.Kernel3.Gen.facts) := fun m ρ _ => Cert.Kernel3.Gen.frame m ρ

/-- The ideal kernel's. -/
theorem frame_ideal : Cert.quiescent_Kernel3Ideal (hKernel3Ideal := Cert.Kernel3Ideal.Gen.facts) := fun m ρ _ => Cert.Kernel3Ideal.Gen.frame m ρ

/-- The reference's frame: it runs, and it has no semaphore. -/
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- No rule was applied. -/
theorem preserves : Cert.preserves_Kernel3_Kernel3Ideal := trivial

/-- The reference's result is the kernel's array, of equal arguments. -/
theorem ref_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (e0 : rF m' c = aF m c) (e1 : rFm m' c = aFm m c) (e2 : rA m' c = aA m c) (e3 : rAm m' c = aAm m c) (e4 : rG m' c = aG m c) (e5 : rH m' c = aH m c)
    (e6 : rWf m' c = aWf m c) (e7 : rWa m' c = aWa m c) (e8 : rWo m' c = aWo m c) (e9 : rLg m' c = aLg m c) (e10 : rLb m' c = aLb m c) :
    res m' c = G m c := by
  funext i
  have h := res_at m' c (i 0) (i 1)
  rw [e0, e1, e2, e3, e4, e5, e6, e7, e8, e9, e10] at h
  exact (congrArg (res m' c) (eq_ix2 i)).trans h

theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => G m c, ?_, ?_⟩
  · refine θ_run_mono (Cert.Kernel3Ideal.Value.run_blocks m g) fun r hr c => ?_
    exact ⟨(hr c).1.trans (final m c), (hr c).2.2.2⟩
  · refine θ_run_mono (Cert.Reference3Ideal.Value.run m' g') fun r hr c => ?_
    obtain ⟨a0, a1, a2, a3, a4, a5, a6, a7, a8, a9, a10, -, -⟩ := hagree c
    exact ⟨(hr c).1.trans ((res_eq m' c).trans (ref_eq m m' c a0 a1 a2 a3 a4 a5 a6 a7 a8 a9 a10)), (hr c).2⟩

end Cert.Proof.Post

end
-- ==== Proof.lean ====
/-
  The claims, assembled.
-/
module

public import proofs.«01_k».proof.Defs
public import proofs.«01_k».proof.Proof.Attn.Algebraic
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Moe.Algebraic
public import proofs.«01_k».proof.Proof.Post.Algebraic
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Proof.Attn.finite_facts, Cert.Proof.Moe.routed_facts,
  Cert.Proof.Attn.frame_kernel, Cert.Proof.Attn.frame_ideal, Cert.Proof.Attn.frame_ideal_finite, Cert.Proof.Attn.frame_reference,
  Cert.Proof.Attn.frame_reference_finite,
  Cert.Proof.Moe.frame_kernel, Cert.Proof.Moe.frame_ideal, Cert.Proof.Moe.frame_ideal_routed, Cert.Proof.Moe.frame_reference,
  Cert.Proof.Moe.frame_reference_routed,
  Cert.Proof.Post.frame_kernel, Cert.Proof.Post.frame_ideal, Cert.Proof.Post.frame_reference,
  Cert.Proof.Attn.preserves, Cert.Proof.Attn.algebraic, Cert.Proof.Moe.preserves, Cert.Proof.Moe.algebraic, Cert.Proof.Post.preserves,
  Cert.Proof.Post.algebraic⟩

end Cert.Proof

end
